-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_4)) (v5 : (c : Dev Cert.Kernel3Ideal.nD) → Buf (Elt Ideal) ((c.tc : Thread Cert.Kernel3Ideal.nD Cert.Kernel3Ideal.τ).loc Cert.Kernel3Ideal.main_v37_5)) (v6 : (c : Dev Cert.Kernel3Ideal.nD) → Buf (Elt Ideal) ((c.tc : Thread Cert.Kernel3Ideal.nD Cert.Kernel3Ideal.τ).loc Cert.Kernel3Ideal.main_v37_6)) (v7 : (c : Dev Cert.Kernel3Ideal.nD) → Buf (Elt Ideal) ((c.tc : Thread Cert.Kernel3Ideal.nD Cert.Kernel3Ideal.τ).loc Cert.Kernel3Ideal.main_v37_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_4) = v4 c
          ∧ r.2.mem ((c.tc : Thread Cert.Kernel3Ideal.nD Cert.Kernel3Ideal.τ).loc Cert.Kernel3Ideal.main_v37_5) = v5 c
          ∧ r.2.mem ((c.tc : Thread Cert.Kernel3Ideal.nD Cert.Kernel3Ideal.τ).loc Cert.Kernel3Ideal.main_v37_6) = v6 c
          ∧ r.2.mem ((c.tc : Thread Cert.Kernel3Ideal.nD Cert.Kernel3Ideal.τ).loc Cert.Kernel3Ideal.main_v37_8) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v83) = v2 c
          ∧ r.2.mem ((c.tc : Thread Cert.Reference3Ideal.nD Cert.Reference3Ideal.τ).loc Cert.Reference3Ideal.main_v89) = v3 c
          ∧ r.2.mem ((c.tc : Thread Cert.Reference3Ideal.nD Cert.Reference3Ideal.τ).loc Cert.Reference3Ideal.main_v90) = v4 c
          ∧ r.2.mem ((c.tc : Thread Cert.Reference3Ideal.nD Cert.Reference3Ideal.τ).loc Cert.Reference3Ideal.main_v92) = v5 c
          ∧ r.2.mem ((c.tc : Thread Cert.Reference3Ideal.nD Cert.Reference3Ideal.τ).loc Cert.Reference3Ideal.main_v99) = v6 c
          ∧ r.2.mem ((c.tc : Thread Cert.Reference3Ideal.nD Cert.Reference3Ideal.τ).loc Cert.Reference3Ideal.main_v100) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v37_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1 : Shape := ⟨1, ![1]⟩
abbrev S2x8192x16x64 : Shape := ⟨4, ![2, 8192, 16, 64]⟩
abbrev S2x8192x8x128 : Shape := ⟨4, ![2, 8192, 8, 128]⟩
abbrev S2x8192x1024 : Shape := ⟨3, ![2, 8192, 1024]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_

variable [Facts]

def fn_part1 {F : FTy → Type} [FloatOps F] (main_v13 : IVec S_ 1) (main_v16 : IVec S2x8192x8x128 1) : IVec S_ 1 :=
  let main_c_5 : IVec S_ 1 := constantI S_ 1 1#1
  let main_v17 : IVec S_ 1 := (fun x v => Host.reduce IntOp.andi x v reducesTo_S2x8192x8x128_S_d0_1_2_3 h_S_) main_v16 main_c_5
  let main_v18 : IVec S_ 1 := andi main_v13 main_v17
  main_v18

def fn {F : FTy → Type} [FloatOps F] (main_arg0 : FVec F S1 .f32) (main_arg1 : FVec F S2x8192x16x64 .f32) (main_arg2 : FVec F S2x8192x16x64 .f32) (main_arg3 : FVec F S2x8192x8x128 .f32) (main_arg4 : FVec F S2x8192x1024 .bf16) (main_arg5 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  let main_v9 : FVec F S2x8192x16x64 .f32 := Host.absf main_arg2
  let main_cst_2 : FVec F S_ .f32 := constant S_ .f32 0x7F800000#32
  let main_v10 : FVec F S2x8192x16x64 .f32 := broadcastInDim S2x8192x16x64 ![] bcast_S_S2x8192x16x64 main_cst_2
  let main_v11 : IVec S2x8192x16x64 1 := cmpf .olt main_v9 main_v10
  let main_c_3 : IVec S_ 1 := constantI S_ 1 1#1
  let main_v12 : IVec S_ 1 := (fun x v => Host.reduce IntOp.andi x v reducesTo_S2x8192x16x64_S_d0_1_2_3 h_S_) main_v11 main_c_3
  let main_v13 : IVec S_ 1 := andi main_v8 main_v12
  let main_v14 : FVec F S2x8192x8x128 .f32 := Host.absf main_arg3
  let main_cst_4 : FVec F S_ .f32 := constant S_ .f32 0x7F800000#32
  let main_v15 : FVec F S2x8192x8x128 .f32 := broadcastInDim S2x8192x8x128 ![] bcast_S_S2x8192x8x128 main_cst_4
  let main_v16 : IVec S2x8192x8x128 1 := cmpf .olt main_v14 main_v15
  fn_part1 (F := F) main_v13 main_v16
-- ==== Pre_finite4.lean ====
abbrev S2x8192x1024 : Shape := ⟨3, ![2, 8192, 1024]⟩
abbrev S1024x7168 : Shape := ⟨2, ![1024, 7168]⟩
abbrev S4x128x128 : Shape := ⟨3, ![4, 128, 128]⟩
abbrev S512 : Shape := ⟨1, ![512]⟩
abbrev S512x1024 : Shape := ⟨2, ![512, 1024]⟩
abbrev S_ : Shape := ⟨0, ![]⟩
abbrev S1024x512 : Shape := ⟨2, ![1024, 512]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  slices_S1024x7168_S1024x512_0_0 : S1024x7168.Slices ![0, 0] S1024x512
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S2x8192x1024 .f32) (main_arg1 : FVec F S1024x7168 .f32) (main_arg2 : FVec F S4x128x128 .f32) (main_arg3 : FVec F S512 .f32) (main_arg4 : FVec F S512x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1024x512 .f32 := (extractStridedSlice S1024x512 ![0, 0] · slices_S1024x7168_S1024x512_0_0) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_c_1 : IVec S_ 1 := constantI S_ 1 1#1
  let main_v8 : IVec S_ 1 := (fun x v => Host.reduce IntOp.andi x v reducesTo_S1024x512_S_d0_1 h_S_) main_v7 main_c_1
  let main_v9 : IVec S_ 1 := andi main_v3 main_v8
  main_v9
-- ==== Kernel.lean ====
abbrev S1 : Shape := ⟨1, ![1]⟩
abbrev S2x8192x16x64 : Shape := ⟨4, ![2, 8192, 16, 64]⟩
abbrev S2x8192x8x128 : Shape := ⟨4, ![2, 8192, 8, 128]⟩
abbrev S2x8192x1024 : Shape := ⟨3, ![2, 8192, 1024]⟩
abbrev S128 : Shape := ⟨1, ![128]⟩
abbrev S2x8x8192x128 : Shape := ⟨4, ![2, 8, 8192, 128]⟩
abbrev S2x32x256x8x128 : Shape := ⟨5, ![2, 32, 256, 8, 128]⟩
abbrev S2x8x32x128x256 : Shape := ⟨5, ![2, 8, 32, 128, 256]⟩
abbrev S1x1 : Shape := ⟨2, ![1, 1]⟩
abbrev S128x1 : Shape := ⟨2, ![128, 1]⟩
abbrev S1x4x512x128 : Shape := ⟨4, ![1, 4, 512, 128]⟩
abbrev S1x4x8192x128 : Shape := ⟨4, ![1, 4, 8192, 128]⟩
abbrev S1x4x32x128x256 : Shape := ⟨5, ![1, 4, 32, 128, 256]⟩
abbrev S1x512x512 : Shape := ⟨3, ![1, 512, 512]⟩
abbrev S4x128x1024 : Shape := ⟨3, ![4, 128, 1024]⟩
abbrev S512x128 : Shape := ⟨2, ![512, 128]⟩
abbrev S1x1x512x128 : Shape := ⟨4, ![1, 1, 512, 128]⟩
abbrev S1024x128 : Shape := ⟨2, ![1024, 128]⟩
abbrev S1x1024 : Shape := ⟨2, ![1, 1024]⟩
abbrev S1x1x1x128x256 : Shape := ⟨5, ![1, 1, 1, 128, 256]⟩
abbrev S128x256 : Shape := ⟨2, ![128, 256]⟩
abbrev S128x512 : Shape := ⟨2, ![128, 512]⟩
abbrev S512x1024 : Shape := ⟨2, ![512, 1024]⟩
abbrev S8x64x1024 : Shape := ⟨3, ![8, 64, 1024]⟩
abbrev S64x1024 : Shape := ⟨2, ![64, 1024]⟩
abbrev S1024 : Shape := ⟨1, ![1024]⟩
abbrev S128x1024 : Shape := ⟨2, ![128, 1024]⟩
abbrev S1x128x1024 : Shape := ⟨3, ![1, 128, 1024]⟩
abbrev S512 : Shape := ⟨1, ![512]⟩
abbrev S1x512 : Shape := ⟨2, ![1, 512]⟩
abbrev S1x512x128 : Shape := ⟨3, ![1, 512, 128]⟩

abbrev nBuf : Space → Nat
  | .hbm => 17
  | .vmem => 12
  | .smem => 1
  | _ => 0

abbrev bufTy : (tb : Table) → Fin (tcTables nBuf tb) → BufTy
  | .hbm, ⟨0, _⟩ => ⟨S1, .f32⟩
  | .hbm, ⟨1, _⟩ => ⟨S2x8192x16x64, .f32⟩
  | .hbm, ⟨2, _⟩ => ⟨S2x8192x16x64, .f32⟩
  | .hbm, ⟨3, _⟩ => ⟨S2x8192x8x128, .f32⟩
  | .hbm, ⟨4, _⟩ => ⟨S2x8192x1024, .bf16⟩
  | .hbm, ⟨5, _⟩ => ⟨S128, .f32⟩
  | .hbm, ⟨6, _⟩ => ⟨S2x8192x8x128, .f32⟩
  | .hbm, ⟨7, _⟩ => ⟨S2x8x8192x128, .f32⟩
  | .hbm, ⟨8, _⟩ => ⟨S2x8192x8x128, .f32⟩
  | .hbm, ⟨9, _⟩ => ⟨S2x8x8192x128, .f32⟩
  | .hbm, ⟨10, _⟩ => ⟨S2x8x8192x128, .bf16⟩
  | .hbm, ⟨11, _⟩ => ⟨S2x32x256x8x128, .f32⟩
  | .hbm, ⟨12, _⟩ => ⟨S2x8x32x128x256, .f32⟩
  | .hbm, ⟨13, _⟩ => ⟨S2x8x32x128x256, .bf16⟩
  | .hbm, ⟨14, _⟩ => ⟨S1x1, .f32⟩
  | .hbm, ⟨15, _⟩ => ⟨S128x1, .f32⟩
  | .hbm, ⟨16, _⟩ => ⟨S2x8192x1024, .bf16⟩
  | .local _ .vmem, ⟨0, _⟩ => ⟨S1x4x512x128, .f32⟩
  | .local _ .vmem, ⟨1, _⟩ => ⟨S1x4x512x128, .f32⟩
  | .local _ .vmem, ⟨2, _⟩ => ⟨S1x4x8192x128, .bf16⟩
  | .local _ .vmem, ⟨3, _⟩ => ⟨S1x4x8192x128, .bf16⟩
  | .local _ .vmem, ⟨4, _⟩ => ⟨S1x4x32x128x256, .bf16⟩
  | .local _ .vmem, ⟨5, _⟩ => ⟨S1x4x32x128x256, .bf16⟩
  | .local _ .vmem, ⟨6, _⟩ => ⟨S1x512x512, .bf16⟩
  | .local _ .vmem, ⟨7, _⟩ => ⟨S1x512x512, .bf16⟩
  | .local _ .vmem, ⟨8, _⟩ => ⟨S128x1, .f32⟩
  | .local _ .vmem, ⟨9, _⟩ => ⟨S1x512x512, .bf16⟩
  | .local _ .vmem, ⟨10, _⟩ => ⟨S1x512x512, .bf16⟩
  | .local _ .vmem, ⟨11, _⟩ => ⟨S4x128x1024, .f32⟩
  | .local _ .smem, ⟨0, _⟩ => ⟨S1x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_38 : BitVec 32 := 1#32
  ⟨c0_i32, v69, c1_i32_38⟩
def k0_mult1 (i : grid0.Coords) (k0_t1 : Fin (k0_t1_loop i).trips) : BitVec 32 :=
  let c0_i32 : BitVec 32 := 0#32
  let c1_i32_38 : BitVec 32 := 1#32
  let arg11 : BitVec 32 := Scf.iv c0_i32 c1_i32_38 k0_t1
  let c512_i32_225 : BitVec 32 := 512#32
  let v408 : BitVec 32 := Scalar.muli arg11 c512_i32_225
  v408
def k0_off1 (i : grid0.Coords) (k0_t1 : Fin (k0_t1_loop i).trips) : Fin 4 → Nat :=
  let c0_226 : Index := 0#32
  let c0_227 : Index := 0#32
  let c0_i32 : BitVec 32 := 0#32
  let c1_i32_38 : BitVec 32 := 1#32
  let arg11 : BitVec 32 := Scf.iv c0_i32 c1_i32_38 k0_t1
  let c512_i32_225 : BitVec 32 := 512#32
  let v408 : BitVec 32 := Scalar.muli arg11 c512_i32_225
  let v409 : BitVec 32 := v408
  let v410 : Index := Scalar.indexCast v409
  let c0_228 : Index := 0#32
  ![0, 0, v410.toNat, 0]
def k0_mult2 (i : grid0.Coords) (k0_t1 : Fin (k0_t1_loop i).trips) : BitVec 32 :=
  let c0_i32 : BitVec 32 := 0#32
  let c1_i32_38 : BitVec 32 := 1#32
  let arg11 : BitVec 32 := Scf.iv c0_i32 c1_i32_38 k0_t1
  let c512_i32_229 : BitVec 32 := 512#32
  let v413 : BitVec 32 := Scalar.muli arg11 c512_i32_229
  v413
def k0_off2 (i : grid0.Coords) (k0_t1 : Fin (k0_t1_loop i).trips) : Fin 4 → Nat :=
  let c0_230 : Index := 0#32
  let c1_231 : Index := 1#32
  let c0_i32 : BitVec 32 := 0#32
  let c1_i32_38 : BitVec 32 := 1#32
  let arg11 : BitVec 32 := Scf.iv c0_i32 c1_i32_38 k0_t1
  let c512_i32_229 : BitVec 32 := 512#32
  let v413 : BitVec 32 := Scalar.muli arg11 c512_i32_229
  let v414 : BitVec 32 := v413
  let v415 : Index := Scalar.indexCast v414
  let c0_232 : Index := 0#32
  ![0, 1, v415.toNat, 0]
def k0_mult3 (i : grid0.Coords) (k0_t1 : Fin (k0_t1_loop i).trips) : BitVec 32 :=
  let c0_i32 : BitVec 32 := 0#32
  let c1_i32_38 : BitVec 32 := 1#32
  let arg11 : BitVec 32 := Scf.iv c0_i32 c1_i32_38 k0_t1
  let c512_i32_233 : BitVec 32 := 512#32
  let v418 : BitVec 32 := Scalar.muli arg11 c512_i32_233
  v418
def k0_off3 (i : grid0.Coords) (k0_t1 : Fin (k0_t1_loop i).trips) : Fin 4 → Nat :=
  let c0_234 : Index := 0#32
  let c2_235 : Index := 2#32
  let c0_i32 : BitVec 32 := 0#32
  let c1_i32_38 : BitVec 32 := 1#32
  let arg11 : BitVec 32 := Scf.iv c0_i32 c1_i32_38 k0_t1
  let c512_i32_233 : BitVec 32 := 512#32
  let v418 : BitVec 32 := Scalar.muli arg11 c512_i32_233
  let v419 : BitVec 32 := v418
  let v420 : Index := Scalar.indexCast v419
  let c0_236 : Index := 0#32
  ![0, 2, v420.toNat, 0]
def k0_mult4 (i : grid0.Coords) (k0_t1 : Fin (k0_t1_loop i).trips) : BitVec 32 :=
  let c0_i32 : BitVec 32 := 0#32
  let c1_i32_38 : BitVec 32 := 1#32
  let arg11 : BitVec 32 := Scf.iv c0_i32 c1_i32_38 k0_t1
  let c512_i32_237 : BitVec 32 := 512#32
  let v423 : BitVec 32 := Scalar.muli arg11 c512_i32_237
  v423
def k0_off4 (i : grid0.Coords) (k0_t1 : Fin (k0_t1_loop i).trips) : Fin 4 → Nat :=
  let c0_238 : Index := 0#32
  let c3_239 : Index := 3#32
  let c0_i32 : BitVec 32 := 0#32
  let c1_i32_38 : BitVec 32 := 1#32
  let arg11 : BitVec 32 := Scf.iv c0_i32 c1_i32_38 k0_t1
  let c512_i32_237 : BitVec 32 := 512#32
  let v423 : BitVec 32 := Scalar.muli arg11 c512_i32_237
  let v424 : BitVec 32 := v423
  let v425 : Index := Scalar.indexCast v424
  let c0_240 : Index := 0#32
  ![0, 3, v425.toNat, 0]
def k0_off5 (i : grid0.Coords) (k0_t1 : Fin (k0_t1_loop i).trips) (c0_i32_242 : BitVec 32) : Fin 5 → Nat :=
  let c0_243 : Index := 0#32
  let c0_244 : Index := 0#32
  let c0_i32 : BitVec 32 := 0#32
  let c1_i32_38 : BitVec 32 := 1#32
  let arg11 : BitVec 32 := Scf.iv c0_i32 c1_i32_38 k0_t1
  let c2_i32_241 : BitVec 32 := 2#32
  let v428 : BitVec 32 := Scalar.muli arg11 c2_i32_241
  let v429 : BitVec 32 := Scalar.addi v428 c0_i32_242
  let v430 : Index := Scalar.indexCast v429
  let c0_245 : Index := 0#32
  let c0_246 : Index := 0#32
  ![0, 0, v430.toNat, 0, 0]
def k0_off6 (i : grid0.Coords) (k0_t1 : Fin (k0_t1_loop i).trips) (c0_i32_254 : BitVec 32) : Fin 5 → Nat :=
  let c0_255 : Index := 0#32
  let c1_256 : Index := 1#32
  let c0_i32 : BitVec 32 := 0#32
  let c1_i32_38 : BitVec 32 := 1#32
  let arg11 : BitVec 32 := Scf.iv c0_i32 c1_i32_38 k0_t1
  let c2_i32_253 : BitVec 32 := 2#32
  let v439 : BitVec 32 := Scalar.muli arg11 c2_i32_253
  let v440 : BitVec 32 := Scalar.addi v439 c0_i32_254
  let v441 : Index := Scalar.indexCast v440
  let c0_257 : Index := 0#32
  let c0_258 : Index := 0#32
  ![0, 1, v441.toNat, 0, 0]
def k0_off7 (i : grid0.Coords) (k0_t1 : Fin (k0_t1_loop i).trips) (c0_i32_266 : BitVec 32) : Fin 5 → Nat :=
  let c0_267 : Index := 0#32
  let c2_268 : Index := 2#32
  let c0_i32 : BitVec 32 := 0#32
  let c1_i32_38 : BitVec 32 := 1#32
  let arg11 : BitVec 32 := Scf.iv c0_i32 c1_i32_38 k0_t1
  let c2_i32_265 : BitVec 32 := 2#32
  let v450 : BitVec 32 := Scalar.muli arg11 c2_i32_265
  let v451 : BitVec 32 := Scalar.addi v450 c0_i32_266
  let v452 : Index := Scalar.indexCast v451
  let c0_269 : Index := 0#32
  let c0_270 : Index := 0#32
  ![0, 2, v452.toNat, 0, 0]
def k0_off8 (i : grid0.Coords) (k0_t1 : Fin (k0_t1_loop i).trips) (c0_i32_278 : BitVec 32) : Fin 5 → Nat :=
  let c0_279 : Index := 0#32
  let c3_280 : Index := 3#32
  let c0_i32 : BitVec 32 := 0#32
  let c1_i32_38 : BitVec 32 := 1#32
  let arg11 : BitVec 32 := Scf.iv c0_i32 c1_i32_38 k0_t1
  let c2_i32_277 : BitVec 32 := 2#32
  let v461 : BitVec 32 := Scalar.muli arg11 c2_i32_277
  let v462 : BitVec 32 := Scalar.addi v461 c0_i32_278
  let v463 : Index := Scalar.indexCast v462
  let c0_281 : Index := 0#32
  let c0_282 : Index := 0#32
  ![0, 3, v463.toNat, 0, 0]
@[reducible] def k0_t2_loop (i : grid0.Coords) : Scf.Loop 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let v66 : BitVec 32 := Scalar.addi c0_i32 v65
  let c1_i32_39 : BitVec 32 := 1#32
  ⟨v69, v66, c1_i32_39⟩
def k0_mult5 (i : grid0.Coords) (k0_t2 : Fin (k0_t2_loop i).trips) : BitVec 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_225 : BitVec 32 := 512#32
  let v408 : BitVec 32 := Scalar.muli arg11 c512_i32_225
  v408
def k0_off9 (i : grid0.Coords) (k0_t2 : Fin (k0_t2_loop i).trips) : Fin 4 → Nat :=
  let c0_226 : Index := 0#32
  let c0_227 : Index := 0#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_225 : BitVec 32 := 512#32
  let v408 : BitVec 32 := Scalar.muli arg11 c512_i32_225
  let v409 : BitVec 32 := v408
  let v410 : Index := Scalar.indexCast v409
  let c0_228 : Index := 0#32
  ![0, 0, v410.toNat, 0]
def k0_mult6 (i : grid0.Coords) (k0_t2 : Fin (k0_t2_loop i).trips) : BitVec 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_229 : BitVec 32 := 512#32
  let v413 : BitVec 32 := Scalar.muli arg11 c512_i32_229
  v413
def k0_off10 (i : grid0.Coords) (k0_t2 : Fin (k0_t2_loop i).trips) : Fin 4 → Nat :=
  let c0_230 : Index := 0#32
  let c1_231 : Index := 1#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_229 : BitVec 32 := 512#32
  let v413 : BitVec 32 := Scalar.muli arg11 c512_i32_229
  let v414 : BitVec 32 := v413
  let v415 : Index := Scalar.indexCast v414
  let c0_232 : Index := 0#32
  ![0, 1, v415.toNat, 0]
def k0_mult7 (i : grid0.Coords) (k0_t2 : Fin (k0_t2_loop i).trips) : BitVec 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_233 : BitVec 32 := 512#32
  let v418 : BitVec 32 := Scalar.muli arg11 c512_i32_233
  v418
def k0_off11 (i : grid0.Coords) (k0_t2 : Fin (k0_t2_loop i).trips) : Fin 4 → Nat :=
  let c0_234 : Index := 0#32
  let c2_235 : Index := 2#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_233 : BitVec 32 := 512#32
  let v418 : BitVec 32 := Scalar.muli arg11 c512_i32_233
  let v419 : BitVec 32 := v418
  let v420 : Index := Scalar.indexCast v419
  let c0_236 : Index := 0#32
  ![0, 2, v420.toNat, 0]
def k0_mult8 (i : grid0.Coords) (k0_t2 : Fin (k0_t2_loop i).trips) : BitVec 32 :=
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_237 : BitVec 32 := 512#32
  let v423 : BitVec 32 := Scalar.muli arg11 c512_i32_237
  v423
def k0_off12 (i : grid0.Coords) (k0_t2 : Fin (k0_t2_loop i).trips) : Fin 4 → Nat :=
  let c0_238 : Index := 0#32
  let c3_239 : Index := 3#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c512_i32_237 : BitVec 32 := 512#32
  let v423 : BitVec 32 := Scalar.muli arg11 c512_i32_237
  let v424 : BitVec 32 := v423
  let v425 : Index := Scalar.indexCast v424
  let c0_240 : Index := 0#32
  ![0, 3, v425.toNat, 0]
def k0_off13 (i : grid0.Coords) (k0_t2 : Fin (k0_t2_loop i).trips) (c0_i32_242 : BitVec 32) : Fin 5 → Nat :=
  let c0_243 : Index := 0#32
  let c0_244 : Index := 0#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c2_i32_241 : BitVec 32 := 2#32
  let v428 : BitVec 32 := Scalar.muli arg11 c2_i32_241
  let v429 : BitVec 32 := Scalar.addi v428 c0_i32_242
  let v430 : Index := Scalar.indexCast v429
  let c0_245 : Index := 0#32
  let c0_246 : Index := 0#32
  ![0, 0, v430.toNat, 0, 0]
def k0_off14 (i : grid0.Coords) (k0_t2 : Fin (k0_t2_loop i).trips) (c0_i32_254 : BitVec 32) : Fin 5 → Nat :=
  let c0_255 : Index := 0#32
  let c1_256 : Index := 1#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c2_i32_253 : BitVec 32 := 2#32
  let v439 : BitVec 32 := Scalar.muli arg11 c2_i32_253
  let v440 : BitVec 32 := Scalar.addi v439 c0_i32_254
  let v441 : Index := Scalar.indexCast v440
  let c0_257 : Index := 0#32
  let c0_258 : Index := 0#32
  ![0, 1, v441.toNat, 0, 0]
def k0_off15 (i : grid0.Coords) (k0_t2 : Fin (k0_t2_loop i).trips) (c0_i32_266 : BitVec 32) : Fin 5 → Nat :=
  let c0_267 : Index := 0#32
  let c2_268 : Index := 2#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c2_i32_265 : BitVec 32 := 2#32
  let v450 : BitVec 32 := Scalar.muli arg11 c2_i32_265
  let v451 : BitVec 32 := Scalar.addi v450 c0_i32_266
  let v452 : Index := Scalar.indexCast v451
  let c0_269 : Index := 0#32
  let c0_270 : Index := 0#32
  ![0, 2, v452.toNat, 0, 0]
def k0_off16 (i : grid0.Coords) (k0_t2 : Fin (k0_t2_loop i).trips) (c0_i32_278 : BitVec 32) : Fin 5 → Nat :=
  let c0_279 : Index := 0#32
  let c3_280 : Index := 3#32
  let c0_i32 : BitVec 32 := 0#32
  let arg2 : BitVec 32 := BitVec.ofNat 32 (i 2).val
  let v65 : BitVec 32 := Scalar.subi arg2 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_39 : BitVec 32 := 1#32
  let arg11 : BitVec 32 := Scf.iv v69 c1_i32_39 k0_t2
  let c2_i32_277 : BitVec 32 := 2#32
  let v461 : BitVec 32 := Scalar.muli arg11 c2_i32_277
  let v462 : BitVec 32 := Scalar.addi v461 c0_i32_278
  let v463 : Index := Scalar.indexCast v462
  let c0_281 : Index := 0#32
  let c0_282 : Index := 0#32
  ![0, 3, v463.toNat, 0, 0]
def k0_mult9 (i : grid0.Coords) : BitVec 32 :=
  let arg2 : BitVec 32 := BitVec.ofNat 32 (i 2).val
  let c512_i32_41 : BitVec 32 := 512#32
  let v80 : BitVec 32 := Scalar.muli arg2 c512_i32_41
  v80
def k0_off17 (i : grid0.Coords) : Fin 4 → Nat :=
  let c0_42 : Index := 0#32
  let c0_43 : Index := 0#32
  let arg2 : BitVec 32 := BitVec.ofNat 32 (i 2).val
  let c512_i32_41 : BitVec 32 := 512#32
  let v80 : BitVec 32 := Scalar.muli arg2 c512_i32_41
  let v81 : BitVec 32 := v80
  let v82 : Index := Scalar.indexCast v81
  let c0_44 : Index := 0#32
  ![0, 0, v82.toNat, 0]
def k0_mult10 (i : grid0.Coords) : BitVec 32 :=
  let arg2 : BitVec 32 := BitVec.ofNat 32 (i 2).val
  let c512_i32_45 : BitVec 32 := 512#32
  let v85 : BitVec 32 := Scalar.muli arg2 c512_i32_45
  v85
def k0_off18 (i : grid0.Coords) : Fin 4 → Nat :=
  let c0_46 : Index := 0#32
  let c1_47 : Index := 1#32
  let arg2 : BitVec 32 := BitVec.ofNat 32 (i 2).val
  let c512_i32_45 : BitVec 32 := 512#32
  let v85 : BitVec 32 := Scalar.muli arg2 c512_i32_45
  let v86 : BitVec 32 := v85
  let v87 : Index := Scalar.indexCast v86
  let c0_48 : Index := 0#32
  ![0, 1, v87.toNat, 0]
def k0_mult11 (i : grid0.Coords) : BitVec 32 :=
  let arg2 : BitVec 32 := BitVec.ofNat 32 (i 2).val
  let c512_i32_49 : BitVec 32 := 512#32
  let v90 : BitVec 32 := Scalar.muli arg2 c512_i32_49
  v90
def k0_off19 (i : grid0.Coords) : Fin 4 → Nat :=
  let c0_50 : Index := 0#32
  let c2_51 : Index := 2#32
  let arg2 : BitVec 32 := BitVec.ofNat 32 (i 2).val
  let c512_i32_49 : BitVec 32 := 512#32
  let v90 : BitVec 32 := Scalar.muli arg2 c512_i32_49
  let v91 : BitVec 32 := v90
  let v92 : Index := Scalar.indexCast v91
  let c0_52 : Index := 0#32
  ![0, 2, v92.toNat, 0]
def k0_mult12 (i : grid0.Coords) : BitVec 32 :=
  let arg2 : BitVec 32 := BitVec.ofNat 32 (i 2).val
  let c512_i32_53 : BitVec 32 := 512#32
  let v95 : BitVec 32 := Scalar.muli arg2 c512_i32_53
  v95
def k0_off20 (i : grid0.Coords) : Fin 4 → Nat :=
  let c0_54 : Index := 0#32
  let c3_55 : Index := 3#32
  let arg2 : BitVec 32 := BitVec.ofNat 32 (i 2).val
  let c512_i32_53 : BitVec 32 := 512#32
  let v95 : BitVec 32 := Scalar.muli arg2 c512_i32_53
  let v96 : BitVec 32 := v95
  let v97 : Index := Scalar.indexCast v96
  let c0_56 : Index := 0#32
  ![0, 3, v97.toNat, 0]
def k0_off21 (i : grid0.Coords) (c0_i32_57 : BitVec 32) : Fin 5 → Nat :=
  let c0_58 : Index := 0#32
  let c0_59 : Index := 0#32
  let arg2 : BitVec 32 := BitVec.ofNat 32 (i 2).val
  let c2_i32 : BitVec 32 := 2#32
  let v100 : BitVec 32 := Scalar.muli arg2 c2_i32
  let v101 : BitVec 32 := Scalar.addi v100 c0_i32_57
  let v102 : Index := Scalar.indexCast v101
  let c0_60 : Index := 0#32
  let c0_61 : Index := 0#32
  ![0, 0, v102.toNat, 0, 0]
def k0_off22 (i : grid0.Coords) (c0_i32_69 : BitVec 32) : Fin 5 → Nat :=
  let c0_70 : Index := 0#32
  let c1_71 : Index := 1#32
  let arg2 : BitVec 32 := BitVec.ofNat 32 (i 2).val
  let c2_i32_68 : BitVec 32 := 2#32
  let v111 : BitVec 32 := Scalar.muli arg2 c2_i32_68
  let v112 : BitVec 32 := Scalar.addi v111 c0_i32_69
  let v113 : Index := Scalar.indexCast v112
  let c0_72 : Index := 0#32
  let c0_73 : Index := 0#32
  ![0, 1, v113.toNat, 0, 0]
def k0_off23 (i : grid0.Coords) (c0_i32_81 : BitVec 32) : Fin 5 → Nat :=
  let c0_82 : Index := 0#32
  let c2_83 : Index := 2#32
  let arg2 : BitVec 32 := BitVec.ofNat 32 (i 2).val
  let c2_i32_80 : BitVec 32 := 2#32
  let v122 : BitVec 32 := Scalar.muli arg2 c2_i32_80
  let v123 : BitVec 32 := Scalar.addi v122 c0_i32_81
  let v124 : Index := Scalar.indexCast v123
  let c0_84 : Index := 0#32
  let c0_85 : Index := 0#32
  ![0, 2, v124.toNat, 0, 0]
def k0_off24 (i : grid0.Coords) (c0_i32_93 : BitVec 32) : Fin 5 → Nat :=
  let c0_94 : Index := 0#32
  let c3_95 : Index := 3#32
  let arg2 : BitVec 32 := BitVec.ofNat 32 (i 2).val
  let c2_i32_92 : BitVec 32 := 2#32
  let v133 : BitVec 32 := Scalar.muli arg2 c2_i32_92
  let v134 : BitVec 32 := Scalar.addi v133 c0_i32_93
  let v135 : Index := Scalar.indexCast v134
  let c0_96 : Index := 0#32
  let c0_97 : Index := 0#32
  ![0, 3, v135.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1 : Shape := ⟨1, ![1]⟩
abbrev S2x8192x16x64 : Shape := ⟨4, ![2, 8192, 16, 64]⟩
abbrev S2x8192x8x128 : Shape := ⟨4, ![2, 8192, 8, 128]⟩
abbrev S2x8192x1024 : Shape := ⟨3, ![2, 8192, 1024]⟩
abbrev S128 : Shape := ⟨1, ![128]⟩
abbrev S8192 : Shape := ⟨1, ![8192]⟩
abbrev S2x16x8192x8192 : Shape := ⟨4, ![2, 16, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S_ : Shape := ⟨0, ![]⟩
abbrev S2x16x8192 : Shape := ⟨3, ![2, 16, 8192]⟩
abbrev S2x16x8192x1 : Shape := ⟨4, ![2, 16, 8192, 1]⟩
abbrev S2x8x2x8192x8192 : Shape := ⟨5, ![2, 8, 2, 8192, 8192]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x8192x16x64, .f32⟩
  | .hbm, ⟨2, _⟩ => ⟨S2x8192x16x64, .f32⟩
  | .hbm, ⟨3, _⟩ => ⟨S2x8192x8x128, .f32⟩
  | .hbm, ⟨4, _⟩ => ⟨S2x8192x1024, .bf16⟩
  | .hbm, ⟨5, _⟩ => ⟨S128, .f32⟩
  | .hbm, ⟨6, _⟩ => ⟨S8192, .i32⟩
  | .hbm, ⟨7, _⟩ => ⟨S2x16x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x1x8192x8192, .i1⟩
  | .hbm, ⟨14, _⟩ => ⟨S_, .f32⟩
  | .hbm, ⟨15, _⟩ => ⟨S_, .f32⟩
  | .hbm, ⟨16, _⟩ => ⟨S2x16x8192x8192, .i1⟩
  | .hbm, ⟨17, _⟩ => ⟨S2x16x8192x8192, .f32⟩
  | .hbm, ⟨18, _⟩ => ⟨S2x16x8192x8192, .f32⟩
  | .hbm, ⟨19, _⟩ => ⟨S_, .f32⟩
  | .hbm, ⟨20, _⟩ => ⟨S2x16x8192, .f32⟩
  | .hbm, ⟨21, _⟩ => ⟨S_, .f32⟩
  | .hbm, ⟨22, _⟩ => ⟨S2x16x8192, .f32⟩
  | .hbm, ⟨23, _⟩ => ⟨S2x16x8192, .f32⟩
  | .hbm, ⟨24, _⟩ => ⟨S2x16x8192x1, .f32⟩
  | .hbm, ⟨25, _⟩ => ⟨S2x16x8192x8192, .f32⟩
  | .hbm, ⟨26, _⟩ => ⟨S2x16x8192x8192, .f32⟩
  | .hbm, ⟨27, _⟩ => ⟨S2x16x8192x8192, .f32⟩
  | .hbm, ⟨28, _⟩ => ⟨S_, .f32⟩
  | .hbm, ⟨29, _⟩ => ⟨S2x16x8192, .f32⟩
  | .hbm, ⟨30, _⟩ => ⟨S2x16x8192x1, .f32⟩
  | .hbm, ⟨31, _⟩ => ⟨S2x16x8192x8192, .f32⟩
  | .hbm, ⟨32, _⟩ => ⟨S2x16x8192x8192, .f32⟩
  | .hbm, ⟨33, _⟩ => ⟨S2x8x2x8192x8192, .f32⟩
  | .hbm, ⟨34, _⟩ => ⟨S2x8x1x8192x8192, .f32⟩
  | .hbm, ⟨35, _⟩ => ⟨S2x8x8192x8192, .f32⟩
  | .hbm, ⟨36, _⟩ => ⟨S_, .f32⟩
  | .hbm, ⟨37, _⟩ => ⟨S2x8x1x8192x8192, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x128x8192, .f32⟩
  | .hbm, ⟨43, _⟩ => ⟨S2x8192x8x128, .f32⟩
  | .hbm, ⟨44, _⟩ => ⟨S2x8192x8x128, .f32⟩
  | .hbm, ⟨45, _⟩ => ⟨S_, .f32⟩
  | .hbm, ⟨46, _⟩ => ⟨S2x8192x8, .f32⟩
  | .hbm, ⟨47, _⟩ => ⟨S2x8192x8x1, .f32⟩
  | .hbm, ⟨48, _⟩ => ⟨S_, .f32⟩
  | .hbm, ⟨49, _⟩ => ⟨S2x8192x8x1, .f32⟩
  | .hbm, ⟨50, _⟩ => ⟨S2x8192x8x1, .f32⟩
  | .hbm, ⟨51, _⟩ => ⟨S_, .f32⟩
  | .hbm, ⟨52, _⟩ => ⟨S2x8192x8x1, .f32⟩
  | .hbm, ⟨53, _⟩ => ⟨S2x8192x8x1, .f32⟩
  | .hbm, ⟨54, _⟩ => ⟨S2x8192x8x1, .f32⟩
  | .hbm, ⟨55, _⟩ => ⟨S2x8192x8x128, .f32⟩
  | .hbm, ⟨56, _⟩ => ⟨S2x8192x8x128, .f32⟩
  | .hbm, ⟨57, _⟩ => ⟨S1x1x1x128, .f32⟩
  | .hbm, ⟨58, _⟩ => ⟨S2x8192x8x128, .f32⟩
  | .hbm, ⟨59, _⟩ => ⟨S2x8192x8x128, .f32⟩
  | .hbm, ⟨60, _⟩ => ⟨S_, .f32⟩
  | .hbm, ⟨61, _⟩ => ⟨S2x8192x8x128, .f32⟩
  | .hbm, ⟨62, _⟩ => ⟨S2x8192x8x128, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .f32⟩
  | .hbm, ⟨3, _⟩ => ⟨S2x8192x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16384x1024, .bf16⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .f32⟩
  | .hbm, ⟨3, _⟩ => ⟨S2x8192x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x7168 : Shape := ⟨2, ![1024, 7168]⟩
abbrev S4x128x128 : Shape := ⟨3, ![4, 128, 128]⟩
abbrev S512 : Shape := ⟨1, ![512]⟩
abbrev S512x1024 : Shape := ⟨2, ![512, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1x512 : Shape := ⟨2, ![1, 512]⟩
abbrev S2x8x8192x128 : Shape := ⟨4, ![2, 8, 8192, 128]⟩
abbrev S2x8x32x128x256 : Shape := ⟨5, ![2, 8, 32, 128, 256]⟩
abbrev S2x16x512 : Shape := ⟨3, ![2, 16, 512]⟩
abbrev S1x256x1024 : Shape := ⟨3, ![1, 256, 1024]⟩
abbrev S256x128 : Shape := ⟨2, ![256, 128]⟩
abbrev S1x8x256x128 : Shape := ⟨4, ![1, 8, 256, 128]⟩
abbrev S1x8x1x128x256 : Shape := ⟨5, ![1, 8, 1, 128, 256]⟩
abbrev S1x16x512 : Shape := ⟨3, ![1, 16, 512]⟩
abbrev S288x512 : Shape := ⟨2, ![288, 512]⟩
abbrev S3x288x512 : Shape := ⟨3, ![3, 288, 512]⟩
abbrev S256x1024 : Shape := ⟨2, ![256, 1024]⟩
abbrev S1024x512 : Shape := ⟨2, ![1024, 512]⟩
abbrev S256x512 : Shape := ⟨2, ![256, 512]⟩
abbrev S32x512 : Shape := ⟨2, ![32, 512]⟩
abbrev S280x512 : Shape := ⟨2, ![280, 512]⟩
abbrev S1x280x512 : Shape := ⟨3, ![1, 280, 512]⟩
abbrev S1x272x384 : Shape := ⟨3, ![1, 272, 384]⟩
abbrev S272x384 : Shape := ⟨2, ![272, 384]⟩
abbrev S1x264x256 : Shape := ⟨3, ![1, 264, 256]⟩
abbrev S264x256 : Shape := ⟨2, ![264, 256]⟩
abbrev S1x256x128 : Shape := ⟨3, ![1, 256, 128]⟩
abbrev S16x512 : Shape := ⟨2, ![16, 512]⟩
abbrev S1x128x128 : Shape := ⟨3, ![1, 128, 128]⟩
abbrev S128x128 : Shape := ⟨2, ![128, 128]⟩
abbrev S1x128 : Shape := ⟨2, ![1, 128]⟩
abbrev S1024x1024 : Shape := ⟨2, ![1024, 1024]⟩
abbrev S1x1x256x128 : Shape := ⟨4, ![1, 1, 256, 128]⟩
abbrev S128x256 : Shape := ⟨2, ![128, 256]⟩
abbrev S1x1x1x128x256 : Shape := ⟨5, ![1, 1, 1, 128, 256]⟩

abbrev nBuf : Space → Nat
  | .hbm => 57
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S1024x7168, .f32⟩
  | .hbm, ⟨2, _⟩ => ⟨S4x128x128, .f32⟩
  | .hbm, ⟨3, _⟩ => ⟨S512, .f32⟩
  | .hbm, ⟨4, _⟩ => ⟨S512x1024, .f32⟩
  | .hbm, ⟨5, _⟩ => ⟨S8192, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1024x7168, .bf16⟩
  | .hbm, ⟨45, _⟩ => ⟨S4x128x128, .bf16⟩
  | .hbm, ⟨46, _⟩ => ⟨S1x512, .f32⟩
  | .hbm, ⟨47, _⟩ => ⟨S512x1024, .bf16⟩
  | .hbm, ⟨48, _⟩ => ⟨S2x8192x1024, .f32⟩
  | .hbm, ⟨49, _⟩ => ⟨S2x8192x1024, .f32⟩
  | .hbm, ⟨50, _⟩ => ⟨S2x8x8192x128, .f32⟩
  | .hbm, ⟨51, _⟩ => ⟨S2x8x8192x128, .bf16⟩
  | .hbm, ⟨52, _⟩ => ⟨S2x8x32x128x256, .bf16⟩
  | .hbm, ⟨53, _⟩ => ⟨S2x8192x1024, .bf16⟩
  | .hbm, ⟨54, _⟩ => ⟨S2x8192x1024, .bf16⟩
  | .hbm, ⟨55, _⟩ => ⟨S2x8192x1024, .f32⟩
  | .hbm, ⟨56, _⟩ => ⟨S2x16x512, .f32⟩
  | .local _ .vmem, ⟨0, _⟩ => ⟨S1x256x1024, .f32⟩
  | .local _ .vmem, ⟨1, _⟩ => ⟨S1x256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x7168, .bf16⟩
  | .local _ .vmem, ⟨9, _⟩ => ⟨S4x128x128, .bf16⟩
  | .local _ .vmem, ⟨10, _⟩ => ⟨S1x512, .f32⟩
  | .local _ .vmem, ⟨11, _⟩ => ⟨S512x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x8x256x128, .f32⟩
  | .local _ .vmem, ⟨17, _⟩ => ⟨S1x8x256x128, .f32⟩
  | .local _ .vmem, ⟨18, _⟩ => ⟨S1x8x256x128, .bf16⟩
  | .local _ .vmem, ⟨19, _⟩ => ⟨S1x8x256x128, .bf16⟩
  | .local _ .vmem, ⟨20, _⟩ => ⟨S1x8x1x128x256, .bf16⟩
  | .local _ .vmem, ⟨21, _⟩ => ⟨S1x8x1x128x256, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .f32⟩
  | .local _ .vmem, ⟨27, _⟩ => ⟨S1x256x1024, .f32⟩
  | .local _ .vmem, ⟨28, _⟩ => ⟨S1x16x512, .f32⟩
  | .local _ .vmem, ⟨29, _⟩ => ⟨S1x16x512, .f32⟩
  | .local _ .vmem, ⟨30, _⟩ => ⟨S288x512, .f32⟩
  | .local _ .vmem, ⟨31, _⟩ => ⟨S3x288x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev main_v37_4 : Ref sig .tc := ⟨.hbm, 52, rfl⟩
abbrev main_v37_5 : Ref sig .tc := ⟨.hbm, 53, rfl⟩
abbrev main_v37_6 : Ref sig .tc := ⟨.hbm, 54, rfl⟩
abbrev main_v37_7 : Ref sig .tc := ⟨.hbm, 55, rfl⟩
abbrev main_v37_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference3Ideal.lean ====
abbrev S2x8192x1024 : Shape := ⟨3, ![2, 8192, 1024]⟩
abbrev S1024x7168 : Shape := ⟨2, ![1024, 7168]⟩
abbrev S4x128x128 : Shape := ⟨3, ![4, 128, 128]⟩
abbrev S512 : Shape := ⟨1, ![512]⟩
abbrev S512x1024 : Shape := ⟨2, ![512, 1024]⟩
abbrev S8192 : Shape := ⟨1, ![8192]⟩
abbrev S2x8192x7168 : Shape := ⟨3, ![2, 8192, 7168]⟩
abbrev S2x8192x512 : Shape := ⟨3, ![2, 8192, 512]⟩
abbrev S2x8192x16x64 : Shape := ⟨4, ![2, 8192, 16, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x16x32 : Shape := ⟨4, ![2, 8192, 16, 32]⟩
abbrev S2x8192x8x128 : Shape := ⟨4, ![2, 8192, 8, 128]⟩
abbrev S2x8x8192x128 : Shape := ⟨4, ![2, 8, 8192, 128]⟩
abbrev S2x32x256x8x128 : Shape := ⟨5, ![2, 32, 256, 8, 128]⟩
abbrev S2x8x32x128x256 : Shape := ⟨5, ![2, 8, 32, 128, 256]⟩
abbrev S2x16x512 : Shape := ⟨3, ![2, 16, 512]⟩

abbrev nBuf : Space → Nat
  | .hbm => 127
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x7168, .f32⟩
  | .hbm, ⟨2, _⟩ => ⟨S4x128x128, .f32⟩
  | .hbm, ⟨3, _⟩ => ⟨S512, .f32⟩
  | .hbm, ⟨4, _⟩ => ⟨S512x1024, .f32⟩
  | .hbm, ⟨5, _⟩ => ⟨S8192, .i32⟩
  | .hbm, ⟨6, _⟩ => ⟨S2x8192x7168, .f32⟩
  | .hbm, ⟨7, _⟩ => ⟨S2x8192x512, .f32⟩
  | .hbm, ⟨8, _⟩ => ⟨S2x8192x512, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x16x64, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8192, .f32⟩
  | .hbm, ⟨33, _⟩ => ⟨S8192x1, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S1x8192x1x32, .f32⟩
  | .hbm, ⟨40, _⟩ => ⟨S8192x32, .f32⟩
  | .hbm, ⟨41, _⟩ => ⟨S1x8192x1x32, .f32⟩
  | .hbm, ⟨42, _⟩ => ⟨S2x8192x16x32, .f32⟩
  | .hbm, ⟨43, _⟩ => ⟨S2x8192x16x32, .f32⟩
  | .hbm, ⟨44, _⟩ => ⟨S2x8192x16x32, .f32⟩
  | .hbm, ⟨45, _⟩ => ⟨S2x8192x16x32, .f32⟩
  | .hbm, ⟨46, _⟩ => ⟨S2x8192x16x32, .f32⟩
  | .hbm, ⟨47, _⟩ => ⟨S2x8192x16x32, .f32⟩
  | .hbm, ⟨48, _⟩ => ⟨S2x8192x16x32, .f32⟩
  | .hbm, ⟨49, _⟩ => ⟨S2x8192x16x32, .f32⟩
  | .hbm, ⟨50, _⟩ => ⟨S2x8192x16x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S2x8192x16x64, .f32⟩
  | .hbm, ⟨55, _⟩ => ⟨S_, .f32⟩
  | .hbm, ⟨56, _⟩ => ⟨S2x8192x16x64, .f32⟩
  | .hbm, ⟨57, _⟩ => ⟨S2x8192x16x64, .f32⟩
  | .hbm, ⟨58, _⟩ => ⟨S2x8192x16x64, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S8192, .f32⟩
  | .hbm, ⟨76, _⟩ => ⟨S8192x1, .f32⟩
  | .hbm, ⟨77, _⟩ => ⟨S1x32, .f32⟩
  | .hbm, ⟨78, _⟩ => ⟨S8192x32, .f32⟩
  | .hbm, ⟨79, _⟩ => ⟨S8192x32, .f32⟩
  | .hbm, ⟨80, _⟩ => ⟨S8192x32, .f32⟩
  | .hbm, ⟨81, _⟩ => ⟨S8192x32, .f32⟩
  | .hbm, ⟨82, _⟩ => ⟨S1x8192x1x32, .f32⟩
  | .hbm, ⟨83, _⟩ => ⟨S8192x32, .f32⟩
  | .hbm, ⟨84, _⟩ => ⟨S1x8192x1x32, .f32⟩
  | .hbm, ⟨85, _⟩ => ⟨S2x8192x16x32, .f32⟩
  | .hbm, ⟨86, _⟩ => ⟨S2x8192x16x32, .f32⟩
  | .hbm, ⟨87, _⟩ => ⟨S2x8192x16x32, .f32⟩
  | .hbm, ⟨88, _⟩ => ⟨S2x8192x16x32, .f32⟩
  | .hbm, ⟨89, _⟩ => ⟨S2x8192x16x32, .f32⟩
  | .hbm, ⟨90, _⟩ => ⟨S2x8192x16x32, .f32⟩
  | .hbm, ⟨91, _⟩ => ⟨S2x8192x16x32, .f32⟩
  | .hbm, ⟨92, _⟩ => ⟨S2x8192x16x32, .f32⟩
  | .hbm, ⟨93, _⟩ => ⟨S2x8192x16x32, .f32⟩
  | .hbm, ⟨94, _⟩ => ⟨S2x8192x16x32, .f32⟩
  | .hbm, ⟨95, _⟩ => ⟨S2x8192x16x32, .f32⟩
  | .hbm, ⟨96, _⟩ => ⟨S2x8192x16x32, .f32⟩
  | .hbm, ⟨97, _⟩ => ⟨S2x8192x16x64, .f32⟩
  | .hbm, ⟨98, _⟩ => ⟨S2x8192x8x128, .f32⟩
  | .hbm, ⟨99, _⟩ => ⟨S2x8x8192x128, .f32⟩
  | .hbm, ⟨100, _⟩ => ⟨S2x8192x8x128, .f32⟩
  | .hbm, ⟨101, _⟩ => ⟨S2x8x8192x128, .f32⟩
  | .hbm, ⟨102, _⟩ => ⟨S2x32x256x8x128, .f32⟩
  | .hbm, ⟨103, _⟩ => ⟨S2x8x32x128x256, .f32⟩
  | .hbm, ⟨104, _⟩ => ⟨S2x8192x1024, .f32⟩
  | .hbm, ⟨105, _⟩ => ⟨S2x8x8192x128, .bf16⟩
  | .hbm, ⟨106, _⟩ => ⟨S2x8x32x128x256, .bf16⟩
  | .hbm, ⟨107, _⟩ => ⟨S2x8192x1024, .f32⟩
  | .hbm, ⟨108, _⟩ => ⟨S2x8192x1024, .f32⟩
  | .hbm, ⟨109, _⟩ => ⟨S_, .f32⟩
  | .hbm, ⟨110, _⟩ => ⟨S2x8192x1024, .f32⟩
  | .hbm, ⟨111, _⟩ => ⟨S2x8192x1024, .f32⟩
  | .hbm, ⟨112, _⟩ => ⟨S_, .f32⟩
  | .hbm, ⟨113, _⟩ => ⟨S2x8192x1024, .f32⟩
  | .hbm, ⟨114, _⟩ => ⟨S2x8192x1024, .f32⟩
  | .hbm, ⟨115, _⟩ => ⟨S2x8192x1024, .f32⟩
  | .hbm, ⟨116, _⟩ => ⟨S2x8192x1024, .bf16⟩
  | .hbm, ⟨117, _⟩ => ⟨S2x8192x1024, .f32⟩
  | .hbm, ⟨118, _⟩ => ⟨S2x8192x1024, .f32⟩
  | .hbm, ⟨119, _⟩ => ⟨S_, .f32⟩
  | .hbm, ⟨120, _⟩ => ⟨S2x8192x1024, .f32⟩
  | .hbm, ⟨121, _⟩ => ⟨S2x8192x1024, .f32⟩
  | .hbm, ⟨122, _⟩ => ⟨S_, .f32⟩
  | .hbm, ⟨123, _⟩ => ⟨S2x8192x1024, .f32⟩
  | .hbm, ⟨124, _⟩ => ⟨S2x8192x1024, .f32⟩
  | .hbm, ⟨125, _⟩ => ⟨S2x8192x1024, .bf16⟩
  | .hbm, ⟨126, _⟩ => ⟨S2x16x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_10 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x7168 : Shape := ⟨2, ![1024, 7168]⟩
abbrev S4x128x128 : Shape := ⟨3, ![4, 128, 128]⟩
abbrev S512 : Shape := ⟨1, ![512]⟩
abbrev S512x1024 : Shape := ⟨2, ![512, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1x512 : Shape := ⟨2, ![1, 512]⟩
abbrev S2x8x8192x128 : Shape := ⟨4, ![2, 8, 8192, 128]⟩
abbrev S2x8x32x128x256 : Shape := ⟨5, ![2, 8, 32, 128, 256]⟩
abbrev S2x16x512 : Shape := ⟨3, ![2, 16, 512]⟩
abbrev S1x256x1024 : Shape := ⟨3, ![1, 256, 1024]⟩
abbrev S256x128 : Shape := ⟨2, ![256, 128]⟩
abbrev S1x8x256x128 : Shape := ⟨4, ![1, 8, 256, 128]⟩
abbrev S1x8x1x128x256 : Shape := ⟨5, ![1, 8, 1, 128, 256]⟩
abbrev S1x16x512 : Shape := ⟨3, ![1, 16, 512]⟩
abbrev S288x512 : Shape := ⟨2, ![288, 512]⟩
abbrev S3x288x512 : Shape := ⟨3, ![3, 288, 512]⟩
abbrev S256x1024 : Shape := ⟨2, ![256, 1024]⟩
abbrev S1024x512 : Shape := ⟨2, ![1024, 512]⟩
abbrev S256x512 : Shape := ⟨2, ![256, 512]⟩
abbrev S32x512 : Shape := ⟨2, ![32, 512]⟩
abbrev S280x512 : Shape := ⟨2, ![280, 512]⟩
abbrev S1x280x512 : Shape := ⟨3, ![1, 280, 512]⟩
abbrev S1x272x384 : Shape := ⟨3, ![1, 272, 384]⟩
abbrev S272x384 : Shape := ⟨2, ![272, 384]⟩
abbrev S1x264x256 : Shape := ⟨3, ![1, 264, 256]⟩
abbrev S264x256 : Shape := ⟨2, ![264, 256]⟩
abbrev S1x256x128 : Shape := ⟨3, ![1, 256, 128]⟩
abbrev S16x512 : Shape := ⟨2, ![16, 512]⟩
abbrev S1x128x128 : Shape := ⟨3, ![1, 128, 128]⟩
abbrev S128x128 : Shape := ⟨2, ![128, 128]⟩
abbrev S1x128 : Shape := ⟨2, ![1, 128]⟩
abbrev S1024x1024 : Shape := ⟨2, ![1024, 1024]⟩
abbrev S1x1x256x128 : Shape := ⟨4, ![1, 1, 256, 128]⟩
abbrev S128x256 : Shape := ⟨2, ![128, 256]⟩
abbrev S1x1x1x128x256 : Shape := ⟨5, ![1, 1, 1, 128, 256]⟩

abbrev nBuf : Space → Nat
  | .hbm => 57
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S1024x7168, .f32⟩
  | .hbm, ⟨2, _⟩ => ⟨S4x128x128, .f32⟩
  | .hbm, ⟨3, _⟩ => ⟨S512, .f32⟩
  | .hbm, ⟨4, _⟩ => ⟨S512x1024, .f32⟩
  | .hbm, ⟨5, _⟩ => ⟨S8192, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1024x7168, .bf16⟩
  | .hbm, ⟨45, _⟩ => ⟨S4x128x128, .bf16⟩
  | .hbm, ⟨46, _⟩ => ⟨S1x512, .f32⟩
  | .hbm, ⟨47, _⟩ => ⟨S512x1024, .bf16⟩
  | .hbm, ⟨48, _⟩ => ⟨S2x8192x1024, .f32⟩
  | .hbm, ⟨49, _⟩ => ⟨S2x8192x1024, .f32⟩
  | .hbm, ⟨50, _⟩ => ⟨S2x8x8192x128, .f32⟩
  | .hbm, ⟨51, _⟩ => ⟨S2x8x8192x128, .bf16⟩
  | .hbm, ⟨52, _⟩ => ⟨S2x8x32x128x256, .bf16⟩
  | .hbm, ⟨53, _⟩ => ⟨S2x8192x1024, .bf16⟩
  | .hbm, ⟨54, _⟩ => ⟨S2x8192x1024, .bf16⟩
  | .hbm, ⟨55, _⟩ => ⟨S2x8192x1024, .f32⟩
  | .hbm, ⟨56, _⟩ => ⟨S2x16x512, .f32⟩
  | .local _ .vmem, ⟨0, _⟩ => ⟨S1x256x1024, .f32⟩
  | .local _ .vmem, ⟨1, _⟩ => ⟨S1x256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x7168, .bf16⟩
  | .local _ .vmem, ⟨9, _⟩ => ⟨S4x128x128, .bf16⟩
  | .local _ .vmem, ⟨10, _⟩ => ⟨S1x512, .f32⟩
  | .local _ .vmem, ⟨11, _⟩ => ⟨S512x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x8x256x128, .f32⟩
  | .local _ .vmem, ⟨17, _⟩ => ⟨S1x8x256x128, .f32⟩
  | .local _ .vmem, ⟨18, _⟩ => ⟨S1x8x256x128, .bf16⟩
  | .local _ .vmem, ⟨19, _⟩ => ⟨S1x8x256x128, .bf16⟩
  | .local _ .vmem, ⟨20, _⟩ => ⟨S1x8x1x128x256, .bf16⟩
  | .local _ .vmem, ⟨21, _⟩ => ⟨S1x8x1x128x256, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .f32⟩
  | .local _ .vmem, ⟨27, _⟩ => ⟨S1x256x1024, .f32⟩
  | .local _ .vmem, ⟨28, _⟩ => ⟨S1x16x512, .f32⟩
  | .local _ .vmem, ⟨29, _⟩ => ⟨S1x16x512, .f32⟩
  | .local _ .vmem, ⟨30, _⟩ => ⟨S288x512, .f32⟩
  | .local _ .vmem, ⟨31, _⟩ => ⟨S3x288x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev main_v37_4 : Ref sig .tc := ⟨.hbm, 52, rfl⟩
abbrev main_v37_5 : Ref sig .tc := ⟨.hbm, 53, rfl⟩
abbrev main_v37_6 : Ref sig .tc := ⟨.hbm, 54, rfl⟩
abbrev main_v37_7 : Ref sig .tc := ⟨.hbm, 55, rfl⟩
abbrev main_v37_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference4Ideal.lean ====
abbrev S2x8192x1024 : Shape := ⟨3, ![2, 8192, 1024]⟩
abbrev S1024x7168 : Shape := ⟨2, ![1024, 7168]⟩
abbrev S4x128x128 : Shape := ⟨3, ![4, 128, 128]⟩
abbrev S512 : Shape := ⟨1, ![512]⟩
abbrev S512x1024 : Shape := ⟨2, ![512, 1024]⟩
abbrev S8192 : Shape := ⟨1, ![8192]⟩
abbrev S2x8192x7168 : Shape := ⟨3, ![2, 8192, 7168]⟩
abbrev S2x8192x512 : Shape := ⟨3, ![2, 8192, 512]⟩
abbrev S_ : Shape := ⟨0, ![]⟩
abbrev S2x15x512 : Shape := ⟨3, ![2, 15, 512]⟩
abbrev S2x8207x512 : Shape := ⟨3, ![2, 8207, 512]⟩
abbrev S2x1x512 : Shape := ⟨3, ![2, 1, 512]⟩
abbrev S2x8208x512 : Shape := ⟨3, ![2, 8208, 512]⟩
abbrev S2x8192x128 : Shape := ⟨3, ![2, 8192, 128]⟩
abbrev S1x8192x1 : Shape := ⟨3, ![1, 8192, 1]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x7168, .f32⟩
  | .hbm, ⟨2, _⟩ => ⟨S4x128x128, .f32⟩
  | .hbm, ⟨3, _⟩ => ⟨S512, .f32⟩
  | .hbm, ⟨4, _⟩ => ⟨S512x1024, .f32⟩
  | .hbm, ⟨5, _⟩ => ⟨S8192, .i32⟩
  | .hbm, ⟨6, _⟩ => ⟨S2x8192x7168, .f32⟩
  | .hbm, ⟨7, _⟩ => ⟨S2x8192x512, .f32⟩
  | .hbm, ⟨8, _⟩ => ⟨S2x8192x512, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x15x512, .f32⟩
  | .hbm, ⟨17, _⟩ => ⟨S2x8207x512, .f32⟩
  | .hbm, ⟨18, _⟩ => ⟨S_, .f32⟩
  | .hbm, ⟨19, _⟩ => ⟨S_, .f32⟩
  | .hbm, ⟨20, _⟩ => ⟨S2x8207x512, .f32⟩
  | .hbm, ⟨21, _⟩ => ⟨S_, .f32⟩
  | .hbm, ⟨22, _⟩ => ⟨S2x1x512, .f32⟩
  | .hbm, ⟨23, _⟩ => ⟨S2x8208x512, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .f32⟩
  | .hbm, ⟨34, _⟩ => ⟨S1x8192x1, .f32⟩
  | .hbm, ⟨35, _⟩ => ⟨S2x8192x128, .f32⟩
  | .hbm, ⟨36, _⟩ => ⟨S2x8192x128, .f32⟩
  | .hbm, ⟨37, _⟩ => ⟨S2x8192x128, .f32⟩
  | .hbm, ⟨38, _⟩ => ⟨S2x8192x128, .f32⟩
  | .hbm, ⟨39, _⟩ => ⟨S2x8192x128, .f32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .f32⟩
  | .hbm, ⟨47, _⟩ => ⟨S1x8192x1, .f32⟩
  | .hbm, ⟨48, _⟩ => ⟨S2x8192x128, .f32⟩
  | .hbm, ⟨49, _⟩ => ⟨S2x8192x128, .f32⟩
  | .hbm, ⟨50, _⟩ => ⟨S2x8192x128, .f32⟩
  | .hbm, ⟨51, _⟩ => ⟨S2x8192x128, .f32⟩
  | .hbm, ⟨52, _⟩ => ⟨S2x8192x128, .f32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .f32⟩
  | .hbm, ⟨60, _⟩ => ⟨S1x8192x1, .f32⟩
  | .hbm, ⟨61, _⟩ => ⟨S2x8192x128, .f32⟩
  | .hbm, ⟨62, _⟩ => ⟨S2x8192x128, .f32⟩
  | .hbm, ⟨63, _⟩ => ⟨S2x8192x128, .f32⟩
  | .hbm, ⟨64, _⟩ => ⟨S2x8192x128, .f32⟩
  | .hbm, ⟨65, _⟩ => ⟨S2x8192x128, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S1x8192x1, .f32⟩
  | .hbm, ⟨74, _⟩ => ⟨S2x8192x128, .f32⟩
  | .hbm, ⟨75, _⟩ => ⟨S2x8192x128, .f32⟩
  | .hbm, ⟨76, _⟩ => ⟨S2x8192x512, .f32⟩
  | .hbm, ⟨77, _⟩ => ⟨S2x8192x512, .f32⟩
  | .hbm, ⟨78, _⟩ => ⟨S2x8192x4x128, .f32⟩
  | .hbm, ⟨79, _⟩ => ⟨S4x128x2x8192, .f32⟩
  | .hbm, ⟨80, _⟩ => ⟨S2x8192x4x128, .f32⟩
  | .hbm, ⟨81, _⟩ => ⟨S2x8192x512, .f32⟩
  | .hbm, ⟨82, _⟩ => ⟨S1x1x512, .f32⟩
  | .hbm, ⟨83, _⟩ => ⟨S2x8192x512, .f32⟩
  | .hbm, ⟨84, _⟩ => ⟨S2x8192x512, .f32⟩
  | .hbm, ⟨85, _⟩ => ⟨S2x8192x512, .f32⟩
  | .hbm, ⟨86, _⟩ => ⟨S2x8192x512, .f32⟩
  | .hbm, ⟨87, _⟩ => ⟨S_, .f32⟩
  | .hbm, ⟨88, _⟩ => ⟨S2x8192x512, .f32⟩
  | .hbm, ⟨89, _⟩ => ⟨S2x8192x512, .f32⟩
  | .hbm, ⟨90, _⟩ => ⟨S_, .f32⟩
  | .hbm, ⟨91, _⟩ => ⟨S2x8192x512, .f32⟩
  | .hbm, ⟨92, _⟩ => ⟨S2x8192x512, .f32⟩
  | .hbm, ⟨93, _⟩ => ⟨S2x8192x512, .f32⟩
  | .hbm, ⟨94, _⟩ => ⟨S2x8192x512, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S_, .f32⟩
  | .hbm, ⟨99, _⟩ => ⟨S2x8192x1024, .f32⟩
  | .hbm, ⟨100, _⟩ => ⟨S2x8192x1024, .f32⟩
  | .hbm, ⟨101, _⟩ => ⟨S_, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_call0_call0_cst : Ref sig .tc := ⟨.hbm, 18, rfl⟩
abbrev main_call0_call0_v0 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_6 : Ref sig .tc := ⟨.hbm, 66, rfl⟩
abbrev main_v51 : Ref sig .tc := ⟨.hbm, 67, rfl⟩
abbrev main_v52 : Ref sig .tc := ⟨.hbm, 68, rfl⟩
abbrev main_c_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_cst_9 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.Body.lean ====
/-
  The body's run at one grid point.
-/
module

public import proofs.«01_k».proof.Proof.Gen.KernelIdeal.Frame.Runs

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 1000000 in
/-- The pieces the body leaves in the output's staging buffer, last first, with the proof that the body's run leaves them:
    the inputs' buffers stay as they were, the scratch ends at some contents. -/
noncomputable def kernelRun0_A (c : Dev nD) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole)
    (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32) :
    { L6 : List (View.Piece (Elt F) S1x512x512 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K } := by
  refine ⟨?_, fun E K => ?run⟩
  case run =>
    simp only [cc0_attn_prompt_eq_skeleton]; unfold cc0_attn_prompt_skel
    simp only [k0_part19_eq_skeleton]; unfold k0_part19_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _, _; isplitr; swap; · iexact HS0
    ipureintro; rfl

end Cert.KernelIdeal.Att

end
-- ==== Proof.Frame.lean ====
/-
  What the kernel's output holds point by point, the run of the whole program, and its frame.
-/
module

public import proofs.«01_k».proof.Proof.Body
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- The run's pieces cover the output's block. -/
theorem cover0_A_6 (c : Dev nD) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole)
    (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32) (y : S1x512x512.Idx) :
    ∃ pc ∈ (kernelRun0_A c i arg3 harg3 arg4 harg4 arg5 harg5 arg6 harg6 arg7 harg7 arg8 harg8 arg9 harg9 arg10 harg10 x0 x1 x2 x3 x4 x5).1, y ∈ pc.1.set :=
  View.cover_of_tiledL (kernelRun0_A c i arg3 harg3 arg4 harg4 arg5 harg5 arg6 harg6 arg7 harg7 arg8 harg8 arg9 harg9 arg10 harg10 x0 x1 x2 x3 x4 x5).1 S1x512x128.size (by sl_kernel_rfl) y

/-- What the run leaves in the output's staging buffer. -/
def out0_A_6 (c : Dev nD) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole)
    (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32) : Vec F S1x512x512 .bf16 :=
  VO0_6.read (Elt F) (VO0_6.writes (Elt F) VO0_6.junk (kernelRun0_A c i arg3 harg3 arg4 harg4 arg5 harg5 arg6 harg6 arg7 harg7 arg8 harg8 arg9 harg9 arg10 harg10 x0 x1 x2 x3 x4 x5).1)

/-! ## What the outputs hold after each point -/

/-- What the output's buffer holds after point `t`. -/
def outsAt0 (c : Dev nD) (t : Fin cfg0.N) : Vec F S1x512x512 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)

/-! ## The pipeline's proof data -/

/-- The proof data: the arrays as the region finds them, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the contents at region entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_6
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _)

/-- The body at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, with every array of the pipeline at the end. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Att

end
-- ==== Proof.Blocks.lean ====
/-
  The run of the whole program with its result named, block by block.
-/
module

public import proofs.«01_k».proof.Proof.Frame
public import Idealize.ShloMosaic.Lib.Pipeline.Value

@[expose] public section

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back to the output. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- The same, at the point's buffers and blocks. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)) := by
  simp only [flushed6, outsAt0]

/-- Distinct grid points write distinct blocks. -/
theorem idx_inj6 : ∀ t t' : Fin cfg0.N, win0_6.index t = win0_6.index t' → t = t' :=
  (by decide +kernel : ∀ t t' : Fin grid0.N, win0_6.index t = win0_6.index t' → t = t')

/-- So two points' blocks share no index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array is what point `t` wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index no block covers keeps the contents at entry. -/
theorem entry6 (c : Dev nD) (i : S2x8192x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- The output array after the run. -/
theorem post6 (r : PUnit × MemSt nD τ sig (Elt F)) (h : Pipeline.FramePost cfgs (dats m) 0 (V m) r) (c : Dev nD) :
    r.2.mem ((c : Thread nD τ).loc main_v10) = (dats m 0 c).arrAt 6 cfg0.N :=
  (h c).1 6

/-- The argument ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The argument ends as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument ends as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The argument ends as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The argument ends as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The argument ends as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run with the output array named and the arguments unchanged. -/
theorem run_blocks : θ_run defs (onTc (τ := τ) (main (F := F))) ⟨m, fun _ => 0, ρ⟩ fun r => ∀ c : Dev nD,
      r.2.mem ((c : Thread nD τ).loc main_v10) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Att

end
-- ==== Proof.Trip.lean ====
/-
  One trip of the key loop: what it carries and what it stores, as one online-softmax step per unit.
-/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

variable {F : FTy → Type} [FloatOps F] [Named F]

/-- The scores of one tile of 512 keys against a unit's 1024 query columns. -/
def scores (w : FVec F S1024x128 .bf16) (kb : Vec F S1x1x512x128 .bf16) : FVec F S512x1024 .f32 :=
  matmul dot_S512x128_S1024x128_S512x1024_1_1_0_0_n_n none (shapeCast S512x128 kb shapeCasts_S1x1x512x128_S512x128) w (constant S512x1024 .f32 0x00000000#32)

/-- A tile's values, feature by key, from its two halves of 256 keys. -/
def vals (a b : Vec F S1x1x1x128x256 .bf16) : FVec F S128x512 .bf16 :=
  concatenate S128x512 1 [⟨S128x256, shapeCast S128x256 a shapeCasts_S1x1x1x128x256_S128x256⟩, ⟨S128x256, shapeCast S128x256 b shapeCasts_S1x1x1x128x256_S128x256⟩] concatenates_S128x256_S128x256_S128x512_d1

/-- The largest score of each column of a tile. -/
def colMax (s : FVec F S512x1024 .f32) : FVec F S1x1024 .f32 :=
  shapeCast S1x1024 (multiReduction .maximumf [0] S1024 (multiReduction .maximumf [0] S64x1024 (shapeCast S8x64x1024 s shapeCasts_S512x1024_S8x64x1024) 0xFF800000#32 reduces_S8x64x1024_S64x1024 (.inl rfl) rfl) 0xFF800000#32 reduces_S64x1024_S1024 (.inl rfl) rfl) shapeCasts_S1024_S1x1024

/-- The sum of each column of a tile. -/
def colSum (s : FVec F S512x1024 .f32) : FVec F S1x1024 .f32 :=
  shapeCast S1x1024 (multiReduction .add [0] S1024 (multiReduction .add [0] S64x1024 (shapeCast S8x64x1024 s shapeCasts_S512x1024_S8x64x1024) 0x00000000#32 reduces_S8x64x1024_S64x1024 (.inl rfl) rfl) 0x00000000#32 reduces_S64x1024_S1024 (.inl rfl) rfl) shapeCasts_S1024_S1x1024

/-- The running maximum after a tile. -/
def mNext (s : FVec F S512x1024 .f32) (m : FVec F S1x1024 .f32) : FVec F S1x1024 .f32 := maximumf m (colMax s)

/-- The factor by which what was accumulated before a tile is rescaled. -/
def alpha (s : FVec F S512x1024 .f32) (m : FVec F S1x1024 .f32) : FVec F S1x1024 .f32 := exp2 (subf m (mNext s m))

/-- The unnormalised weights of a tile. -/
def prob (s : FVec F S512x1024 .f32) (m : FVec F S1x1024 .f32) : FVec F S512x1024 .f32 :=
  exp2 (subf s (broadcastTo S512x1024 (mNext s m) broadcasts_S1x1024_S512x1024))

/-- The running sum of weights after a tile. -/
def lNext (s : FVec F S512x1024 .f32) (m l : FVec F S1x1024 .f32) : FVec F S1x1024 .f32 :=
  addf (mulf (alpha s m) l) (colSum (prob s m))

/-- The running weighted sum of values after a tile. -/
def aNext (s : FVec F S512x1024 .f32) (m : FVec F S1x1024 .f32) (v : FVec F S128x512 .bf16) (a : Vec F S1x128x1024 .f32) : FVec F S1x128x1024 .f32 :=
  shapeCast S1x128x1024 (addf (mulf (broadcastTo S128x1024 (alpha s m) broadcasts_S1x1024_S128x1024) (shapeCast S128x1024 a shapeCasts_S1x128x1024_S128x1024))
    (matmul dot_S128x512_S512x1024_S128x1024_1_0_0_1_n_n none v (truncf .bf16 (prob s m) bitsLt_bf16_f32) (constant S128x1024 .f32 0x00000000#32))) shapeCasts_S128x1024_S1x128x1024

variable (𝒱 : Variants) (c : Dev nD) (bd : Option 𝒱.V) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole)
/-- The carried maxima and sums after a trip. -/
theorem tripR_eq (arg2 : BitVec 32) (v13 v26 v39 v52 : FVec F S1024x128 .bf16) (v57 v58 v59 v60 v61 v62 v63 v64 : FVec F S1x1024 .f32) (c0_i32 v69 : BitVec 32) (X5 : BufTy.Contents (Elt F) arg5.view.ty) (X6 : BufTy.Contents (Elt F) arg6.view.ty) (k : Fin (k0_t1_loop i).trips) (acc) (f : BufTy.Contents (Elt F) arg10.view.ty) :
  tripR_k0_t1 𝒱 c bd i arg3 harg3 arg4 harg4 arg5 harg5 arg6 harg6 arg7 harg7 arg8 harg8 arg9 harg9 arg10 harg10 arg2 v13 v26 v39 v52 v57 v58 v59 v60 v61 v62 v63 v64 c0_i32 v69 X5 X6 k acc f = (
mNext (scores v13 (View.readAt (Elt F) arg5.view (Rect.unit (s := S1x4x8192x128) (k0_off1 i k) S1x1x512x128.size (k0_off1_inb i k)).toLoadRect X5)) acc.1,
    mNext (scores v26 (View.readAt (Elt F) arg5.view (Rect.unit (s := S1x4x8192x128) (k0_off2 i k) S1x1x512x128.size (k0_off2_inb i k)).toLoadRect X5)) acc.2.1,
    mNext (scores v39 (View.readAt (Elt F) arg5.view (Rect.unit (s := S1x4x8192x128) (k0_off3 i k) S1x1x512x128.size (k0_off3_inb i k)).toLoadRect X5)) acc.2.2.1,
    mNext (scores v52 (View.readAt (Elt F) arg5.view (Rect.unit (s := S1x4x8192x128) (k0_off4 i k) S1x1x512x128.size (k0_off4_inb i k)).toLoadRect X5)) acc.2.2.2.1,
    lNext (scores v13 (View.readAt (Elt F) arg5.view (Rect.unit (s := S1x4x8192x128) (k0_off1 i k) S1x1x512x128.size (k0_off1_inb i k)).toLoadRect X5)) acc.1 acc.2.2.2.2.1,
    lNext (scores v26 (View.readAt (Elt F) arg5.view (Rect.unit (s := S1x4x8192x128) (k0_off2 i k) S1x1x512x128.size (k0_off2_inb i k)).toLoadRect X5)) acc.2.1 acc.2.2.2.2.2.1,
    lNext (scores v39 (View.readAt (Elt F) arg5.view (Rect.unit (s := S1x4x8192x128) (k0_off3 i k) S1x1x512x128.size (k0_off3_inb i k)).toLoadRect X5)) acc.2.2.1 acc.2.2.2.2.2.2.1,
    lNext (scores v52 (View.readAt (Elt F) arg5.view (Rect.unit (s := S1x4x8192x128) (k0_off4 i k) S1x1x512x128.size (k0_off4_inb i k)).toLoadRect X5)) acc.2.2.2.1 acc.2.2.2.2.2.2.2) := by
  unfold tripR_k0_t1 trip_k0_t1
  rfl

/-- The pieces a trip stores into the accumulator. -/
theorem tripL_eq (arg2 : BitVec 32) (v13 v26 v39 v52 : FVec F S1024x128 .bf16) (v57 v58 v59 v60 v61 v62 v63 v64 : FVec F S1x1024 .f32) (c0_i32 v69 : BitVec 32) (X5 : BufTy.Contents (Elt F) arg5.view.ty) (X6 : BufTy.Contents (Elt F) arg6.view.ty) (k : Fin (k0_t1_loop i).trips) (acc) (f : BufTy.Contents (Elt F) arg10.view.ty) :
  tripL_k0_t1 𝒱 c bd i arg3 harg3 arg4 harg4 arg5 harg5 arg6 harg6 arg7 harg7 arg8 harg8 arg9 harg9 arg10 harg10 arg2 v13 v26 v39 v52 v57 v58 v59 v60 v61 v62 v63 v64 c0_i32 v69 X5 X6 k acc f = [
⟨(Rect.unit (s := S4x128x1024) ![3, 0, 0] S1x128x1024.size inb_S4x128x1024_S1x128x1024_3_0_0), aNext (scores v52 (View.readAt (Elt F) arg5.view (Rect.unit (s := S1x4x8192x128) (k0_off4 i k) S1x1x512x128.size (k0_off4_inb i k)).toLoadRect X5)) acc.2.2.2.1 (vals (View.readAt (Elt F) arg6.view (Rect.unit (s := S1x4x32x128x256) (k0_off8 i k 0#32) S1x1x1x128x256.size (k0_off8_inb i k 0)).toLoadRect X6) (View.readAt (Elt F) arg6.view (Rect.unit (s := S1x4x32x128x256) (k0_off8 i k 1#32) S1x1x1x128x256.size (k0_off8_inb i k 1)).toLoadRect X6)) (View.readAt (Elt F) arg10.view (Rect.unit (s := S4x128x1024) ![3, 0, 0] S1x128x1024.size inb_S4x128x1024_S1x128x1024_3_0_0).toLoadRect f)⟩,
    ⟨(Rect.unit (s := S4x128x1024) ![2, 0, 0] S1x128x1024.size inb_S4x128x1024_S1x128x1024_2_0_0), aNext (scores v39 (View.readAt (Elt F) arg5.view (Rect.unit (s := S1x4x8192x128) (k0_off3 i k) S1x1x512x128.size (k0_off3_inb i k)).toLoadRect X5)) acc.2.2.1 (vals (View.readAt (Elt F) arg6.view (Rect.unit (s := S1x4x32x128x256) (k0_off7 i k 0#32) S1x1x1x128x256.size (k0_off7_inb i k 0)).toLoadRect X6) (View.readAt (Elt F) arg6.view (Rect.unit (s := S1x4x32x128x256) (k0_off7 i k 1#32) S1x1x1x128x256.size (k0_off7_inb i k 1)).toLoadRect X6)) (View.readAt (Elt F) arg10.view (Rect.unit (s := S4x128x1024) ![2, 0, 0] S1x128x1024.size inb_S4x128x1024_S1x128x1024_2_0_0).toLoadRect f)⟩,
    ⟨(Rect.unit (s := S4x128x1024) ![1, 0, 0] S1x128x1024.size inb_S4x128x1024_S1x128x1024_1_0_0), aNext (scores v26 (View.readAt (Elt F) arg5.view (Rect.unit (s := S1x4x8192x128) (k0_off2 i k) S1x1x512x128.size (k0_off2_inb i k)).toLoadRect X5)) acc.2.1 (vals (View.readAt (Elt F) arg6.view (Rect.unit (s := S1x4x32x128x256) (k0_off6 i k 0#32) S1x1x1x128x256.size (k0_off6_inb i k 0)).toLoadRect X6) (View.readAt (Elt F) arg6.view (Rect.unit (s := S1x4x32x128x256) (k0_off6 i k 1#32) S1x1x1x128x256.size (k0_off6_inb i k 1)).toLoadRect X6)) (View.readAt (Elt F) arg10.view (Rect.unit (s := S4x128x1024) ![1, 0, 0] S1x128x1024.size inb_S4x128x1024_S1x128x1024_1_0_0).toLoadRect f)⟩,
    ⟨(Rect.unit (s := S4x128x1024) ![0, 0, 0] S1x128x1024.size inb_S4x128x1024_S1x128x1024_0_0_0), aNext (scores v13 (View.readAt (Elt F) arg5.view (Rect.unit (s := S1x4x8192x128) (k0_off1 i k) S1x1x512x128.size (k0_off1_inb i k)).toLoadRect X5)) acc.1 (vals (View.readAt (Elt F) arg6.view (Rect.unit (s := S1x4x32x128x256) (k0_off5 i k 0#32) S1x1x1x128x256.size (k0_off5_inb i k 0)).toLoadRect X6) (View.readAt (Elt F) arg6.view (Rect.unit (s := S1x4x32x128x256) (k0_off5 i k 1#32) S1x1x1x128x256.size (k0_off5_inb i k 1)).toLoadRect X6)) (View.readAt (Elt F) arg10.view (Rect.unit (s := S4x128x1024) ![0, 0, 0] S1x128x1024.size inb_S4x128x1024_S1x128x1024_0_0_0).toLoadRect f)⟩] := by
  unfold tripL_k0_t1 trip_k0_t1
  rfl
-- ==== Proof.Loop.lean ====
/-
  The loop over the key tiles before the diagonal one, unit by unit: what the loop carries and what the
  accumulator holds after each trip is one online-softmax recursion per unit.
-/
module

public import proofs.«01_k».proof.Proof.Trip
public import Idealize.ShloMosaic.Lib.WritesUnit
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

variable {F : FTy → Type} [FloatOps F] [Named F]

/-- The key tile `n` of unit `u`: keys `512 n` to `512 n + 511`. -/
def keyTile (x : Vec F S1x4x8192x128 .bf16) (u : Fin 4) (n : ℕ) : Vec F S1x1x512x128 .bf16 :=
  fun y => x (ix4 0 u ⟨(512 * n + (y 2).val) % 8192, Nat.mod_lt _ (by decide)⟩ (y 3))

/-- Half `h` of the values of tile `n` of unit `u`. -/
def valTile (x : Vec F S1x4x32x128x256 .bf16) (u : Fin 4) (n h : ℕ) : Vec F S1x1x1x128x256 .bf16 :=
  fun y => x (ix5 0 u ⟨(2 * n + h) % 32, Nat.mod_lt _ (by decide)⟩ (y 3) (y 4))

/-- The first loop makes one trip per tile before the diagonal. -/
theorem trips1 (i : grid0.Coords) : (k0_t1_loop i).trips = (i 2).val := by
  have h : ∀ j : Fin 16, Scf.trips 0#32 (Scalar.addi 0#32 (Scalar.muli (Scalar.divsi (Scalar.subi (BitVec.ofNat 32 j.val) 0#32) 1#32) 1#32)) 1#32 = j.val := by decide +kernel
  exact h (i 2)

/-- The second loop makes no trip. -/
theorem trips2 (i : grid0.Coords) : (k0_t2_loop i).trips = 0 := by
  have h : ∀ j : Fin 16, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by decide +kernel
  exact h (i 2)

/-- A trip's number is below 16. -/
theorem trip_lt (i : grid0.Coords) (k : Fin (k0_t1_loop i).trips) : k.val < 16 :=
  lt_trans (lt_of_lt_of_eq k.isLt (trips1 i)) (i 2).isLt

/-- The row a trip's key loads start from. -/
theorem row_word (k : ℕ) (hk : k < 16) : (Scalar.indexCast (Scalar.muli (Scf.iv 0#32 1#32 k) 512#32)).toNat = 512 * k := by
  have h : ∀ k : Fin 16, (Scalar.indexCast (Scalar.muli (Scf.iv 0#32 1#32 k.val) 512#32)).toNat = 512 * k.val := by decide +kernel
  exact h ⟨k, hk⟩

/-- The page a trip's value loads read. -/
theorem page_word (k : ℕ) (hk : k < 16) (r : Fin 2) :
    (Scalar.indexCast (Scalar.addi (Scalar.muli (Scf.iv 0#32 1#32 k) 2#32) (BitVec.ofNat 32 r.val))).toNat = 2 * k + r.val := by
  have h : ∀ (k : Fin 16) (r : Fin 2), (Scalar.indexCast (Scalar.addi (Scalar.muli (Scf.iv 0#32 1#32 k.val) 2#32) (BitVec.ofNat 32 r.val))).toNat = 2 * k.val + r.val := by decide +kernel
  exact h ⟨k, hk⟩ r

/-- The row the diagonal tile's key loads start from. -/
theorem row_word' (j : Fin 16) : (Scalar.indexCast (Scalar.muli (BitVec.ofNat 32 j.val) 512#32)).toNat = 512 * j.val := by
  revert j; decide +kernel

/-- The page the diagonal tile's value loads read. -/
theorem page_word' (j : Fin 16) (r : Fin 2) :
    (Scalar.indexCast (Scalar.addi (Scalar.muli (BitVec.ofNat 32 j.val) 2#32) (BitVec.ofNat 32 r.val))).toNat = 2 * j.val + r.val := by
  revert j r; decide +kernel

/-- A key load at row `512 n` of unit `u` reads that tile. -/
theorem read_key (m : Memref sig .tc .vmem S1x4x8192x128 .bf16) (hm : m.IsWhole) (x : Vec F S1x4x8192x128 .bf16) (u : Fin 4) (n : ℕ)
    (off : Fin 4 → ℕ) (inb : ∀ a, off a + S1x1x512x128.size a ≤ S1x4x8192x128.size a) (h : off = ![0, u.val, 512 * n, 0]) :
    View.readAt (Elt F) m.view (Rect.unit (s := S1x4x8192x128) off S1x1x512x128.size inb).toLoadRect (hm.unread x) = keyTile x u n := by
  subst h
  rw [View.readAt_eq_ld, hm.read_unread]
  funext y
  unfold keyTile
  refine View.ld_unit_apply_of x _ _ inb y _ ?_
  have h2 : 512 * n + 512 ≤ 8192 := inb 2
  have hy0 : (y 0).val < 1 := (y 0).isLt
  have hy1 : (y 1).val < 1 := (y 1).isLt
  have hy2 : (y 2).val < 512 := (y 2).isLt
  intro a
  match a with
  | ⟨0, _⟩ => show (0 : ℕ) = 0 + (y 0).val; omega
  | ⟨1, _⟩ => show u.val = u.val + (y 1).val; omega
  | ⟨2, _⟩ => show (512 * n + (y 2).val) % 8192 = 512 * n + (y 2).val; omega
  | ⟨3, _⟩ => show (y 3).val = 0 + (y 3).val; omega

/-- A value load of page `2 n + h` of unit `u` reads that half tile. -/
theorem read_val (m : Memref sig .tc .vmem S1x4x32x128x256 .bf16) (hm : m.IsWhole) (x : Vec F S1x4x32x128x256 .bf16) (u : Fin 4) (n h : ℕ)
    (off : Fin 5 → ℕ) (inb : ∀ a, off a + S1x1x1x128x256.size a ≤ S1x4x32x128x256.size a) (hoff : off = ![0, u.val, 2 * n + h, 0, 0]) :
    View.readAt (Elt F) m.view (Rect.unit (s := S1x4x32x128x256) off S1x1x1x128x256.size inb).toLoadRect (hm.unread x) = valTile x u n h := by
  subst hoff
  rw [View.readAt_eq_ld, hm.read_unread]
  funext y
  unfold valTile
  refine View.ld_unit_apply_of x _ _ inb y _ ?_
  have h2 : 2 * n + h + 1 ≤ 32 := inb 2
  have hy0 : (y 0).val < 1 := (y 0).isLt
  have hy1 : (y 1).val < 1 := (y 1).isLt
  have hy2 : (y 2).val < 1 := (y 2).isLt
  intro a
  match a with
  | ⟨0, _⟩ => show (0 : ℕ) = 0 + (y 0).val; omega
  | ⟨1, _⟩ => show u.val = u.val + (y 1).val; omega
  | ⟨2, _⟩ => show (2 * n + h) % 32 = 2 * n + h + (y 2).val; omega
  | ⟨3, _⟩ => show (y 3).val = 0 + (y 3).val; omega
  | ⟨4, _⟩ => show (y 4).val = 0 + (y 4).val; omega

/-- The slab of the accumulator that belongs to a unit. -/
abbrev slab0 : Rect S4x128x1024 := Rect.unit (s := S4x128x1024) ![0, 0, 0] S1x128x1024.size inb_S4x128x1024_S1x128x1024_0_0_0
abbrev slab1 : Rect S4x128x1024 := Rect.unit (s := S4x128x1024) ![1, 0, 0] S1x128x1024.size inb_S4x128x1024_S1x128x1024_1_0_0
abbrev slab2 : Rect S4x128x1024 := Rect.unit (s := S4x128x1024) ![2, 0, 0] S1x128x1024.size inb_S4x128x1024_S1x128x1024_2_0_0
abbrev slab3 : Rect S4x128x1024 := Rect.unit (s := S4x128x1024) ![3, 0, 0] S1x128x1024.size inb_S4x128x1024_S1x128x1024_3_0_0

/-- A load of slab `b` skips a store to another slab `a`. -/
theorem readAt_skip (v : View sig .tc .vmem S4x128x1024 .f32) (f : v.ty.Contents (Elt F)) (a b : ℕ) (hab : a ≠ b)
    (ia : ∀ x, (![a, 0, 0] : Fin 3 → ℕ) x + S1x128x1024.size x ≤ S4x128x1024.size x)
    (ib : ∀ x, (![b, 0, 0] : Fin 3 → ℕ) x + S1x128x1024.size x ≤ S4x128x1024.size x) (w) (L : List (View.Piece (Elt F) S4x128x1024 .f32)) :
    View.readAt (Elt F) v (Rect.unit (s := S4x128x1024) ![b, 0, 0] S1x128x1024.size ib).toLoadRect
        (v.writes (Elt F) f (⟨Rect.unit (s := S4x128x1024) ![a, 0, 0] S1x128x1024.size ia, w⟩ :: L))
      = View.readAt (Elt F) v (Rect.unit (s := S4x128x1024) ![b, 0, 0] S1x128x1024.size ib).toLoadRect (v.writes (Elt F) f L) := by
  rw [View.readAt_eq_ld, View.readAt_eq_ld]
  funext y
  rw [View.ld_apply, View.ld_apply]
  refine View.read_writes_cons_unit_of_not_mem v f ia w L _ rfl 0 ?_
  have h := Rect.idx_unit_val (s := S4x128x1024) ![b, 0, 0] S1x128x1024.size ib y 0
  have hy : (y 0).val < 1 := (y 0).isLt
  have : ((Rect.unit (s := S4x128x1024) ![b, 0, 0] S1x128x1024.size ib).idx y 0).val = b + (y 0).val := h
  show _ < a ∨ a + 1 ≤ _
  omega

/-- A load of a slab reads what was last stored to it. -/
theorem readAt_hit (v : View sig .tc .vmem S4x128x1024 .f32) (f : v.ty.Contents (Elt F)) (a : ℕ)
    (ia ib : ∀ x, (![a, 0, 0] : Fin 3 → ℕ) x + S1x128x1024.size x ≤ S4x128x1024.size x) (w) (L : List (View.Piece (Elt F) S4x128x1024 .f32)) :
    View.readAt (Elt F) v (Rect.unit (s := S4x128x1024) ![a, 0, 0] S1x128x1024.size ib).toLoadRect
        (v.writes (Elt F) f (⟨Rect.unit (s := S4x128x1024) ![a, 0, 0] S1x128x1024.size ia, w⟩ :: L))
      = w := by
  rw [View.readAt_eq_ld]
  funext y
  rw [View.ld_apply]
  exact View.read_writes_cons_unit_of_mem v f ia w L _ y rfl fun x => Rect.idx_unit_val (s := S4x128x1024) ![a, 0, 0] S1x128x1024.size ib y x

/-- What one unit carries: its running maximum, its running sum, its weighted values. -/
abbrev Acc (F : FTy → Type) [FloatOps F] := FVec F S1x1024 .f32 × FVec F S1x1024 .f32 × Vec F S1x128x1024 .f32

/-- One tile taken into what a unit carries. -/
def stepU (s : FVec F S512x1024 .f32) (v : FVec F S128x512 .bf16) (p : Acc F) : Acc F :=
  (mNext s p.1, lNext s p.1 p.2.1, aNext s p.1 v p.2.2)

/-- What a unit carries after its first `n` tiles. -/
def runU (w : FVec F S1024x128 .bf16) (x2 : Vec F S1x4x8192x128 .bf16) (x3 : Vec F S1x4x32x128x256 .bf16) (u : Fin 4) : ℕ → Acc F
  | 0 => (broadcast S1x1024 (Scalar.ofBits .f32 0xFF800000#32), broadcast S1x1024 (Scalar.ofBits .f32 0x00000000#32), broadcast S1x128x1024 (Scalar.ofBits .f32 0x00000000#32))
  | n + 1 => stepU (scores w (keyTile x2 u n)) (vals (valTile x3 u n 0) (valTile x3 u n 1)) (runU w x2 x3 u n)

/-- The offsets of unit 0's loads in a trip. -/
theorem koff0_eq (i : grid0.Coords) (k : Fin (k0_t1_loop i).trips) : k0_off1 i k = ![0, ((0 : Fin 4)).val, 512 * k.val, 0] := by
  have h := row_word k.val (trip_lt i k)
  show ![0, 0, (Scalar.indexCast (Scalar.muli (Scf.iv 0#32 1#32 k.val) 512#32)).toNat, 0] = _
  rw [h]; rfl
theorem voff0_eq (i : grid0.Coords) (k : Fin (k0_t1_loop i).trips) (r : Fin 2) : k0_off5 i k (BitVec.ofNat 32 r.val) = ![0, ((0 : Fin 4)).val, 2 * k.val + r.val, 0, 0] := by
  have h := page_word k.val (trip_lt i k) r
  show ![0, 0, (Scalar.indexCast (Scalar.addi (Scalar.muli (Scf.iv 0#32 1#32 k.val) 2#32) (BitVec.ofNat 32 r.val))).toNat, 0, 0] = _
  rw [h]; rfl
/-- The offsets of unit 0's loads at the diagonal. -/
theorem kdoff0_eq (i : grid0.Coords) : k0_off17 i = ![0, ((0 : Fin 4)).val, 512 * (i 2).val, 0] := by
  have h := row_word' (i 2)
  show ![0, 0, (Scalar.indexCast (Scalar.muli (BitVec.ofNat 32 (i 2).val) 512#32)).toNat, 0] = _
  rw [h]; rfl
theorem vdoff0_eq (i : grid0.Coords) (r : Fin 2) : k0_off21 i (BitVec.ofNat 32 r.val) = ![0, ((0 : Fin 4)).val, 2 * (i 2).val + r.val, 0, 0] := by
  have h := page_word' (i 2) r
  show ![0, 0, (Scalar.indexCast (Scalar.addi (Scalar.muli (BitVec.ofNat 32 (i 2).val) 2#32) (BitVec.ofNat 32 r.val))).toNat, 0, 0] = _
  rw [h]; rfl
/-- The offsets of unit 1's loads in a trip. -/
theorem koff1_eq (i : grid0.Coords) (k : Fin (k0_t1_loop i).trips) : k0_off2 i k = ![0, ((1 : Fin 4)).val, 512 * k.val, 0] := by
  have h := row_word k.val (trip_lt i k)
  show ![0, 1, (Scalar.indexCast (Scalar.muli (Scf.iv 0#32 1#32 k.val) 512#32)).toNat, 0] = _
  rw [h]; rfl
theorem voff1_eq (i : grid0.Coords) (k : Fin (k0_t1_loop i).trips) (r : Fin 2) : k0_off6 i k (BitVec.ofNat 32 r.val) = ![0, ((1 : Fin 4)).val, 2 * k.val + r.val, 0, 0] := by
  have h := page_word k.val (trip_lt i k) r
  show ![0, 1, (Scalar.indexCast (Scalar.addi (Scalar.muli (Scf.iv 0#32 1#32 k.val) 2#32) (BitVec.ofNat 32 r.val))).toNat, 0, 0] = _
  rw [h]; rfl
/-- The offsets of unit 1's loads at the diagonal. -/
theorem kdoff1_eq (i : grid0.Coords) : k0_off18 i = ![0, ((1 : Fin 4)).val, 512 * (i 2).val, 0] := by
  have h := row_word' (i 2)
  show ![0, 1, (Scalar.indexCast (Scalar.muli (BitVec.ofNat 32 (i 2).val) 512#32)).toNat, 0] = _
  rw [h]; rfl
theorem vdoff1_eq (i : grid0.Coords) (r : Fin 2) : k0_off22 i (BitVec.ofNat 32 r.val) = ![0, ((1 : Fin 4)).val, 2 * (i 2).val + r.val, 0, 0] := by
  have h := page_word' (i 2) r
  show ![0, 1, (Scalar.indexCast (Scalar.addi (Scalar.muli (BitVec.ofNat 32 (i 2).val) 2#32) (BitVec.ofNat 32 r.val))).toNat, 0, 0] = _
  rw [h]; rfl
/-- The offsets of unit 2's loads in a trip. -/
theorem koff2_eq (i : grid0.Coords) (k : Fin (k0_t1_loop i).trips) : k0_off3 i k = ![0, ((2 : Fin 4)).val, 512 * k.val, 0] := by
  have h := row_word k.val (trip_lt i k)
  show ![0, 2, (Scalar.indexCast (Scalar.muli (Scf.iv 0#32 1#32 k.val) 512#32)).toNat, 0] = _
  rw [h]; rfl
theorem voff2_eq (i : grid0.Coords) (k : Fin (k0_t1_loop i).trips) (r : Fin 2) : k0_off7 i k (BitVec.ofNat 32 r.val) = ![0, ((2 : Fin 4)).val, 2 * k.val + r.val, 0, 0] := by
  have h := page_word k.val (trip_lt i k) r
  show ![0, 2, (Scalar.indexCast (Scalar.addi (Scalar.muli (Scf.iv 0#32 1#32 k.val) 2#32) (BitVec.ofNat 32 r.val))).toNat, 0, 0] = _
  rw [h]; rfl
/-- The offsets of unit 2's loads at the diagonal. -/
theorem kdoff2_eq (i : grid0.Coords) : k0_off19 i = ![0, ((2 : Fin 4)).val, 512 * (i 2).val, 0] := by
  have h := row_word' (i 2)
  show ![0, 2, (Scalar.indexCast (Scalar.muli (BitVec.ofNat 32 (i 2).val) 512#32)).toNat, 0] = _
  rw [h]; rfl
theorem vdoff2_eq (i : grid0.Coords) (r : Fin 2) : k0_off23 i (BitVec.ofNat 32 r.val) = ![0, ((2 : Fin 4)).val, 2 * (i 2).val + r.val, 0, 0] := by
  have h := page_word' (i 2) r
  show ![0, 2, (Scalar.indexCast (Scalar.addi (Scalar.muli (BitVec.ofNat 32 (i 2).val) 2#32) (BitVec.ofNat 32 r.val))).toNat, 0, 0] = _
  rw [h]; rfl
/-- The offsets of unit 3's loads in a trip. -/
theorem koff3_eq (i : grid0.Coords) (k : Fin (k0_t1_loop i).trips) : k0_off4 i k = ![0, ((3 : Fin 4)).val, 512 * k.val, 0] := by
  have h := row_word k.val (trip_lt i k)
  show ![0, 3, (Scalar.indexCast (Scalar.muli (Scf.iv 0#32 1#32 k.val) 512#32)).toNat, 0] = _
  rw [h]; rfl
theorem voff3_eq (i : grid0.Coords) (k : Fin (k0_t1_loop i).trips) (r : Fin 2) : k0_off8 i k (BitVec.ofNat 32 r.val) = ![0, ((3 : Fin 4)).val, 2 * k.val + r.val, 0, 0] := by
  have h := page_word k.val (trip_lt i k) r
  show ![0, 3, (Scalar.indexCast (Scalar.addi (Scalar.muli (Scf.iv 0#32 1#32 k.val) 2#32) (BitVec.ofNat 32 r.val))).toNat, 0, 0] = _
  rw [h]; rfl
/-- The offsets of unit 3's loads at the diagonal. -/
theorem kdoff3_eq (i : grid0.Coords) : k0_off20 i = ![0, ((3 : Fin 4)).val, 512 * (i 2).val, 0] := by
  have h := row_word' (i 2)
  show ![0, 3, (Scalar.indexCast (Scalar.muli (BitVec.ofNat 32 (i 2).val) 512#32)).toNat, 0] = _
  rw [h]; rfl
theorem vdoff3_eq (i : grid0.Coords) (r : Fin 2) : k0_off24 i (BitVec.ofNat 32 r.val) = ![0, ((3 : Fin 4)).val, 2 * (i 2).val + r.val, 0, 0] := by
  have h := page_word' (i 2) r
  show ![0, 3, (Scalar.indexCast (Scalar.addi (Scalar.muli (BitVec.ofNat 32 (i 2).val) 2#32) (BitVec.ofNat 32 r.val))).toNat, 0, 0] = _
  rw [h]; rfl

section Loop
variable (𝒱 : Variants) (c : Dev nD) (bd : Option 𝒱.V) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole)

/-- What the loop carries and what the accumulator holds after `n` trips, unit by unit. -/
theorem loop_state (arg2 : BitVec 32) (v13 v26 v39 v52 : FVec F S1024x128 .bf16) (v57 v58 v59 v60 v61 v62 v63 v64 : FVec F S1x1024 .f32) (c0_i32 v69 : BitVec 32)
    (x2 : Vec F S1x4x8192x128 .bf16) (x3 : Vec F S1x4x32x128x256 .bf16) (G : BufTy.Contents (Elt F) arg10.view.ty)
    (init : FVec F S1x1024 .f32 × FVec F S1x1024 .f32 × FVec F S1x1024 .f32 × FVec F S1x1024 .f32 × FVec F S1x1024 .f32 × FVec F S1x1024 .f32 × FVec F S1x1024 .f32 × FVec F S1x1024 .f32)
    (hinit : init = (k0_pay66, k0_pay67, k0_pay68, k0_pay69, k0_pay70, k0_pay71, k0_pay72, k0_pay73))
    (hG0 : View.readAt (Elt F) arg10.view slab0.toLoadRect G = broadcast S1x128x1024 (Scalar.ofBits .f32 0x00000000#32))
    (hG1 : View.readAt (Elt F) arg10.view slab1.toLoadRect G = broadcast S1x128x1024 (Scalar.ofBits .f32 0x00000000#32))
    (hG2 : View.readAt (Elt F) arg10.view slab2.toLoadRect G = broadcast S1x128x1024 (Scalar.ofBits .f32 0x00000000#32))
    (hG3 : View.readAt (Elt F) arg10.view slab3.toLoadRect G = broadcast S1x128x1024 (Scalar.ofBits .f32 0x00000000#32)) (n : ℕ) (hn : n ≤ (k0_t1_loop i).trips) :
      (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.1 = (runU v13 x2 x3 0 n).1 ∧ (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.2.2.1 = (runU v13 x2 x3 0 n).2.1 ∧ View.readAt (Elt F) arg10.view slab0.toLoadRect (arg10.view.writes (Elt F) G (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).2) = (runU v13 x2 x3 0 n).2.2 ∧
      (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.1 = (runU v26 x2 x3 1 n).1 ∧ (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.2.2.2.1 = (runU v26 x2 x3 1 n).2.1 ∧ View.readAt (Elt F) arg10.view slab1.toLoadRect (arg10.view.writes (Elt F) G (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).2) = (runU v26 x2 x3 1 n).2.2 ∧
      (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.1 = (runU v39 x2 x3 2 n).1 ∧ (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.2.2.2.2.1 = (runU v39 x2 x3 2 n).2.1 ∧ View.readAt (Elt F) arg10.view slab2.toLoadRect (arg10.view.writes (Elt F) G (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).2) = (runU v39 x2 x3 2 n).2.2 ∧
      (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.2.1 = (runU v52 x2 x3 3 n).1 ∧ (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).1.2.2.2.2.2.2.2 = (runU v52 x2 x3 3 n).2.1 ∧ View.readAt (Elt F) arg10.view slab3.toLoadRect (arg10.view.writes (Elt F) G (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n).2) = (runU v52 x2 x3 3 n).2.2 := by
  induction n with
  | zero =>
    subst hinit
    exact ⟨rfl, rfl, hG0, rfl, rfl, hG1, rfl, rfl, hG2, rfl, rfl, hG3⟩
  | succ n ih =>
    obtain ⟨a0, b0, c0, a1, b1, c1, a2, b2, c2, a3, b3, c3⟩ := ih (by omega)
    have e := st_k0_t1_succ (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init ⟨n, by omega⟩
    generalize (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init n) = S at a0 b0 c0 a1 b1 c1 a2 b2 c2 a3 b3 c3 e
    rw [tripR_eq, tripL_eq] at e
    replace e : (st_k0_t1 (F := F) 𝒱 c bd i arg3 harg3 arg4 harg4 arg5 harg5 arg6 harg6 arg7 harg7 arg8 harg8 arg9 harg9 arg10 harg10 arg2 v13 v26 v39 v52 v57 v58 v59 v60 v61 v62 v63 v64 c0_i32 v69 (harg5.unread x2) (harg6.unread x3) G init (n + 1)) = _ := e
    rw [e]
    have q0 := fun r => read_val arg6 harg6 x3 0 n r.val _ (k0_off5_inb i ⟨n, by omega⟩ r) (voff0_eq i ⟨n, by omega⟩ r)
    have q1 := fun r => read_val arg6 harg6 x3 1 n r.val _ (k0_off6_inb i ⟨n, by omega⟩ r) (voff1_eq i ⟨n, by omega⟩ r)
    have q2 := fun r => read_val arg6 harg6 x3 2 n r.val _ (k0_off7_inb i ⟨n, by omega⟩ r) (voff2_eq i ⟨n, by omega⟩ r)
    have q3 := fun r => read_val arg6 harg6 x3 3 n r.val _ (k0_off8_inb i ⟨n, by omega⟩ r) (voff3_eq i ⟨n, by omega⟩ r)
    have p0 := read_key arg5 harg5 x2 0 n _ (k0_off1_inb i ⟨n, by omega⟩) (koff0_eq i ⟨n, by omega⟩)
    have p1 := read_key arg5 harg5 x2 1 n _ (k0_off2_inb i ⟨n, by omega⟩) (koff1_eq i ⟨n, by omega⟩)
    have p2 := read_key arg5 harg5 x2 2 n _ (k0_off3_inb i ⟨n, by omega⟩) (koff2_eq i ⟨n, by omega⟩)
    have p3 := read_key arg5 harg5 x2 3 n _ (k0_off4_inb i ⟨n, by omega⟩) (koff3_eq i ⟨n, by omega⟩)
    have q00 := q0 0; have q01 := q0 1; have q10 := q1 0; have q11 := q1 1
    have q20 := q2 0; have q21 := q2 1; have q30 := q3 0; have q31 := q3 1
    have r0 : (BitVec.ofNat 32 ((0 : Fin 2)).val) = 0#32 := rfl
    have r1 : (BitVec.ofNat 32 ((1 : Fin 2)).val) = 1#32 := rfl
    clear q0 q1 q2 q3
    dsimp only
    refine ⟨?_, ?_, ?_, ?_, ?_, ?_, ?_, ?_, ?_, ?_, ?_, ?_⟩
    · rw [p0, a0]; rfl
    · rw [p0, a0, b0]; rfl
    · refine (readAt_skip arg10.view _ 3 0 (by decide) _ _ _ _).trans ((readAt_skip arg10.view _ 2 0 (by decide) _ _ _ _).trans ((readAt_skip arg10.view _ 1 0 (by decide) _ _ _ _).trans ((readAt_hit arg10.view _ 0 _ _ _ _).trans ?_)))
      rw [p0, a0, c0]; erw [q00, q01]; rfl
    · rw [p1, a1]; rfl
    · rw [p1, a1, b1]; rfl
    · refine (readAt_skip arg10.view _ 3 1 (by decide) _ _ _ _).trans ((readAt_skip arg10.view _ 2 1 (by decide) _ _ _ _).trans ((readAt_hit arg10.view _ 1 _ _ _ _).trans ?_))
      rw [p1, a1, c1]; erw [q10, q11]; rfl
    · rw [p2, a2]; rfl
    · rw [p2, a2, b2]; rfl
    · refine (readAt_skip arg10.view _ 3 2 (by decide) _ _ _ _).trans ((readAt_hit arg10.view _ 2 _ _ _ _).trans ?_)
      rw [p2, a2, c2]; erw [q20, q21]; rfl
    · rw [p3, a3]; rfl
    · rw [p3, a3, b3]; rfl
    · refine (readAt_hit arg10.view _ 3 _ _ _ _).trans ?_
      rw [p3, a3, c3]; erw [q30, q31]; rfl

end Loop

end Cert.KernelIdeal.Att
-- ==== Proof.RunEq.lean ====
/-
  The kernel's body at a grid point: its four output pieces, one per unit, in terms of the per-unit recursion.
-/
module

public import proofs.«01_k».proof.Proof.Loop

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

variable {F : FTy → Type} [FloatOps F] [Named F]

/-- The diagonal tile's scores: a key after the query is masked to minus infinity. -/
def masked (s : FVec F S512x1024 .f32) : FVec F S512x1024 .f32 :=
  select k0_pay86 s (broadcast S512x1024 (Scalar.ofBits .f32 0xFF800000#32))

section Run
variable (c : Dev nD) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole) (w : BitVec 32)
  (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32)

/-- The state after the first loop. -/
def T1 : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32) :=
  st_k0_t1 (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 0#32 w (harg5.unread x2) (harg6.unread x3)
    (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) (k0_pay66, k0_pay67, k0_pay68, k0_pay69, k0_pay70, k0_pay71, k0_pay72, k0_pay73)
    (Scf.trips (k0_t1_loop i).lb (k0_t1_loop i).ub (k0_t1_loop i).st)

/-- The state after the second loop. -/
def T2 (w1 w2 : BitVec 32) (G : BufTy.Contents (Elt F) arg10.view.ty) : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32) :=
  st_k0_t2 (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 w1 w2 (harg5.unread x2) (harg6.unread x3)
    G (T1 c i arg3 harg3 arg4 harg4 arg5 harg5 arg6 harg6 arg7 harg7 arg8 harg8 arg9 harg9 arg10 harg10 w x1 x2 x3).1
    (Scf.trips (k0_t2_loop i).lb (k0_t2_loop i).ub (k0_t2_loop i).st)

/-- The second loop leaves the state as it is. -/
theorem T2_eq (w1 w2 : BitVec 32) (G : BufTy.Contents (Elt F) arg10.view.ty) : T2 c i arg3 harg3 arg4 harg4 arg5 harg5 arg6 harg6 arg7 harg7 arg8 harg8 arg9 harg9 arg10 harg10 w x1 x2 x3 w1 w2 G = ((T1 c i arg3 harg3 arg4 harg4 arg5 harg5 arg6 harg6 arg7 harg7 arg8 harg8 arg9 harg9 arg10 harg10 w x1 x2 x3).1, []) := by
  unfold T2
  have h : Scf.trips (k0_t2_loop i).lb (k0_t2_loop i).ub (k0_t2_loop i).st = 0 := trips2 i
  rw [h]; rfl

/-- Unit 0's sum after the diagonal tile. -/
def dL0 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : FVec F S1x1024 .f32 := lNext (masked (scores (k0_pay58 (View.readAt (Elt F) arg4.view (Rect.unit (s := S1x4x512x128) ![0, 0, 0, 0] S1x1x512x128.size inb_S1x4x512x128_S1x1x512x128_0_0_0_0).toLoadRect (harg4.unread x1))) (View.readAt (Elt F) arg5.view (Rect.unit (s := S1x4x8192x128) (k0_off17 i) S1x1x512x128.size (k0_off17_inb i)).toLoadRect (harg5.unread x2)))) T.1.1 T.1.2.2.2.2.1
/-- Unit 0's weighted values after the diagonal tile. -/
def dA0 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : Vec F S1x128x1024 .f32 :=
  aNext (masked (scores (k0_pay58 (View.readAt (Elt F) arg4.view (Rect.unit (s := S1x4x512x128) ![0, 0, 0, 0] S1x1x512x128.size inb_S1x4x512x128_S1x1x512x128_0_0_0_0).toLoadRect (harg4.unread x1))) (View.readAt (Elt F) arg5.view (Rect.unit (s := S1x4x8192x128) (k0_off17 i) S1x1x512x128.size (k0_off17_inb i)).toLoadRect (harg5.unread x2)))) T.1.1 (vals (View.readAt (Elt F) arg6.view (Rect.unit (s := S1x4x32x128x256) (k0_off21 i 0#32) S1x1x1x128x256.size (k0_off21_inb i 0)).toLoadRect (harg6.unread x3)) (View.readAt (Elt F) arg6.view (Rect.unit (s := S1x4x32x128x256) (k0_off21 i 1#32) S1x1x1x128x256.size (k0_off21_inb i 1)).toLoadRect (harg6.unread x3))) (arg10.view.readCov (Val := Elt F) ((T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab0.toLoadRect)

/-- Unit 1's sum after the diagonal tile. -/
def dL1 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : FVec F S1x1024 .f32 := lNext (masked (scores (k0_pay59 (View.readAt (Elt F) arg4.view (Rect.unit (s := S1x4x512x128) ![0, 1, 0, 0] S1x1x512x128.size inb_S1x4x512x128_S1x1x512x128_0_1_0_0).toLoadRect (harg4.unread x1))) (View.readAt (Elt F) arg5.view (Rect.unit (s := S1x4x8192x128) (k0_off18 i) S1x1x512x128.size (k0_off18_inb i)).toLoadRect (harg5.unread x2)))) T.1.2.1 T.1.2.2.2.2.2.1
/-- Unit 1's weighted values after the diagonal tile. -/
def dA1 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : Vec F S1x128x1024 .f32 :=
  aNext (masked (scores (k0_pay59 (View.readAt (Elt F) arg4.view (Rect.unit (s := S1x4x512x128) ![0, 1, 0, 0] S1x1x512x128.size inb_S1x4x512x128_S1x1x512x128_0_1_0_0).toLoadRect (harg4.unread x1))) (View.readAt (Elt F) arg5.view (Rect.unit (s := S1x4x8192x128) (k0_off18 i) S1x1x512x128.size (k0_off18_inb i)).toLoadRect (harg5.unread x2)))) T.1.2.1 (vals (View.readAt (Elt F) arg6.view (Rect.unit (s := S1x4x32x128x256) (k0_off22 i 0#32) S1x1x1x128x256.size (k0_off22_inb i 0)).toLoadRect (harg6.unread x3)) (View.readAt (Elt F) arg6.view (Rect.unit (s := S1x4x32x128x256) (k0_off22 i 1#32) S1x1x1x128x256.size (k0_off22_inb i 1)).toLoadRect (harg6.unread x3))) (arg10.view.readCov (Val := Elt F) (⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab1.toLoadRect)

/-- Unit 2's sum after the diagonal tile. -/
def dL2 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : FVec F S1x1024 .f32 := lNext (masked (scores (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (View.readAt (Elt F) arg5.view (Rect.unit (s := S1x4x8192x128) (k0_off19 i) S1x1x512x128.size (k0_off19_inb i)).toLoadRect (harg5.unread x2)))) T.1.2.2.1 T.1.2.2.2.2.2.2.1
/-- Unit 2's weighted values after the diagonal tile. -/
def dA2 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : Vec F S1x128x1024 .f32 :=
  aNext (masked (scores (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (View.readAt (Elt F) arg5.view (Rect.unit (s := S1x4x8192x128) (k0_off19 i) S1x1x512x128.size (k0_off19_inb i)).toLoadRect (harg5.unread x2)))) T.1.2.2.1 (vals (View.readAt (Elt F) arg6.view (Rect.unit (s := S1x4x32x128x256) (k0_off23 i 0#32) S1x1x1x128x256.size (k0_off23_inb i 0)).toLoadRect (harg6.unread x3)) (View.readAt (Elt F) arg6.view (Rect.unit (s := S1x4x32x128x256) (k0_off23 i 1#32) S1x1x1x128x256.size (k0_off23_inb i 1)).toLoadRect (harg6.unread x3))) (arg10.view.readCov (Val := Elt F) (⟨slab1, dA1 c i arg3 harg3 arg4 harg4 arg5 harg5 arg6 harg6 arg7 harg7 arg8 harg8 arg9 harg9 arg10 harg10 w x1 x2 x3 T⟩ :: ⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab2.toLoadRect)

/-- Unit 3's sum after the diagonal tile. -/
def dL3 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : FVec F S1x1024 .f32 := lNext (masked (scores (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) (View.readAt (Elt F) arg5.view (Rect.unit (s := S1x4x8192x128) (k0_off20 i) S1x1x512x128.size (k0_off20_inb i)).toLoadRect (harg5.unread x2)))) T.1.2.2.2.1 T.1.2.2.2.2.2.2.2
/-- Unit 3's weighted values after the diagonal tile. -/
def dA3 (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : Vec F S1x128x1024 .f32 :=
  aNext (masked (scores (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) (View.readAt (Elt F) arg5.view (Rect.unit (s := S1x4x8192x128) (k0_off20 i) S1x1x512x128.size (k0_off20_inb i)).toLoadRect (harg5.unread x2)))) T.1.2.2.2.1 (vals (View.readAt (Elt F) arg6.view (Rect.unit (s := S1x4x32x128x256) (k0_off24 i 0#32) S1x1x1x128x256.size (k0_off24_inb i 0)).toLoadRect (harg6.unread x3)) (View.readAt (Elt F) arg6.view (Rect.unit (s := S1x4x32x128x256) (k0_off24 i 1#32) S1x1x1x128x256.size (k0_off24_inb i 1)).toLoadRect (harg6.unread x3))) (arg10.view.readCov (Val := Elt F) (⟨slab2, dA2 c i arg3 harg3 arg4 harg4 arg5 harg5 arg6 harg6 arg7 harg7 arg8 harg8 arg9 harg9 arg10 harg10 w x1 x2 x3 T⟩ :: ⟨slab1, dA1 c i arg3 harg3 arg4 harg4 arg5 harg5 arg6 harg6 arg7 harg7 arg8 harg8 arg9 harg9 arg10 harg10 w x1 x2 x3 T⟩ :: ⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab3.toLoadRect)

/-- Everything stored into the accumulator, last first. -/
def dAll (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : List (View.Piece (Elt F) S4x128x1024 .f32) := (⟨slab3, dA3 c i arg3 harg3 arg4 harg4 arg5 harg5 arg6 harg6 arg7 harg7 arg8 harg8 arg9 harg9 arg10 harg10 w x1 x2 x3 T⟩ :: ⟨slab2, dA2 c i arg3 harg3 arg4 harg4 arg5 harg5 arg6 harg6 arg7 harg7 arg8 harg8 arg9 harg9 arg10 harg10 w x1 x2 x3 T⟩ :: ⟨slab1, dA1 c i arg3 harg3 arg4 harg4 arg5 harg5 arg6 harg6 arg7 harg7 arg8 harg8 arg9 harg9 arg10 harg10 w x1 x2 x3 T⟩ :: ⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32)))))

/-- The four output pieces. -/
def pieces (T : (FVec F S1x1024 .f32 × FVec F S1x1024 .f32 × FVec F S1x1024 .f32 × FVec F S1x1024 .f32 × FVec F S1x1024 .f32 × FVec F S1x1024 .f32 × FVec F S1x1024 .f32 × FVec F S1x1024 .f32) × List (View.Piece (Elt F) S4x128x1024 .f32)) : List (View.Piece (Elt F) S1x512x512 .bf16) :=
     [⟨Rect.unit (s := S1x512x512) ![0, 0, 384] S1x512x128.size inb_S1x512x512_S1x512x128_0_0_384, k0_pay1 (k0_pay131 (dL3 i arg4 harg4 arg5 harg5 x1 x2 T) (arg10.view.readCov (Val := Elt F) (dAll c i arg3 harg3 arg4 harg4 arg5 harg5 arg6 harg6 arg7 harg7 arg8 harg8 arg9 harg9 arg10 harg10 w x1 x2 x3 T) slab3.toLoadRect) (View.readAt (Elt F) arg3.view (Rect.unit (s := S1x1) ![0, 0] S1x1.size inb_S1x1_S1x1_0_0).toLoadRect (harg3.unread x0) (Shape.Idx.first (by decide))) (View.readAt (Elt F) arg8.view (Rect.unit (s := S128x1) ![0, 0] S128x1.size inb_S128x1_S128x1_0_0).toLoadRect (harg8.unread x5)) (View.readAt (Elt F) arg7.view (Rect.unit (s := S1x512x512) ![0, 0, 384] S1x512x128.size inb_S1x512x512_S1x512x128_0_0_384).toLoadRect (harg7.unread x4)))⟩,
      ⟨Rect.unit (s := S1x512x512) ![0, 0, 256] S1x512x128.size inb_S1x512x512_S1x512x128_0_0_256, k0_pay130 (k0_pay129 (dL2 i arg4 harg4 arg5 harg5 x1 x2 T) (arg10.view.readCov (Val := Elt F) (dAll c i arg3 harg3 arg4 harg4 arg5 harg5 arg6 harg6 arg7 harg7 arg8 harg8 arg9 harg9 arg10 harg10 w x1 x2 x3 T) slab2.toLoadRect) (View.readAt (Elt F) arg3.view (Rect.unit (s := S1x1) ![0, 0] S1x1.size inb_S1x1_S1x1_0_0).toLoadRect (harg3.unread x0) (Shape.Idx.first (by decide))) (View.readAt (Elt F) arg8.view (Rect.unit (s := S128x1) ![0, 0] S128x1.size inb_S128x1_S128x1_0_0).toLoadRect (harg8.unread x5)) (View.readAt (Elt F) arg7.view (Rect.unit (s := S1x512x512) ![0, 0, 256] S1x512x128.size inb_S1x512x512_S1x512x128_0_0_256).toLoadRect (harg7.unread x4)))⟩,
      ⟨Rect.unit (s := S1x512x512) ![0, 0, 128] S1x512x128.size inb_S1x512x512_S1x512x128_0_0_128, k0_pay128 (k0_pay127 (dL1 i arg4 harg4 arg5 harg5 x1 x2 T) (arg10.view.readCov (Val := Elt F) (dAll c i arg3 harg3 arg4 harg4 arg5 harg5 arg6 harg6 arg7 harg7 arg8 harg8 arg9 harg9 arg10 harg10 w x1 x2 x3 T) slab1.toLoadRect) (View.readAt (Elt F) arg3.view (Rect.unit (s := S1x1) ![0, 0] S1x1.size inb_S1x1_S1x1_0_0).toLoadRect (harg3.unread x0) (Shape.Idx.first (by decide))) (View.readAt (Elt F) arg8.view (Rect.unit (s := S128x1) ![0, 0] S128x1.size inb_S128x1_S128x1_0_0).toLoadRect (harg8.unread x5)) (View.readAt (Elt F) arg7.view (Rect.unit (s := S1x512x512) ![0, 0, 128] S1x512x128.size inb_S1x512x512_S1x512x128_0_0_128).toLoadRect (harg7.unread x4)))⟩,
      ⟨Rect.unit (s := S1x512x512) ![0, 0, 0] S1x512x128.size inb_S1x512x512_S1x512x128_0_0_0, k0_pay126 (k0_pay124 (dL0 i arg4 harg4 arg5 harg5 x1 x2 T) (arg10.view.readCov (Val := Elt F) (dAll c i arg3 harg3 arg4 harg4 arg5 harg5 arg6 harg6 arg7 harg7 arg8 harg8 arg9 harg9 arg10 harg10 w x1 x2 x3 T) slab0.toLoadRect) (View.readAt (Elt F) arg3.view (Rect.unit (s := S1x1) ![0, 0] S1x1.size inb_S1x1_S1x1_0_0).toLoadRect (harg3.unread x0) (Shape.Idx.first (by decide))) (View.readAt (Elt F) arg8.view (Rect.unit (s := S128x1) ![0, 0] S128x1.size inb_S128x1_S128x1_0_0).toLoadRect (harg8.unread x5))) (k0_pay125 (View.readAt (Elt F) arg7.view (Rect.unit (s := S1x512x512) ![0, 0, 0] S1x512x128.size inb_S1x512x512_S1x512x128_0_0_0).toLoadRect (harg7.unread x4)))⟩]

/-- The body's output pieces are these. -/
theorem run_eq : ∃ w w1 w2 G, (kernelRun0_A (F := F) c i arg3 harg3 arg4 harg4 arg5 harg5 arg6 harg6 arg7 harg7 arg8 harg8 arg9 harg9 arg10 harg10 x0 x1 x2 x3 x4 x5).1 = pieces c i arg3 harg3 arg4 harg4 arg5 harg5 arg6 harg6 arg7 harg7 arg8 harg8 arg9 harg9 arg10 harg10 w x0 x1 x2 x3 x4 x5 (T2 c i arg3 harg3 arg4 harg4 arg5 harg5 arg6 harg6 arg7 harg7 arg8 harg8 arg9 harg9 arg10 harg10 w x1 x2 x3 w1 w2 G) := by
  refine ⟨Scalar.addi 0#32 (Scalar.muli (Scalar.divsi (Scalar.subi (BitVec.ofNat 32 (i 2).val) 0#32) 1#32) 1#32), 0#32, Scalar.addi 0#32 (Scalar.muli (Scalar.divsi (Scalar.subi (BitVec.ofNat 32 (i 2).val) 0#32) 1#32) 1#32), ?_⟩
  apply Exists.intro
  unfold kernelRun0_A
  rfl

end Run

end Cert.KernelIdeal.Att
-- ==== Proof.OutEq.lean ====
/-
  The kernel's body at a grid point, in closed form: unit by unit, the online softmax over the tiles before the
  diagonal, the masked diagonal tile, and the finish.
-/
module

public import proofs.«01_k».proof.Proof.RunEq

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

variable {F : FTy → Type} [FloatOps F] [Named F]

/-- Unit `u`'s queries. -/
def qTile (x : Vec F S1x4x512x128 .f32) (u : Fin 4) : Vec F S1x1x512x128 .f32 := fun y => x (ix4 0 u (y 2) (y 3))

/-- Unit `u`'s gate. -/
def gTile (x : Vec F S1x512x512 .bf16) (u : Fin 4) : Vec F S1x512x128 .bf16 :=
  fun y => x (ix3 0 (y 1) ⟨(128 * u.val + (y 2).val) % 512, Nat.mod_lt _ (by decide)⟩)

/-- What unit `u` carries at the end of the point of query block `j`. -/
def endU (x1 : Vec F S1x4x512x128 .f32) (x2 : Vec F S1x4x8192x128 .bf16) (x3 : Vec F S1x4x32x128x256 .bf16) (u : Fin 4) (j : ℕ) : Acc F :=
  stepU (masked (scores (k0_pay58 (qTile x1 u)) (keyTile x2 u j))) (vals (valTile x3 u j 0) (valTile x3 u j 1)) (runU (k0_pay58 (qTile x1 u)) x2 x3 u j)

/-- Unit `u`'s output block. -/
def outU (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32)
    (u : Fin 4) (j : ℕ) : FVec F S1x512x128 .bf16 :=
  k0_pay130 (k0_pay129 (endU x1 x2 x3 u j).2.1 (endU x1 x2 x3 u j).2.2 (x0 (ix2 0 0)) x5 (gTile x4 u))

/-- The query load of unit `u` reads that unit's queries. -/
theorem read_q (m : Memref sig .tc .vmem S1x4x512x128 .f32) (hm : m.IsWhole) (x : Vec F S1x4x512x128 .f32) (u : Fin 4)
    (inb : ∀ a, (![0, u.val, 0, 0] : Fin 4 → ℕ) a + S1x1x512x128.size a ≤ S1x4x512x128.size a) :
    View.readAt (Elt F) m.view (Rect.unit (s := S1x4x512x128) ![0, u.val, 0, 0] S1x1x512x128.size inb).toLoadRect (hm.unread x) = qTile x u := by
  rw [View.readAt_eq_ld, hm.read_unread]
  funext y
  unfold qTile
  refine View.ld_unit_apply_of x _ _ inb y _ ?_
  have hy0 : (y 0).val < 1 := (y 0).isLt
  have hy1 : (y 1).val < 1 := (y 1).isLt
  intro a
  match a with
  | ⟨0, _⟩ => show (0 : ℕ) = 0 + (y 0).val; omega
  | ⟨1, _⟩ => show u.val = u.val + (y 1).val; omega
  | ⟨2, _⟩ => show (y 2).val = 0 + (y 2).val; omega
  | ⟨3, _⟩ => show (y 3).val = 0 + (y 3).val; omega

/-- The gate load of unit `u` reads that unit's gate. -/
theorem read_g (m : Memref sig .tc .vmem S1x512x512 .bf16) (hm : m.IsWhole) (x : Vec F S1x512x512 .bf16) (u : Fin 4) (o : ℕ) (ho : o = 128 * u.val)
    (inb : ∀ a, (![0, 0, o] : Fin 3 → ℕ) a + S1x512x128.size a ≤ S1x512x512.size a) :
    View.readAt (Elt F) m.view (Rect.unit (s := S1x512x512) ![0, 0, o] S1x512x128.size inb).toLoadRect (hm.unread x) = gTile x u := by
  subst ho
  rw [View.readAt_eq_ld, hm.read_unread]
  funext y
  unfold gTile
  refine View.ld_unit_apply_of x _ _ inb y _ ?_
  have hy0 : (y 0).val < 1 := (y 0).isLt
  have hy2 : (y 2).val < 128 := (y 2).isLt
  have hu := u.isLt
  intro a
  match a with
  | ⟨0, _⟩ => show (0 : ℕ) = 0 + (y 0).val; omega
  | ⟨1, _⟩ => show (y 1).val = 0 + (y 1).val; omega
  | ⟨2, _⟩ => show (128 * u.val + (y 2).val) % 512 = 128 * u.val + (y 2).val; omega

/-- The mixing weight's load reads the one cell. -/
theorem read_lam (m : Memref sig .tc .smem S1x1 .f32) (hm : m.IsWhole) (x : Vec F S1x1 .f32)
    (inb : ∀ a, (![0, 0] : Fin 2 → ℕ) a + S1x1.size a ≤ S1x1.size a) (y : (⟨2, S1x1.size⟩ : Shape).Idx) :
    View.readAt (Elt F) m.view (Rect.unit (s := S1x1) ![0, 0] S1x1.size inb).toLoadRect (hm.unread x) y = x (ix2 0 0) := by
  rw [View.readAt_eq_ld, hm.read_unread]
  refine View.ld_unit_apply_of x _ _ inb y _ ?_
  have hy0 : (y 0).val < 1 := (y 0).isLt
  have hy1 : (y 1).val < 1 := (y 1).isLt
  intro a
  match a with
  | ⟨0, _⟩ => show (0 : ℕ) = 0 + (y 0).val; omega
  | ⟨1, _⟩ => show (0 : ℕ) = 0 + (y 1).val; omega

/-- The norm weights' load reads them all. -/
theorem read_sub (m : Memref sig .tc .vmem S128x1 .f32) (hm : m.IsWhole) (x : Vec F S128x1 .f32)
    (inb : ∀ a, (![0, 0] : Fin 2 → ℕ) a + S128x1.size a ≤ S128x1.size a) :
    View.readAt (Elt F) m.view (Rect.unit (s := S128x1) ![0, 0] S128x1.size inb).toLoadRect (hm.unread x) = x := by
  rw [View.readAt_eq_ld, hm.read_unread]
  funext y
  refine View.ld_unit_apply_of x _ _ inb y _ ?_
  intro a
  match a with
  | ⟨0, _⟩ => show (y 0).val = 0 + (y 0).val; omega
  | ⟨1, _⟩ => show (y 1).val = 0 + (y 1).val; omega

/-- After the fill every slab of the accumulator is zero. -/
theorem read_fill (v : View sig .tc .vmem S4x128x1024 .f32) (f : v.ty.Contents (Elt F)) (a : ℕ)
    (ia : ∀ x, (![0, 0, 0] : Fin 3 → ℕ) x + S4x128x1024.size x ≤ S4x128x1024.size x)
    (ib : ∀ x, (![a, 0, 0] : Fin 3 → ℕ) x + S1x128x1024.size x ≤ S4x128x1024.size x) :
    View.readAt (Elt F) v (Rect.unit (s := S4x128x1024) ![a, 0, 0] S1x128x1024.size ib).toLoadRect
        (v.writes (Elt F) f [⟨Rect.unit (s := S4x128x1024) ![0, 0, 0] S4x128x1024.size ia, k0_pay65⟩])
      = broadcast S1x128x1024 (Scalar.ofBits .f32 0x00000000#32) := by
  rw [View.readAt_eq_ld]
  funext y
  rw [View.ld_apply]
  refine (View.read_writes_cons_unit_of_mem v f ia _ [] _ ((Rect.unit (s := S4x128x1024) ![a, 0, 0] S1x128x1024.size ib).idx y) rfl fun x => ?_).trans rfl
  match x with
  | ⟨0, _⟩ => exact (Nat.zero_add _).symm
  | ⟨1, _⟩ => exact (Nat.zero_add _).symm
  | ⟨2, _⟩ => exact (Nat.zero_add _).symm

/-- The weighted values' step, argument by argument. -/
theorem aNext_congr {s s' : FVec F S512x1024 .f32} {m m' : FVec F S1x1024 .f32} {v v' : FVec F S128x512 .bf16} {a a' : Vec F S1x128x1024 .f32}
    (hs : s = s') (hm : m = m') (hv : v = v') (ha : a = a') : aNext s m v a = aNext s' m' v' a' := by
  subst hs hm hv ha; rfl

section Out

variable (c : Dev nD) (i : grid0.Coords) (arg3 : Memref sig .tc .smem S1x1 .f32) (harg3 : arg3.IsWhole) (arg4 : Memref sig .tc .vmem S1x4x512x128 .f32) (harg4 : arg4.IsWhole) (arg5 : Memref sig .tc .vmem S1x4x8192x128 .bf16) (harg5 : arg5.IsWhole) (arg6 : Memref sig .tc .vmem S1x4x32x128x256 .bf16) (harg6 : arg6.IsWhole) (arg7 : Memref sig .tc .vmem S1x512x512 .bf16) (harg7 : arg7.IsWhole) (arg8 : Memref sig .tc .vmem S128x1 .f32) (harg8 : arg8.IsWhole) (arg9 : Memref sig .tc .vmem S1x512x512 .bf16) (harg9 : arg9.IsWhole) (arg10 : Memref sig .tc .vmem S4x128x1024 .f32) (harg10 : arg10.IsWhole) (w : BitVec 32)
  (x0 : Vec F S1x1 .f32) (x1 : Vec F S1x4x512x128 .f32) (x2 : Vec F S1x4x8192x128 .bf16) (x3 : Vec F S1x4x32x128x256 .bf16) (x4 : Vec F S1x512x512 .bf16) (x5 : Vec F S128x1 .f32)

/-- After the first loop unit 0 carries the recursion's state. -/
theorem T1_0 : (T1 c i arg3 harg3 arg4 harg4 arg5 harg5 arg6 harg6 arg7 harg7 arg8 harg8 arg9 harg9 arg10 harg10 w x1 x2 x3).1.1 = (runU (k0_pay58 (qTile x1 0)) x2 x3 0 (i 2).val).1
    ∧ (T1 c i arg3 harg3 arg4 harg4 arg5 harg5 arg6 harg6 arg7 harg7 arg8 harg8 arg9 harg9 arg10 harg10 w x1 x2 x3).1.2.2.2.2.1 = (runU (k0_pay58 (qTile x1 0)) x2 x3 0 (i 2).val).2.1
    ∧ View.readAt (Elt F) arg10.view slab0.toLoadRect (arg10.view.writes (Elt F) (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) (T1 c i arg3 harg3 arg4 harg4 arg5 harg5 arg6 harg6 arg7 harg7 arg8 harg8 arg9 harg9 arg10 harg10 w x1 x2 x3).2) = (runU (k0_pay58 (qTile x1 0)) x2 x3 0 (i 2).val).2.2 := by
  have h := loop_state (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 0#32 w x2 x3
    (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) _ rfl (read_fill arg10.view _ 0 _ _) (read_fill arg10.view _ 1 _ _) (read_fill arg10.view _ 2 _ _) (read_fill arg10.view _ 3 _ _) (k0_t1_loop i).trips le_rfl
  obtain ⟨a0, b0, c0, a1, b1, c1, a2, b2, c2, a3, b3, c3⟩ := h
  have hw : (k0_pay58 (View.readAt (Elt F) arg4.view (Rect.unit (s := S1x4x512x128) ![0, 0, 0, 0] S1x1x512x128.size inb_S1x4x512x128_S1x1x512x128_0_0_0_0).toLoadRect (harg4.unread x1))) = k0_pay58 (qTile x1 0) := congrArg k0_pay58 (read_q arg4 harg4 x1 0 inb_S1x4x512x128_S1x1x512x128_0_0_0_0)
  rw [← trips1 i, ← hw]
  exact ⟨a0, b0, c0⟩

/-- Unit 0's sum after the diagonal tile is the closed form's. -/
theorem dL0_eq (T) (hT : T.1 = (T1 c i arg3 harg3 arg4 harg4 arg5 harg5 arg6 harg6 arg7 harg7 arg8 harg8 arg9 harg9 arg10 harg10 w x1 x2 x3).1) : dL0 i arg4 harg4 arg5 harg5 x1 x2 T = (endU x1 x2 x3 0 (i 2).val).2.1 := by
  obtain ⟨ha, hb, hc⟩ := T1_0 c i arg3 harg3 arg4 harg4 arg5 harg5 arg6 harg6 arg7 harg7 arg8 harg8 arg9 harg9 arg10 harg10 w x1 x2 x3
  have hw : (k0_pay58 (View.readAt (Elt F) arg4.view (Rect.unit (s := S1x4x512x128) ![0, 0, 0, 0] S1x1x512x128.size inb_S1x4x512x128_S1x1x512x128_0_0_0_0).toLoadRect (harg4.unread x1))) = k0_pay58 (qTile x1 0) := congrArg k0_pay58 (read_q arg4 harg4 x1 0 inb_S1x4x512x128_S1x1x512x128_0_0_0_0)
  unfold dL0
  rw [hT, ha, hb, read_key arg5 harg5 x2 0 (i 2).val _ (k0_off17_inb i) (kdoff0_eq i), hw]
  rfl

/-- Unit 0's weighted values after the diagonal tile are the closed form's. -/
theorem dA0_eq (T) (hT : T = ((T1 c i arg3 harg3 arg4 harg4 arg5 harg5 arg6 harg6 arg7 harg7 arg8 harg8 arg9 harg9 arg10 harg10 w x1 x2 x3).1, [])) : dA0 c i arg3 harg3 arg4 harg4 arg5 harg5 arg6 harg6 arg7 harg7 arg8 harg8 arg9 harg9 arg10 harg10 w x1 x2 x3 T = (endU x1 x2 x3 0 (i 2).val).2.2 := by
  obtain ⟨ha, hb, hc⟩ := T1_0 c i arg3 harg3 arg4 harg4 arg5 harg5 arg6 harg6 arg7 harg7 arg8 harg8 arg9 harg9 arg10 harg10 w x1 x2 x3
  have hw : (k0_pay58 (View.readAt (Elt F) arg4.view (Rect.unit (s := S1x4x512x128) ![0, 0, 0, 0] S1x1x512x128.size inb_S1x4x512x128_S1x1x512x128_0_0_0_0).toLoadRect (harg4.unread x1))) = k0_pay58 (qTile x1 0) := congrArg k0_pay58 (read_q arg4 harg4 x1 0 inb_S1x4x512x128_S1x1x512x128_0_0_0_0)
  have hv0 := read_val arg6 harg6 x3 0 (i 2).val _ _ (k0_off21_inb i 0) (vdoff0_eq i 0)
  have hv1 := read_val arg6 harg6 x3 0 (i 2).val _ _ (k0_off21_inb i 1) (vdoff0_eq i 1)
  have hs : arg10.view.readCov (Val := Elt F) ((T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab0.toLoadRect = (runU (k0_pay58 (qTile x1 0)) x2 x3 0 (i 2).val).2.2 := by
    refine ?_
    rw [hT]
    refine Eq.trans ?_ hc
    show View.readAt (Elt F) arg10.view slab0.toLoadRect (arg10.view.writes (Elt F) arg10.view.junk ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32)))) = _
    rw [View.writes_append]
  have hm : T.1.1 = (runU (k0_pay58 (qTile x1 0)) x2 x3 0 (i 2).val).1 := by rw [hT]; exact ha
  have hk := read_key arg5 harg5 x2 0 (i 2).val _ (k0_off17_inb i) (kdoff0_eq i)
  exact aNext_congr (congrArg masked (congrArg₂ scores hw hk)) hm (congrArg₂ vals hv0 hv1) hs

/-- What unit 0's slab holds at the end. -/
theorem slab0_end (T) (hT : T = ((T1 c i arg3 harg3 arg4 harg4 arg5 harg5 arg6 harg6 arg7 harg7 arg8 harg8 arg9 harg9 arg10 harg10 w x1 x2 x3).1, [])) : arg10.view.readCov (Val := Elt F) (dAll c i arg3 harg3 arg4 harg4 arg5 harg5 arg6 harg6 arg7 harg7 arg8 harg8 arg9 harg9 arg10 harg10 w x1 x2 x3 T) slab0.toLoadRect = (endU x1 x2 x3 0 (i 2).val).2.2 := by
  unfold dAll
  refine (readAt_skip arg10.view _ 3 0 (by decide) _ _ _ _).trans ((readAt_skip arg10.view _ 2 0 (by decide) _ _ _ _).trans ((readAt_skip arg10.view _ 1 0 (by decide) _ _ _ _).trans ((readAt_hit arg10.view _ 0 _ _ _ _).trans ?_)))
  exact dA0_eq c i arg3 harg3 arg4 harg4 arg5 harg5 arg6 harg6 arg7 harg7 arg8 harg8 arg9 harg9 arg10 harg10 w x1 x2 x3 T hT

/-- After the first loop unit 1 carries the recursion's state. -/
theorem T1_1 : (T1 c i arg3 harg3 arg4 harg4 arg5 harg5 arg6 harg6 arg7 harg7 arg8 harg8 arg9 harg9 arg10 harg10 w x1 x2 x3).1.2.1 = (runU (k0_pay58 (qTile x1 1)) x2 x3 1 (i 2).val).1
    ∧ (T1 c i arg3 harg3 arg4 harg4 arg5 harg5 arg6 harg6 arg7 harg7 arg8 harg8 arg9 harg9 arg10 harg10 w x1 x2 x3).1.2.2.2.2.2.1 = (runU (k0_pay58 (qTile x1 1)) x2 x3 1 (i 2).val).2.1
    ∧ View.readAt (Elt F) arg10.view slab1.toLoadRect (arg10.view.writes (Elt F) (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) (T1 c i arg3 harg3 arg4 harg4 arg5 harg5 arg6 harg6 arg7 harg7 arg8 harg8 arg9 harg9 arg10 harg10 w x1 x2 x3).2) = (runU (k0_pay58 (qTile x1 1)) x2 x3 1 (i 2).val).2.2 := by
  have h := loop_state (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 0#32 w x2 x3
    (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) _ rfl (read_fill arg10.view _ 0 _ _) (read_fill arg10.view _ 1 _ _) (read_fill arg10.view _ 2 _ _) (read_fill arg10.view _ 3 _ _) (k0_t1_loop i).trips le_rfl
  obtain ⟨a0, b0, c0, a1, b1, c1, a2, b2, c2, a3, b3, c3⟩ := h
  have hw : (k0_pay59 (View.readAt (Elt F) arg4.view (Rect.unit (s := S1x4x512x128) ![0, 1, 0, 0] S1x1x512x128.size inb_S1x4x512x128_S1x1x512x128_0_1_0_0).toLoadRect (harg4.unread x1))) = k0_pay58 (qTile x1 1) := congrArg k0_pay58 (read_q arg4 harg4 x1 1 inb_S1x4x512x128_S1x1x512x128_0_1_0_0)
  rw [← trips1 i, ← hw]
  exact ⟨a1, b1, c1⟩

/-- Unit 1's sum after the diagonal tile is the closed form's. -/
theorem dL1_eq (T) (hT : T.1 = (T1 c i arg3 harg3 arg4 harg4 arg5 harg5 arg6 harg6 arg7 harg7 arg8 harg8 arg9 harg9 arg10 harg10 w x1 x2 x3).1) : dL1 i arg4 harg4 arg5 harg5 x1 x2 T = (endU x1 x2 x3 1 (i 2).val).2.1 := by
  obtain ⟨ha, hb, hc⟩ := T1_1 c i arg3 harg3 arg4 harg4 arg5 harg5 arg6 harg6 arg7 harg7 arg8 harg8 arg9 harg9 arg10 harg10 w x1 x2 x3
  have hw : (k0_pay59 (View.readAt (Elt F) arg4.view (Rect.unit (s := S1x4x512x128) ![0, 1, 0, 0] S1x1x512x128.size inb_S1x4x512x128_S1x1x512x128_0_1_0_0).toLoadRect (harg4.unread x1))) = k0_pay58 (qTile x1 1) := congrArg k0_pay58 (read_q arg4 harg4 x1 1 inb_S1x4x512x128_S1x1x512x128_0_1_0_0)
  unfold dL1
  rw [hT, ha, hb, read_key arg5 harg5 x2 1 (i 2).val _ (k0_off18_inb i) (kdoff1_eq i), hw]
  rfl

/-- Unit 1's weighted values after the diagonal tile are the closed form's. -/
theorem dA1_eq (T) (hT : T = ((T1 c i arg3 harg3 arg4 harg4 arg5 harg5 arg6 harg6 arg7 harg7 arg8 harg8 arg9 harg9 arg10 harg10 w x1 x2 x3).1, [])) : dA1 c i arg3 harg3 arg4 harg4 arg5 harg5 arg6 harg6 arg7 harg7 arg8 harg8 arg9 harg9 arg10 harg10 w x1 x2 x3 T = (endU x1 x2 x3 1 (i 2).val).2.2 := by
  obtain ⟨ha, hb, hc⟩ := T1_1 c i arg3 harg3 arg4 harg4 arg5 harg5 arg6 harg6 arg7 harg7 arg8 harg8 arg9 harg9 arg10 harg10 w x1 x2 x3
  have hw : (k0_pay59 (View.readAt (Elt F) arg4.view (Rect.unit (s := S1x4x512x128) ![0, 1, 0, 0] S1x1x512x128.size inb_S1x4x512x128_S1x1x512x128_0_1_0_0).toLoadRect (harg4.unread x1))) = k0_pay58 (qTile x1 1) := congrArg k0_pay58 (read_q arg4 harg4 x1 1 inb_S1x4x512x128_S1x1x512x128_0_1_0_0)
  have hv0 := read_val arg6 harg6 x3 1 (i 2).val _ _ (k0_off22_inb i 0) (vdoff1_eq i 0)
  have hv1 := read_val arg6 harg6 x3 1 (i 2).val _ _ (k0_off22_inb i 1) (vdoff1_eq i 1)
  have hs : arg10.view.readCov (Val := Elt F) (⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab1.toLoadRect = (runU (k0_pay58 (qTile x1 1)) x2 x3 1 (i 2).val).2.2 := by
    refine (readAt_skip arg10.view _ 0 1 (by decide) _ _ _ _).trans (?_)
    rw [hT]
    refine Eq.trans ?_ hc
    show View.readAt (Elt F) arg10.view slab1.toLoadRect (arg10.view.writes (Elt F) arg10.view.junk ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32)))) = _
    rw [View.writes_append]
  have hm : T.1.2.1 = (runU (k0_pay58 (qTile x1 1)) x2 x3 1 (i 2).val).1 := by rw [hT]; exact ha
  have hk := read_key arg5 harg5 x2 1 (i 2).val _ (k0_off18_inb i) (kdoff1_eq i)
  exact aNext_congr (congrArg masked (congrArg₂ scores hw hk)) hm (congrArg₂ vals hv0 hv1) hs

/-- What unit 1's slab holds at the end. -/
theorem slab1_end (T) (hT : T = ((T1 c i arg3 harg3 arg4 harg4 arg5 harg5 arg6 harg6 arg7 harg7 arg8 harg8 arg9 harg9 arg10 harg10 w x1 x2 x3).1, [])) : arg10.view.readCov (Val := Elt F) (dAll c i arg3 harg3 arg4 harg4 arg5 harg5 arg6 harg6 arg7 harg7 arg8 harg8 arg9 harg9 arg10 harg10 w x1 x2 x3 T) slab1.toLoadRect = (endU x1 x2 x3 1 (i 2).val).2.2 := by
  unfold dAll
  refine (readAt_skip arg10.view _ 3 1 (by decide) _ _ _ _).trans ((readAt_skip arg10.view _ 2 1 (by decide) _ _ _ _).trans ((readAt_hit arg10.view _ 1 _ _ _ _).trans ?_))
  exact dA1_eq c i arg3 harg3 arg4 harg4 arg5 harg5 arg6 harg6 arg7 harg7 arg8 harg8 arg9 harg9 arg10 harg10 w x1 x2 x3 T hT

/-- After the first loop unit 2 carries the recursion's state. -/
theorem T1_2 : (T1 c i arg3 harg3 arg4 harg4 arg5 harg5 arg6 harg6 arg7 harg7 arg8 harg8 arg9 harg9 arg10 harg10 w x1 x2 x3).1.2.2.1 = (runU (k0_pay58 (qTile x1 2)) x2 x3 2 (i 2).val).1
    ∧ (T1 c i arg3 harg3 arg4 harg4 arg5 harg5 arg6 harg6 arg7 harg7 arg8 harg8 arg9 harg9 arg10 harg10 w x1 x2 x3).1.2.2.2.2.2.2.1 = (runU (k0_pay58 (qTile x1 2)) x2 x3 2 (i 2).val).2.1
    ∧ View.readAt (Elt F) arg10.view slab2.toLoadRect (arg10.view.writes (Elt F) (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) (T1 c i arg3 harg3 arg4 harg4 arg5 harg5 arg6 harg6 arg7 harg7 arg8 harg8 arg9 harg9 arg10 harg10 w x1 x2 x3).2) = (runU (k0_pay58 (qTile x1 2)) x2 x3 2 (i 2).val).2.2 := by
  have h := loop_state (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 0#32 w x2 x3
    (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) _ rfl (read_fill arg10.view _ 0 _ _) (read_fill arg10.view _ 1 _ _) (read_fill arg10.view _ 2 _ _) (read_fill arg10.view _ 3 _ _) (k0_t1_loop i).trips le_rfl
  obtain ⟨a0, b0, c0, a1, b1, c1, a2, b2, c2, a3, b3, c3⟩ := h
  have hw : (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) = k0_pay58 (qTile x1 2) := congrArg k0_pay58 (read_q arg4 harg4 x1 2 inb_S1x4x512x128_S1x1x512x128_0_2_0_0)
  rw [← trips1 i, ← hw]
  exact ⟨a2, b2, c2⟩

/-- Unit 2's sum after the diagonal tile is the closed form's. -/
theorem dL2_eq (T) (hT : T.1 = (T1 c i arg3 harg3 arg4 harg4 arg5 harg5 arg6 harg6 arg7 harg7 arg8 harg8 arg9 harg9 arg10 harg10 w x1 x2 x3).1) : dL2 i arg4 harg4 arg5 harg5 x1 x2 T = (endU x1 x2 x3 2 (i 2).val).2.1 := by
  obtain ⟨ha, hb, hc⟩ := T1_2 c i arg3 harg3 arg4 harg4 arg5 harg5 arg6 harg6 arg7 harg7 arg8 harg8 arg9 harg9 arg10 harg10 w x1 x2 x3
  have hw : (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) = k0_pay58 (qTile x1 2) := congrArg k0_pay58 (read_q arg4 harg4 x1 2 inb_S1x4x512x128_S1x1x512x128_0_2_0_0)
  unfold dL2
  rw [hT, ha, hb, read_key arg5 harg5 x2 2 (i 2).val _ (k0_off19_inb i) (kdoff2_eq i), hw]
  rfl

/-- Unit 2's weighted values after the diagonal tile are the closed form's. -/
theorem dA2_eq (T) (hT : T = ((T1 c i arg3 harg3 arg4 harg4 arg5 harg5 arg6 harg6 arg7 harg7 arg8 harg8 arg9 harg9 arg10 harg10 w x1 x2 x3).1, [])) : dA2 c i arg3 harg3 arg4 harg4 arg5 harg5 arg6 harg6 arg7 harg7 arg8 harg8 arg9 harg9 arg10 harg10 w x1 x2 x3 T = (endU x1 x2 x3 2 (i 2).val).2.2 := by
  obtain ⟨ha, hb, hc⟩ := T1_2 c i arg3 harg3 arg4 harg4 arg5 harg5 arg6 harg6 arg7 harg7 arg8 harg8 arg9 harg9 arg10 harg10 w x1 x2 x3
  have hw : (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) = k0_pay58 (qTile x1 2) := congrArg k0_pay58 (read_q arg4 harg4 x1 2 inb_S1x4x512x128_S1x1x512x128_0_2_0_0)
  have hv0 := read_val arg6 harg6 x3 2 (i 2).val _ _ (k0_off23_inb i 0) (vdoff2_eq i 0)
  have hv1 := read_val arg6 harg6 x3 2 (i 2).val _ _ (k0_off23_inb i 1) (vdoff2_eq i 1)
  have hs : arg10.view.readCov (Val := Elt F) (⟨slab1, dA1 c i arg3 harg3 arg4 harg4 arg5 harg5 arg6 harg6 arg7 harg7 arg8 harg8 arg9 harg9 arg10 harg10 w x1 x2 x3 T⟩ :: ⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab2.toLoadRect = (runU (k0_pay58 (qTile x1 2)) x2 x3 2 (i 2).val).2.2 := by
    refine (readAt_skip arg10.view _ 1 2 (by decide) _ _ _ _).trans ((readAt_skip arg10.view _ 0 2 (by decide) _ _ _ _).trans (?_))
    rw [hT]
    refine Eq.trans ?_ hc
    show View.readAt (Elt F) arg10.view slab2.toLoadRect (arg10.view.writes (Elt F) arg10.view.junk ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32)))) = _
    rw [View.writes_append]
  have hm : T.1.2.2.1 = (runU (k0_pay58 (qTile x1 2)) x2 x3 2 (i 2).val).1 := by rw [hT]; exact ha
  have hk := read_key arg5 harg5 x2 2 (i 2).val _ (k0_off19_inb i) (kdoff2_eq i)
  exact aNext_congr (congrArg masked (congrArg₂ scores hw hk)) hm (congrArg₂ vals hv0 hv1) hs

/-- What unit 2's slab holds at the end. -/
theorem slab2_end (T) (hT : T = ((T1 c i arg3 harg3 arg4 harg4 arg5 harg5 arg6 harg6 arg7 harg7 arg8 harg8 arg9 harg9 arg10 harg10 w x1 x2 x3).1, [])) : arg10.view.readCov (Val := Elt F) (dAll c i arg3 harg3 arg4 harg4 arg5 harg5 arg6 harg6 arg7 harg7 arg8 harg8 arg9 harg9 arg10 harg10 w x1 x2 x3 T) slab2.toLoadRect = (endU x1 x2 x3 2 (i 2).val).2.2 := by
  unfold dAll
  refine (readAt_skip arg10.view _ 3 2 (by decide) _ _ _ _).trans ((readAt_hit arg10.view _ 2 _ _ _ _).trans ?_)
  exact dA2_eq c i arg3 harg3 arg4 harg4 arg5 harg5 arg6 harg6 arg7 harg7 arg8 harg8 arg9 harg9 arg10 harg10 w x1 x2 x3 T hT

/-- After the first loop unit 3 carries the recursion's state. -/
theorem T1_3 : (T1 c i arg3 harg3 arg4 harg4 arg5 harg5 arg6 harg6 arg7 harg7 arg8 harg8 arg9 harg9 arg10 harg10 w x1 x2 x3).1.2.2.2.1 = (runU (k0_pay58 (qTile x1 3)) x2 x3 3 (i 2).val).1
    ∧ (T1 c i arg3 harg3 arg4 harg4 arg5 harg5 arg6 harg6 arg7 harg7 arg8 harg8 arg9 harg9 arg10 harg10 w x1 x2 x3).1.2.2.2.2.2.2.2 = (runU (k0_pay58 (qTile x1 3)) x2 x3 3 (i 2).val).2.1
    ∧ View.readAt (Elt F) arg10.view slab3.toLoadRect (arg10.view.writes (Elt F) (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) (T1 c i arg3 harg3 arg4 harg4 arg5 harg5 arg6 harg6 arg7 harg7 arg8 harg8 arg9 harg9 arg10 harg10 w x1 x2 x3).2) = (runU (k0_pay58 (qTile x1 3)) x2 x3 3 (i 2).val).2.2 := by
  have h := loop_state (F := F) Variants.none c none i arg3 harg3 arg4 harg4 arg5 harg5 arg6 harg6 arg7 harg7 arg8 harg8 arg9 harg9 arg10 harg10 (BitVec.ofNat 32 (i 2).val) (k0_pay58 (View.readAt (Elt F) arg4.view (Rect.unit (s := S1x4x512x128) ![0, 0, 0, 0] S1x1x512x128.size inb_S1x4x512x128_S1x1x512x128_0_0_0_0).toLoadRect (harg4.unread x1))) (k0_pay59 (View.readAt (Elt F) arg4.view (Rect.unit (s := S1x4x512x128) ![0, 1, 0, 0] S1x1x512x128.size inb_S1x4x512x128_S1x1x512x128_0_1_0_0).toLoadRect (harg4.unread x1))) (k0_pay63 (iota .tc S512x128 32 [1] iota_S512x128_d1_w32) (k0_pay60 (View.readAt (Elt F) arg4.view (Rect.unit (s := S1x4x512x128) ![0, 2, 0, 0] S1x1x512x128.size inb_S1x4x512x128_S1x1x512x128_0_2_0_0).toLoadRect (harg4.unread x1))) k0_pay61 k0_pay62) (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) k0_pay66 k0_pay67 k0_pay68 k0_pay69 k0_pay70 k0_pay71 k0_pay72 k0_pay73 0#32 w x2 x3
    (arg10.view.writes (Elt F) arg10.view.junk ([⟨Rect.unit (s := S4x128x1024) ![0, 0, 0] S4x128x1024.size inb_S4x128x1024_S4x128x1024_0_0_0, k0_pay65⟩] : List (View.Piece (Elt F) S4x128x1024 .f32))) _ rfl (read_fill arg10.view _ 0 _ _) (read_fill arg10.view _ 1 _ _) (read_fill arg10.view _ 2 _ _) (read_fill arg10.view _ 3 _ _) (k0_t1_loop i).trips le_rfl
  obtain ⟨a0, b0, c0, a1, b1, c1, a2, b2, c2, a3, b3, c3⟩ := h
  have hw : (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) = k0_pay58 (qTile x1 3) := congrArg k0_pay58 (read_q arg4 harg4 x1 3 inb_S1x4x512x128_S1x1x512x128_0_3_0_0)
  rw [← trips1 i, ← hw]
  exact ⟨a3, b3, c3⟩

/-- Unit 3's sum after the diagonal tile is the closed form's. -/
theorem dL3_eq (T) (hT : T.1 = (T1 c i arg3 harg3 arg4 harg4 arg5 harg5 arg6 harg6 arg7 harg7 arg8 harg8 arg9 harg9 arg10 harg10 w x1 x2 x3).1) : dL3 i arg4 harg4 arg5 harg5 x1 x2 T = (endU x1 x2 x3 3 (i 2).val).2.1 := by
  obtain ⟨ha, hb, hc⟩ := T1_3 c i arg3 harg3 arg4 harg4 arg5 harg5 arg6 harg6 arg7 harg7 arg8 harg8 arg9 harg9 arg10 harg10 w x1 x2 x3
  have hw : (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) = k0_pay58 (qTile x1 3) := congrArg k0_pay58 (read_q arg4 harg4 x1 3 inb_S1x4x512x128_S1x1x512x128_0_3_0_0)
  unfold dL3
  rw [hT, ha, hb, read_key arg5 harg5 x2 3 (i 2).val _ (k0_off20_inb i) (kdoff3_eq i), hw]
  rfl

/-- Unit 3's weighted values after the diagonal tile are the closed form's. -/
theorem dA3_eq (T) (hT : T = ((T1 c i arg3 harg3 arg4 harg4 arg5 harg5 arg6 harg6 arg7 harg7 arg8 harg8 arg9 harg9 arg10 harg10 w x1 x2 x3).1, [])) : dA3 c i arg3 harg3 arg4 harg4 arg5 harg5 arg6 harg6 arg7 harg7 arg8 harg8 arg9 harg9 arg10 harg10 w x1 x2 x3 T = (endU x1 x2 x3 3 (i 2).val).2.2 := by
  obtain ⟨ha, hb, hc⟩ := T1_3 c i arg3 harg3 arg4 harg4 arg5 harg5 arg6 harg6 arg7 harg7 arg8 harg8 arg9 harg9 arg10 harg10 w x1 x2 x3
  have hw : (k0_pay64 (iota .tc S512x128 32 [1] iota_S512x128_d1_w32) (View.readAt (Elt F) arg4.view (Rect.unit (s := S1x4x512x128) ![0, 3, 0, 0] S1x1x512x128.size inb_S1x4x512x128_S1x1x512x128_0_3_0_0).toLoadRect (harg4.unread x1))) = k0_pay58 (qTile x1 3) := congrArg k0_pay58 (read_q arg4 harg4 x1 3 inb_S1x4x512x128_S1x1x512x128_0_3_0_0)
  have hv0 := read_val arg6 harg6 x3 3 (i 2).val _ _ (k0_off24_inb i 0) (vdoff3_eq i 0)
  have hv1 := read_val arg6 harg6 x3 3 (i 2).val _ _ (k0_off24_inb i 1) (vdoff3_eq i 1)
  have hs : arg10.view.readCov (Val := Elt F) (⟨slab2, dA2 c i arg3 harg3 arg4 harg4 arg5 harg5 arg6 harg6 arg7 harg7 arg8 harg8 arg9 harg9 arg10 harg10 w x1 x2 x3 T⟩ :: ⟨slab1, dA1 c i arg3 harg3 arg4 harg4 arg5 harg5 arg6 harg6 arg7 harg7 arg8 harg8 arg9 harg9 arg10 harg10 w x1 x2 x3 T⟩ :: ⟨slab0, dA0 c i arg3 harg3 arg4 harg4 arg5 harg5 arg6 harg6 arg7 harg7 arg8 harg8 arg9 harg9 arg10 harg10 w x1 x2 x3 T⟩ :: (T.2 ++ ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32))))) slab3.toLoadRect = (runU (k0_pay58 (qTile x1 3)) x2 x3 3 (i 2).val).2.2 := by
    refine (readAt_skip arg10.view _ 2 3 (by decide) _ _ _ _).trans ((readAt_skip arg10.view _ 1 3 (by decide) _ _ _ _).trans ((readAt_skip arg10.view _ 0 3 (by decide) _ _ _ _).trans (?_)))
    rw [hT]
    refine Eq.trans ?_ hc
    show View.readAt (Elt F) arg10.view slab3.toLoadRect (arg10.view.writes (Elt F) arg10.view.junk ((T1 c i arg3 harg3 arg4 harg4 arg5 harg5 arg6 harg6 arg7 harg7 arg8 harg8 arg9 harg9 arg10 harg10 w x1 x2 x3).2 ++ ([⟨Rect.unit (s := S4x128x1024) ![0, 0, 0] S4x128x1024.size inb_S4x128x1024_S4x128x1024_0_0_0, k0_pay65⟩] : List (View.Piece (Elt F) S4x128x1024 .f32)))) = _
    rw [View.writes_append]
  have hm : T.1.2.2.2.1 = (runU (k0_pay58 (qTile x1 3)) x2 x3 3 (i 2).val).1 := by rw [hT]; exact ha
  have hk := read_key arg5 harg5 x2 3 (i 2).val _ (k0_off20_inb i) (kdoff3_eq i)
  exact aNext_congr (congrArg masked (congrArg₂ scores hw hk)) hm (congrArg₂ vals hv0 hv1) hs

/-- What unit 3's slab holds at the end. -/
theorem slab3_end (T) (hT : T = ((T1 c i arg3 harg3 arg4 harg4 arg5 harg5 arg6 harg6 arg7 harg7 arg8 harg8 arg9 harg9 arg10 harg10 w x1 x2 x3).1, [])) : arg10.view.readCov (Val := Elt F) (dAll c i arg3 harg3 arg4 harg4 arg5 harg5 arg6 harg6 arg7 harg7 arg8 harg8 arg9 harg9 arg10 harg10 w x1 x2 x3 T) slab3.toLoadRect = (endU x1 x2 x3 3 (i 2).val).2.2 := by
  unfold dAll
  refine (readAt_hit arg10.view _ 3 _ _ _ _).trans ?_
  exact dA3_eq c i arg3 harg3 arg4 harg4 arg5 harg5 arg6 harg6 arg7 harg7 arg8 harg8 arg9 harg9 arg10 harg10 w x1 x2 x3 T hT

/-- Unit 0's columns of the body's output. -/
theorem out_0 (r : Fin 512) (d : Fin 128) :
    out0_A_6 c i arg3 harg3 arg4 harg4 arg5 harg5 arg6 harg6 arg7 harg7 arg8 harg8 arg9 harg9 arg10 harg10 x0 x1 x2 x3 x4 x5 (ix3 0 r ⟨0 + d.val, by omega⟩) = outU x0 x1 x2 x3 x4 x5 0 (i 2).val (ix3 0 r d) := by
  unfold out0_A_6
  obtain ⟨w, w1, w2, G, h⟩ := run_eq c i arg3 harg3 arg4 harg4 arg5 harg5 arg6 harg6 arg7 harg7 arg8 harg8 arg9 harg9 arg10 harg10 x0 x1 x2 x3 x4 x5
  rw [h, T2_eq]
  unfold pieces
  refine (View.read_writes_cons_unit_of_not_mem _ _ _ _ _ _ rfl 2 (Or.inl (by show 0 + d.val < 384; omega))).trans ((View.read_writes_cons_unit_of_not_mem _ _ _ _ _ _ rfl 2 (Or.inl (by show 0 + d.val < 256; omega))).trans ((View.read_writes_cons_unit_of_not_mem _ _ _ _ _ _ rfl 2 (Or.inl (by show 0 + d.val < 128; omega))).trans ((View.read_writes_cons_unit_of_mem _ _ _ _ _ _ (ix3 0 r d) rfl ?_).trans ?_)))
  · intro a
    match a with
    | ⟨0, _⟩ => rfl
    | ⟨1, _⟩ => exact (Nat.zero_add _).symm
    | ⟨2, _⟩ => rfl
  · rw [dL0_eq c i arg3 harg3 arg4 harg4 arg5 harg5 arg6 harg6 arg7 harg7 arg8 harg8 arg9 harg9 arg10 harg10 w x1 x2 x3 ((T1 c i arg3 harg3 arg4 harg4 arg5 harg5 arg6 harg6 arg7 harg7 arg8 harg8 arg9 harg9 arg10 harg10 w x1 x2 x3).1, []) rfl, slab0_end c i arg3 harg3 arg4 harg4 arg5 harg5 arg6 harg6 arg7 harg7 arg8 harg8 arg9 harg9 arg10 harg10 w x1 x2 x3 _ rfl, read_sub arg8 harg8 x5, read_g arg7 harg7 x4 0 0 rfl, read_lam arg3 harg3 x0]
    rfl

/-- Unit 1's columns of the body's output. -/
theorem out_1 (r : Fin 512) (d : Fin 128) :
    out0_A_6 c i arg3 harg3 arg4 harg4 arg5 harg5 arg6 harg6 arg7 harg7 arg8 harg8 arg9 harg9 arg10 harg10 x0 x1 x2 x3 x4 x5 (ix3 0 r ⟨128 + d.val, by omega⟩) = outU x0 x1 x2 x3 x4 x5 1 (i 2).val (ix3 0 r d) := by
  unfold out0_A_6
  obtain ⟨w, w1, w2, G, h⟩ := run_eq c i arg3 harg3 arg4 harg4 arg5 harg5 arg6 harg6 arg7 harg7 arg8 harg8 arg9 harg9 arg10 harg10 x0 x1 x2 x3 x4 x5
  rw [h, T2_eq]
  unfold pieces
  refine (View.read_writes_cons_unit_of_not_mem _ _ _ _ _ _ rfl 2 (Or.inl (by show 128 + d.val < 384; omega))).trans ((View.read_writes_cons_unit_of_not_mem _ _ _ _ _ _ rfl 2 (Or.inl (by show 128 + d.val < 256; omega))).trans ((View.read_writes_cons_unit_of_mem _ _ _ _ _ _ (ix3 0 r d) rfl ?_).trans ?_))
  · intro a
    match a with
    | ⟨0, _⟩ => rfl
    | ⟨1, _⟩ => exact (Nat.zero_add _).symm
    | ⟨2, _⟩ => rfl
  · rw [dL1_eq c i arg3 harg3 arg4 harg4 arg5 harg5 arg6 harg6 arg7 harg7 arg8 harg8 arg9 harg9 arg10 harg10 w x1 x2 x3 ((T1 c i arg3 harg3 arg4 harg4 arg5 harg5 arg6 harg6 arg7 harg7 arg8 harg8 arg9 harg9 arg10 harg10 w x1 x2 x3).1, []) rfl, slab1_end c i arg3 harg3 arg4 harg4 arg5 harg5 arg6 harg6 arg7 harg7 arg8 harg8 arg9 harg9 arg10 harg10 w x1 x2 x3 _ rfl, read_sub arg8 harg8 x5, read_g arg7 harg7 x4 1 128 rfl, read_lam arg3 harg3 x0]
    rfl

/-- Unit 2's columns of the body's output. -/
theorem out_2 (r : Fin 512) (d : Fin 128) :
    out0_A_6 c i arg3 harg3 arg4 harg4 arg5 harg5 arg6 harg6 arg7 harg7 arg8 harg8 arg9 harg9 arg10 harg10 x0 x1 x2 x3 x4 x5 (ix3 0 r ⟨256 + d.val, by omega⟩) = outU x0 x1 x2 x3 x4 x5 2 (i 2).val (ix3 0 r d) := by
  unfold out0_A_6
  obtain ⟨w, w1, w2, G, h⟩ := run_eq c i arg3 harg3 arg4 harg4 arg5 harg5 arg6 harg6 arg7 harg7 arg8 harg8 arg9 harg9 arg10 harg10 x0 x1 x2 x3 x4 x5
  rw [h, T2_eq]
  unfold pieces
  refine (View.read_writes_cons_unit_of_not_mem _ _ _ _ _ _ rfl 2 (Or.inl (by show 256 + d.val < 384; omega))).trans ((View.read_writes_cons_unit_of_mem _ _ _ _ _ _ (ix3 0 r d) rfl ?_).trans ?_)
  · intro a
    match a with
    | ⟨0, _⟩ => rfl
    | ⟨1, _⟩ => exact (Nat.zero_add _).symm
    | ⟨2, _⟩ => rfl
  · rw [dL2_eq c i arg3 harg3 arg4 harg4 arg5 harg5 arg6 harg6 arg7 harg7 arg8 harg8 arg9 harg9 arg10 harg10 w x1 x2 x3 ((T1 c i arg3 harg3 arg4 harg4 arg5 harg5 arg6 harg6 arg7 harg7 arg8 harg8 arg9 harg9 arg10 harg10 w x1 x2 x3).1, []) rfl, slab2_end c i arg3 harg3 arg4 harg4 arg5 harg5 arg6 harg6 arg7 harg7 arg8 harg8 arg9 harg9 arg10 harg10 w x1 x2 x3 _ rfl, read_sub arg8 harg8 x5, read_g arg7 harg7 x4 2 256 rfl, read_lam arg3 harg3 x0]
    rfl

/-- Unit 3's columns of the body's output. -/
theorem out_3 (r : Fin 512) (d : Fin 128) :
    out0_A_6 c i arg3 harg3 arg4 harg4 arg5 harg5 arg6 harg6 arg7 harg7 arg8 harg8 arg9 harg9 arg10 harg10 x0 x1 x2 x3 x4 x5 (ix3 0 r ⟨384 + d.val, by omega⟩) = outU x0 x1 x2 x3 x4 x5 3 (i 2).val (ix3 0 r d) := by
  unfold out0_A_6
  obtain ⟨w, w1, w2, G, h⟩ := run_eq c i arg3 harg3 arg4 harg4 arg5 harg5 arg6 harg6 arg7 harg7 arg8 harg8 arg9 harg9 arg10 harg10 x0 x1 x2 x3 x4 x5
  rw [h, T2_eq]
  unfold pieces
  refine (View.read_writes_cons_unit_of_mem _ _ _ _ _ _ (ix3 0 r d) rfl ?_).trans ?_
  · intro a
    match a with
    | ⟨0, _⟩ => rfl
    | ⟨1, _⟩ => exact (Nat.zero_add _).symm
    | ⟨2, _⟩ => rfl
  · rw [dL3_eq c i arg3 harg3 arg4 harg4 arg5 harg5 arg6 harg6 arg7 harg7 arg8 harg8 arg9 harg9 arg10 harg10 w x1 x2 x3 ((T1 c i arg3 harg3 arg4 harg4 arg5 harg5 arg6 harg6 arg7 harg7 arg8 harg8 arg9 harg9 arg10 harg10 w x1 x2 x3).1, []) rfl, slab3_end c i arg3 harg3 arg4 harg4 arg5 harg5 arg6 harg6 arg7 harg7 arg8 harg8 arg9 harg9 arg10 harg10 w x1 x2 x3 _ rfl, read_sub arg8 harg8 x5, read_g arg7 harg7 x4 3 384 rfl, read_lam arg3 harg3 x0]
    rfl

end Out

end Cert.KernelIdeal.Att
-- ==== Proof.Softmax.lean ====
/-
  The online softmax on the extended reals: what one column carries from tile to tile, and what it ends with.
-/
module

public import Idealize.ShloMosaic.PureOps.Ideal

@[expose] public section

noncomputable section

namespace Cert.Softmax

open Idealize.ShloMosaic Finset

/-- The weight of a score `s` against a maximum `μ`, a real number. -/
def wt (s μ : EReal) : ℝ := if s = ⊥ then 0 else Real.rpow 2 (s.toReal - μ.toReal)

/-- The machine's weight is that real number. -/
theorem exp2_sub {s μ : EReal} (h : s ≤ μ) (hμ : μ ≠ ⊤) : Ideal.exp2 (s - μ) = (wt s μ : EReal) := by
  unfold wt
  induction s using EReal.rec with
  | bot =>
    have e : (⊥ : EReal) - μ = ⊥ := by rw [sub_eq_add_neg, EReal.bot_add]
    rw [e, if_pos rfl]; rfl
  | top => exact absurd (top_le_iff.mp h) hμ
  | coe x =>
    induction μ using EReal.rec with
    | bot => exact absurd (le_bot_iff.mp h) (EReal.coe_ne_bot x)
    | top => exact absurd rfl hμ
    | coe y =>
      rw [if_neg (EReal.coe_ne_bot x), ← EReal.coe_sub]
      rfl

/-- Rescaling a weight to a larger maximum. -/
theorem wt_mul {s μ ν : EReal} (h : s ≤ μ) (h' : μ ≤ ν) (hν : ν ≠ ⊤) : wt μ ν * wt s μ = wt s ν := by
  have hμ : μ ≠ ⊤ := fun e => hν (top_le_iff.mp (e ▸ h'))
  unfold wt
  by_cases hs : s = ⊥
  · simp [hs]
  · have hm : μ ≠ ⊥ := fun e => hs (le_bot_iff.mp (e ▸ h))
    rw [if_neg hs, if_neg hs, if_neg hm]
    show (2 : ℝ) ^ (_ : ℝ) * (2 : ℝ) ^ (_ : ℝ) = (2 : ℝ) ^ (_ : ℝ)
    rw [← Real.rpow_add (by norm_num)]
    congr 1
    ring

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The maximum of the first `n` scores. -/
def mx (s : ℕ → EReal) (n : ℕ) : EReal := (range n).sup s

/-- The sum of the first `n` weights against `μ`, each times `u`. -/
def ws (u : ℕ → ℝ) (s : ℕ → EReal) (μ : EReal) (n : ℕ) : ℝ := ∑ k ∈ range n, u k * wt (s k) μ

theorem le_mx (s : ℕ → EReal) {n k : ℕ} (h : k < n) : s k ≤ mx s n := Finset.le_sup (f := s) (mem_range.mpr h)

theorem mx_ne_top {s : ℕ → EReal} (hs : ∀ k, s k ≠ ⊤) (n : ℕ) : mx s n ≠ ⊤ := by
  refine (lt_top_iff_ne_top.mp ?_)
  exact (Finset.sup_lt_iff (by simp)).mpr fun k _ => lt_top_iff_ne_top.mpr (hs k)

theorem mx_mono (s : ℕ → EReal) {n n' : ℕ} (h : n ≤ n') : mx s n ≤ mx s n' :=
  Finset.sup_mono (range_subset_range.mpr h)

/-- The maximum after `p` more scores. -/
theorem mx_add (s : ℕ → EReal) (n p : ℕ) : mx s (n + p) = max (mx s n) ((range p).sup fun x => s (n + x)) := by
  refine le_antisymm ?_ (max_le (mx_mono s (Nat.le_add_right n p)) (Finset.sup_le fun x hx => ?_))
  · refine Finset.sup_le fun k hk => ?_
    have hk := mem_range.mp hk
    rcases lt_or_ge k n with h | h
    · exact (le_mx s h).trans (le_max_left _ _)
    · refine le_trans ?_ (le_max_right _ _)
      have : s k = (fun x => s (n + x)) (k - n) := by show s k = s (n + (k - n)); congr 1; omega
      rw [this]
      exact Finset.le_sup (f := fun x => s (n + x)) (mem_range.mpr (by omega))
  · have := mem_range.mp hx
    exact le_mx s (by omega)

/-- One step: what was summed is rescaled, the tile's weights are added. -/
theorem ws_step (u : ℕ → ℝ) {s : ℕ → EReal} (hs : ∀ k, s k ≠ ⊤) (n p : ℕ) :
    Ideal.exp2 (mx s n - mx s (n + p)) * (ws u s (mx s n) n : EReal)
      + ∑ x ∈ range p, (u (n + x) : EReal) * Ideal.exp2 (s (n + x) - mx s (n + p)) = (ws u s (mx s (n + p)) (n + p) : EReal) := by
  have ht := mx_ne_top hs (n + p)
  rw [exp2_sub (mx_mono s (Nat.le_add_right n p)) ht, ← EReal.coe_mul]
  have e : ∑ x ∈ range p, (u (n + x) : EReal) * Ideal.exp2 (s (n + x) - mx s (n + p))
      = ((∑ x ∈ range p, u (n + x) * wt (s (n + x)) (mx s (n + p)) : ℝ) : EReal) := by
    rw [coe_sum]
    refine sum_congr rfl fun x hx => ?_
    rw [exp2_sub (le_mx s (by have := mem_range.mp hx; omega)) ht, EReal.coe_mul]
  rw [e, ← EReal.coe_add]
  congr 1
  unfold ws
  rw [Finset.sum_range_add, Finset.mul_sum]
  congr 1
  refine sum_congr rfl fun k hk => ?_
  rw [← wt_mul (le_mx s (mem_range.mp hk)) (mx_mono s (Nat.le_add_right n p)) ht]
  ring

/-! ## The causal column -/

/-- The largest of `t 0 … t Q`. -/
def top (t : ℕ → ℝ) (Q : ℕ) : ℝ := (range (Q + 1)).sup' ⟨0, by simp⟩ t

/-- The softmax's denominator over the keys `0 … Q`. -/
def den (t : ℕ → ℝ) (Q : ℕ) : ℝ := ∑ k ∈ range (Q + 1), Real.exp (t k - top t Q)

/-- The softmax's weighted sum of `u` over the keys `0 … Q`, before the division. -/
def num (t u : ℕ → ℝ) (Q : ℕ) : ℝ := ∑ k ∈ range (Q + 1), u k * Real.exp (t k - top t Q)

theorem den_pos (t : ℕ → ℝ) (Q : ℕ) : 0 < den t Q := sum_pos (fun _ _ => Real.exp_pos _) ⟨0, by simp⟩

theorem top_spec (t : ℕ → ℝ) (Q : ℕ) : ∃ k, k ≤ Q ∧ top t Q = t k := by
  obtain ⟨k, hk, e⟩ := exists_mem_eq_sup' (s := range (Q + 1)) ⟨0, by simp⟩ t
  exact ⟨k, Nat.lt_succ_iff.mp (mem_range.mp hk), e⟩

theorem le_top (t : ℕ → ℝ) {Q k : ℕ} (h : k ≤ Q) : t k ≤ top t Q := Finset.le_sup' t (mem_range.mpr (by omega))

/-- The causal scores, scaled by `c`. -/
def causal (t : ℕ → ℝ) (c : ℝ) (Q : ℕ) (k : ℕ) : EReal := if k ≤ Q then ((t k * c : ℝ) : EReal) else ⊥

theorem causal_ne_top (t : ℕ → ℝ) (c : ℝ) (Q k : ℕ) : causal t c Q k ≠ ⊤ := by
  unfold causal; split
  · exact EReal.coe_ne_top _
  · exact bot_ne_top

/-- The causal column's maximum is the scaled largest score. -/
theorem mx_causal (t : ℕ → ℝ) {c : ℝ} (hc : 0 ≤ c) {Q n : ℕ} (h : Q < n) : mx (causal t c Q) n = ((top t Q * c : ℝ) : EReal) := by
  refine le_antisymm (Finset.sup_le fun k _ => ?_) ?_
  · unfold causal; split
    · rename_i hk
      exact EReal.coe_le_coe_iff.mpr (mul_le_mul_of_nonneg_right (le_top t hk) hc)
    · exact bot_le
  · obtain ⟨k, hk, e⟩ := top_spec t Q
    rw [e]
    have : ((t k * c : ℝ) : EReal) = causal t c Q k := by unfold causal; rw [if_pos hk]
    rw [this]
    exact le_mx _ (by omega)

/-- A sum of causal terms stops at the query. -/
theorem sum_causal (f : ℕ → ℝ) {Q n : ℕ} (h : Q < n) : ∑ k ∈ range n, (if k ≤ Q then f k else 0) = ∑ k ∈ range (Q + 1), f k := by
  rw [← sum_filter]
  refine sum_congr ?_ fun _ _ => rfl
  ext k; simp; omega

/-- The reciprocal of the natural logarithm of two is positive. -/
theorem log2e_pos : (0 : ℝ) < (Real.log 2)⁻¹ := inv_pos.mpr (Real.log_pos (by norm_num))

/-- A base-two weight of scaled scores is the natural exponential. -/
theorem rpow_scaled (x y : ℝ) : Real.rpow 2 (x * (Real.log 2)⁻¹ - y * (Real.log 2)⁻¹) = Real.exp (x - y) := by
  have hl : Real.log 2 ≠ 0 := (Real.log_pos (by norm_num)).ne'
  show (2 : ℝ) ^ (_ : ℝ) = _
  rw [Real.rpow_def_of_pos (by norm_num)]
  congr 1
  field_simp

/-- The online column ends with the softmax's weighted sum. -/
theorem ws_causal (t u : ℕ → ℝ) {Q n : ℕ} (h : Q < n) :
    ws u (causal t (Real.log 2)⁻¹ Q) (mx (causal t (Real.log 2)⁻¹ Q) n) n = num t u Q := by
  rw [mx_causal t log2e_pos.le h]
  unfold ws num
  rw [← sum_causal _ h]
  refine sum_congr rfl fun k _ => ?_
  unfold causal wt
  split
  · rw [if_neg (EReal.coe_ne_bot _), EReal.toReal_coe, EReal.toReal_coe, rpow_scaled]
  · simp

/-- … and with its denominator. -/
theorem ws_one_causal (t : ℕ → ℝ) {Q n : ℕ} (h : Q < n) :
    ws (fun _ => 1) (causal t (Real.log 2)⁻¹ Q) (mx (causal t (Real.log 2)⁻¹ Q) n) n = den t Q := by
  rw [ws_causal t _ h]
  unfold num den
  simp

/-! ## The plain softmax -/

/-- The exponential of a causal score against the maximum. -/
theorem exp_causal (t : ℕ → ℝ) (Q k : ℕ) :
    Ideal.exp (causal t 1 Q k - ((top t Q : ℝ) : EReal)) = ((if k ≤ Q then Real.exp (t k - top t Q) else 0 : ℝ) : EReal) := by
  unfold causal
  split
  · rw [mul_one, ← EReal.coe_sub]; rfl
  · rw [sub_eq_add_neg, EReal.bot_add]; rfl

/-- The plain softmax's denominator. -/
theorem sum_exp_causal (t : ℕ → ℝ) {Q n : ℕ} (h : Q < n) :
    ∑ k ∈ range n, Ideal.exp (causal t 1 Q k - ((top t Q : ℝ) : EReal)) = (den t Q : EReal) := by
  rw [sum_congr rfl fun k _ => exp_causal t Q k, ← coe_sum, sum_causal _ h]
  rfl

/-- Dividing by the denominator. -/
theorem div_den (x : ℝ) (t : ℕ → ℝ) (Q : ℕ) : Ideal.div (x : EReal) (den t Q : EReal) = ((x / den t Q : ℝ) : EReal) := by
  rw [Ideal.div_coe (den_pos t Q).ne', ← EReal.coe_mul]
  congr 1
  ring

/-- The difference of two plain softmaxes, applied to the values. -/
theorem plain_diff (t0 t1 u : ℕ → ℝ) (lam : ℝ) {Q n : ℕ} (h : Q < n) :
    ∑ k ∈ range n, (u k : EReal) * (Ideal.div (Ideal.exp (causal t0 1 Q k - ((top t0 Q : ℝ) : EReal))) (den t0 Q : EReal)
        - (lam : EReal) * Ideal.div (Ideal.exp (causal t1 1 Q k - ((top t1 Q : ℝ) : EReal))) (den t1 Q : EReal))
      = ((num t0 u Q / den t0 Q - lam * (num t1 u Q / den t1 Q) : ℝ) : EReal) := by
  have e : ∀ k, (u k : EReal) * (Ideal.div (Ideal.exp (causal t0 1 Q k - ((top t0 Q : ℝ) : EReal))) (den t0 Q : EReal)
        - (lam : EReal) * Ideal.div (Ideal.exp (causal t1 1 Q k - ((top t1 Q : ℝ) : EReal))) (den t1 Q : EReal))
      = ((if k ≤ Q then u k * Real.exp (t0 k - top t0 Q) / den t0 Q - lam * (u k * Real.exp (t1 k - top t1 Q) / den t1 Q) else 0 : ℝ) : EReal) := by
    intro k
    rw [exp_causal, exp_causal, div_den, div_den, ← EReal.coe_mul, ← EReal.coe_sub, ← EReal.coe_mul]
    congr 1
    split
    · ring
    · simp
  rw [sum_congr rfl fun k _ => e k, ← coe_sum, sum_causal _ h]
  congr 1
  unfold num
  rw [sum_sub_distrib, ← mul_sum, ← sum_div, ← sum_div]

/-- A weighted sum times the reciprocal of the denominator. -/
theorem mul_recip (x : ℝ) (t : ℕ → ℝ) (Q : ℕ) : (x : EReal) * Ideal.div 1 (den t Q : EReal) = ((x / den t Q : ℝ) : EReal) := by
  have := div_den 1 t Q
  rw [EReal.coe_one] at this
  rw [this, ← EReal.coe_mul]
  congr 1
  ring

end Cert.Softmax

end
-- ==== Proof.Column.lean ====
/-
  One column of the kernel's online softmax: what is carried, read as maxima and weighted sums of the column's scores.
-/
module

public import proofs.«01_k».proof.Proof.OutEq
public import proofs.«01_k».proof.Proof.Softmax
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem Cert.Softmax

/-- A maximum over a tile's 512 keys, taken as 64 strided maxima of 8. -/
theorem sup_tile (f : ℕ → EReal) : Finset.fold max ⊥ (fun x : Fin 64 => Finset.fold max ⊥ (fun y : Fin 8 => f (y.val * 64 + x.val)) Finset.univ) Finset.univ
    = (Finset.range 512).sup f := by
  show (Finset.univ.sup fun x : Fin 64 => Finset.univ.sup fun y : Fin 8 => f (y.val * 64 + x.val)) = _
  refine le_antisymm (Finset.sup_le fun x _ => Finset.sup_le fun y _ => ?_) (Finset.sup_le fun k hk => ?_)
  · exact Finset.le_sup (f := f) (Finset.mem_range.mpr (by omega))
  · have hk := Finset.mem_range.mp hk
    have e : f k = (fun y : Fin 8 => f (y.val * 64 + (⟨k % 64, by omega⟩ : Fin 64).val)) ⟨k / 64, by omega⟩ := by
      show f k = f (k / 64 * 64 + k % 64)
      congr 1; omega
    rw [e]
    exact (Finset.le_sup (f := fun y : Fin 8 => f (y.val * 64 + (⟨k % 64, by omega⟩ : Fin 64).val)) (Finset.mem_univ _)).trans
      (Finset.le_sup (f := fun x : Fin 64 => Finset.univ.sup fun y : Fin 8 => f (y.val * 64 + x.val)) (Finset.mem_univ _))

/-- A sum over a tile's 512 keys, taken as 64 strided sums of 8. -/
theorem sum_tile (f : ℕ → EReal) : ∑ x : Fin 64, ∑ y : Fin 8, f (y.val * 64 + x.val) = ∑ k ∈ Finset.range 512, f k := by
  rw [Finset.sum_comm, Finset.sum_range, ← Fintype.sum_prod_type' (f := fun (y : Fin 8) (x : Fin 64) => f (y.val * 64 + x.val))]
  refine Fintype.sum_equiv (finProdFinEquiv (m := 8) (n := 64)) _ _ fun p => ?_
  show f (p.1.val * 64 + p.2.val) = f (p.2.val + 64 * p.1.val)
  congr 1; omega

/-- The largest score of a column. -/
theorem colMax_at (s : FVec Ideal S512x1024 .f32) (cc : Fin 1024) (f : ℕ → EReal) (h : ∀ k : Fin 512, s (ix2 k cc) = f k.val) :
    colMax s (ix2 0 cc) = (Finset.range 512).sup f := by
  rw [← sup_tile]
  pointwise [colMax]
  simp only [h]
  rfl

/-- The sum of a column. -/
theorem colSum_at (s : FVec Ideal S512x1024 .f32) (cc : Fin 1024) (f : ℕ → EReal) (h : ∀ k : Fin 512, s (ix2 k cc) = f k.val) :
    colSum s (ix2 0 cc) = ∑ k ∈ Finset.range 512, f k := by
  rw [← sum_tile]
  pointwise [colSum]
  simp only [h]

/-- What a unit carries in a column after the scores `σ 0 … σ (n-1)`, the values being `u`. -/
def ColAt (p : Acc Ideal) (cc : Fin 1024) (e : Fin 128) (σ : ℕ → EReal) (u : ℕ → ℝ) (n : ℕ) : Prop :=
  p.1 (ix2 0 cc) = mx σ n ∧ p.2.1 (ix2 0 cc) = ((ws (fun _ => 1) σ (mx σ n) n : ℝ) : EReal)
    ∧ p.2.2 (ix3 0 e cc) = ((ws u σ (mx σ n) n : ℝ) : EReal)

/-- One tile. -/
theorem ColAt.step {p : Acc Ideal} {cc : Fin 1024} {e : Fin 128} {σ : ℕ → EReal} {u : ℕ → ℝ} {n : ℕ} (h : ColAt p cc e σ u n)
    (hσ : ∀ k, σ k ≠ ⊤) (s : FVec Ideal S512x1024 .f32) (v : FVec Ideal S128x512 .bf16)
    (hs : ∀ k : Fin 512, s (ix2 k cc) = σ (n + k.val)) (hv : ∀ k : Fin 512, v (ix2 e k) = ((u (n + k.val) : ℝ) : EReal)) :
    ColAt (stepU s v p) cc e σ u (n + 512) := by
  obtain ⟨hm, hl, ha⟩ := h
  have em : mNext s p.1 (ix2 0 cc) = mx σ (n + 512) := by
    rw [mx_add]
    have := colMax_at s cc (fun k => σ (n + k)) hs
    pointwise [mNext]
    rw [this, hm]
  have ep : ∀ k : Fin 512, prob s p.1 (ix2 k cc) = Ideal.exp2 (σ (n + k.val) - mx σ (n + 512)) := by
    intro k
    pointwise [prob]
    rw [em, hs]
    rfl
  have ea : alpha s p.1 (ix2 0 cc) = Ideal.exp2 (mx σ n - mx σ (n + 512)) := by
    pointwise [alpha]
    rw [em, hm]
    rfl
  refine ⟨em, ?_, ?_⟩
  · show lNext s p.1 p.2.1 (ix2 0 cc) = _
    have := colSum_at (prob s p.1) cc (fun k => Ideal.exp2 (σ (n + k) - mx σ (n + 512))) ep
    rw [← ws_step (fun _ => 1) hσ n 512]
    pointwise [lNext]
    rw [this, ea, hl]
    simp only [EReal.coe_one, one_mul]
  · show aNext s p.1 v p.2.2 (ix3 0 e cc) = _
    rw [← ws_step u hσ n 512, Finset.sum_range]
    have : aNext s p.1 v p.2.2 (ix3 0 e cc) = alpha s p.1 (ix2 0 cc) * p.2.2 (ix3 0 e cc) + ∑ x : Fin 512, v (ix2 e x) * prob s p.1 (ix2 x cc) := by
      pointwise [aNext]
    rw [this, ea, ha]
    congr 1
    exact Finset.sum_congr rfl fun x _ => by rw [hv, ep]

/-- Only the scores taken so far matter. -/
theorem ColAt.congr {p : Acc Ideal} {cc : Fin 1024} {e : Fin 128} {σ σ' : ℕ → EReal} {u : ℕ → ℝ} {n : ℕ} (h : ColAt p cc e σ u n)
    (hs : ∀ k, k < n → σ k = σ' k) : ColAt p cc e σ' u n := by
  have em : mx σ n = mx σ' n := Finset.sup_congr rfl fun k hk => hs k (Finset.mem_range.mp hk)
  have ew : ∀ v : ℕ → ℝ, ws v σ (mx σ n) n = ws v σ' (mx σ' n) n := fun v => by
    unfold ws
    rw [em]
    exact Finset.sum_congr rfl fun k hk => by rw [hs k (Finset.mem_range.mp hk)]
  obtain ⟨a, b, c⟩ := h
  exact ⟨a.trans em, b.trans (by rw [ew]), c.trans (by rw [ew])⟩

/-- A column's score with key `k`. -/
def colScore (w : FVec Ideal S1024x128 .bf16) (x2 : Vec Ideal S1x4x8192x128 .bf16) (u : Fin 4) (cc : Fin 1024) (k : ℕ) : EReal :=
  ∑ d : Fin 128, x2 (ix4 0 u ⟨k % 8192, Nat.mod_lt _ (by decide)⟩ d) * w (ix2 cc d)

/-- Feature `e` of the value of key `k`. -/
def colVal (x3 : Vec Ideal S1x4x32x128x256 .bf16) (u : Fin 4) (e : Fin 128) (k : ℕ) : EReal :=
  x3 (ix5 0 u ⟨(k / 256) % 32, Nat.mod_lt _ (by decide)⟩ e ⟨k % 256, Nat.mod_lt _ (by decide)⟩)

/-- A tile's scores. -/
theorem scores_at (w : FVec Ideal S1024x128 .bf16) (x2 : Vec Ideal S1x4x8192x128 .bf16) (u : Fin 4) (n : ℕ) (k : Fin 512) (cc : Fin 1024) :
    scores w (keyTile x2 u n) (ix2 k cc) = colScore w x2 u cc (512 * n + k.val) := by
  pointwise [scores]
  rfl

/-- A tile's values. -/
theorem vals_at (x3 : Vec Ideal S1x4x32x128x256 .bf16) (u : Fin 4) (n : ℕ) (e : Fin 128) (k : Fin 512) :
    vals (valTile x3 u n 0) (valTile x3 u n 1) (ix2 e k) = colVal x3 u e (512 * n + k.val) := by
  have hk := k.isLt
  unfold colVal
  by_cases h : k.val < 256
  · have e1 : (512 * n + k.val) / 256 = 2 * n + 0 := by omega
    have e2 : (512 * n + k.val) % 256 = k.val := by omega
    simp only [e1, e2]
    pointwise [vals]
    simp only [h, dif_pos]
    rfl
  · have e1 : (512 * n + k.val) / 256 = 2 * n + 1 := by omega
    have e2 : (512 * n + k.val) % 256 = k.val - 256 := by omega
    simp only [e1, e2]
    pointwise [vals]
    simp only [h, dif_neg, not_false_eq_true]
    rfl

/-- What a unit carries in a column after its first `n` tiles. -/
theorem run_col (w : FVec Ideal S1024x128 .bf16) (x2 : Vec Ideal S1x4x8192x128 .bf16) (x3 : Vec Ideal S1x4x32x128x256 .bf16) (u : Fin 4)
    (cc : Fin 1024) (e : Fin 128) (v : ℕ → ℝ) (hσ : ∀ k, colScore w x2 u cc k ≠ ⊤) (hv : ∀ k, colVal x3 u e k = ((v k : ℝ) : EReal)) (n : ℕ) :
    ColAt (runU w x2 x3 u n) cc e (colScore w x2 u cc) v (512 * n) := by
  induction n with
  | zero =>
    refine ⟨?_, ?_, ?_⟩
    · rfl
    · show Ideal.ofBits .f32 0x00000000#32 = _
      simp [ws]
    · show Ideal.ofBits .f32 0x00000000#32 = _
      simp [ws]
  | succ n ih =>
    exact ih.step hσ _ _ (fun k => scores_at w x2 u n k cc) (fun k => (vals_at x3 u n e k).trans (hv _))

end Cert.KernelIdeal.Att

end
-- ==== Proof.Unit.lean ====
/-
  One unit of the kernel at a grid point: its scores over real queries and keys, its columns after the diagonal tile,
  and its output.
-/
module

public import proofs.«01_k».proof.Proof.Column

@[expose] public section

set_option maxRecDepth 16384

noncomputable section

namespace Cert.Softmax

open Idealize.ShloMosaic

/-- The inner product of the halves `h` of two rows of 128. -/
def halfDot (h : Fin 2) (a b : Fin 128 → ℝ) : ℝ := ∑ d : Fin 64, a ⟨64 * h.val + d.val, by omega⟩ * b ⟨64 * h.val + d.val, by omega⟩

/-- The inner product with a row zeroed outside its half `h` is the half's. -/
theorem sum_pad (h : Fin 2) (a b : Fin 128 → ℝ) (c : ℝ) (w : Fin 128 → EReal) (hw : ∀ d, w d = if d.val / 64 = h.val then ((b d * c : ℝ) : EReal) else 0) :
    ∑ d : Fin 128, (a d : EReal) * w d = ((halfDot h a b * c : ℝ) : EReal) := by
  have e : ∀ d, (a d : EReal) * w d = ((if d.val / 64 = h.val then a d * b d * c else 0 : ℝ) : EReal) := by
    intro d
    rw [hw]
    split
    · rw [← EReal.coe_mul, mul_assoc]
    · simp
  rw [Finset.sum_congr rfl fun d _ => e d, ← coe_sum]
  congr 1
  unfold halfDot
  rw [Finset.sum_mul]
  refine (Fin.sum_univ_add (a := 64) (b := 64) (fun d : Fin (64 + 64) => if d.val / 64 = h.val then a d * b d * c else 0)).trans ?_
  match h with
  | ⟨0, _⟩ =>
    rw [Finset.sum_eq_zero (s := Finset.univ) (f := fun i : Fin 64 => if (Fin.natAdd 64 i).val / 64 = 0 then a (Fin.natAdd 64 i) * b (Fin.natAdd 64 i) * c else 0), add_zero]
    · refine Finset.sum_congr rfl fun d _ => ?_
      rw [if_pos (by show d.val / 64 = 0; omega)]
      have : (Fin.castAdd 64 d : Fin (64 + 64)) = ⟨64 * 0 + d.val, by omega⟩ := by apply Fin.ext; show d.val = 64 * 0 + d.val; omega
      rw [this]
    · intro d _
      rw [if_neg (by show ¬ (64 + d.val) / 64 = 0; omega)]
  | ⟨1, _⟩ =>
    rw [Finset.sum_eq_zero (s := Finset.univ) (f := fun i : Fin 64 => if (Fin.castAdd 64 i).val / 64 = 1 then a (Fin.castAdd 64 i) * b (Fin.castAdd 64 i) * c else 0), zero_add]
    · refine Finset.sum_congr rfl fun d _ => ?_
      rw [if_pos (by show (64 + d.val) / 64 = 1; omega)]
      have : (Fin.natAdd 64 d : Fin (64 + 64)) = ⟨64 * 1 + d.val, by omega⟩ := by apply Fin.ext; show 64 + d.val = 64 * 1 + d.val; omega
      rw [this]
    · intro d _
      rw [if_neg (by show ¬ d.val / 64 = 1; omega)]

/-- The finish: the row's root mean square norm, the norm weight, the fixed scale and the gate. -/
def finish (o : Fin 128 → EReal) (sub gate : EReal) (d : Fin 128) : EReal :=
  o d * Ideal.rsqrt (Ideal.div (∑ x : Fin 128, o x * o x) (Ideal.ofBits .f32 0x43000000#32) + Ideal.ofBits .f32 0x3727C5AC#32) * sub
    * Ideal.ofBits .f32 0x3F4CCCCD#32 * gate

end Cert.Softmax

namespace Cert.KernelIdeal.Att

open Cert.KernelIdeal Cert.KernelIdeal.Gen Idealize.ShloMosaic Idealize.ShloMosaic.TcCoe Idealize.ShloMosaic.Tactic Idealize.SL.Sem Cert.Softmax

/-- A selection by a comparison whose bit is known. -/
theorem select_of {α : Type} {c : BitVec 1} {P : Prop} [Decidable P] (h : c = BitVec.ofBool (decide P)) (a b : α) :
    Scalar.select c a b = if P then a else b := by
  subst h
  unfold Scalar.select
  by_cases hp : P <;> simp [hp]

/-- The natural logarithm's constant at the extended reals. -/
theorem log2e_eq (b : BitVec (FTy.bits .f32)) : (Named.named κ "log2e" b : Ideal .f32) = (((Real.log 2)⁻¹ : ℝ) : EReal) := rfl

/-- The prepared queries of a unit: in the first 512 columns the first half of each query, in the others the second. -/
theorem query_at (x1 : Vec Ideal S1x4x512x128 .f32) (u : Fin 4) (cc : Fin 1024) (d : Fin 128) (q : Fin 512 → Fin 128 → ℝ)
    (hq : ∀ r d, x1 (ix4 0 u r d) = ((q r d : ℝ) : EReal)) :
    k0_pay58 (qTile x1 u) (ix2 cc d) = if d.val / 64 = cc.val / 512 then ((q ⟨cc.val % 512, Nat.mod_lt _ (by decide)⟩ d * (Real.log 2)⁻¹ : ℝ) : EReal) else 0 := by
  have hc := cc.isLt
  have hd := d.isLt
  have e : ∀ r : Fin 512, qTile x1 u (ix4 0 0 r d) * (((Real.log 2)⁻¹ : ℝ) : EReal) = ((q r d * (Real.log 2)⁻¹ : ℝ) : EReal) := fun r => by
    rw [show qTile x1 u (ix4 0 0 r d) = x1 (ix4 0 u r d) from rfl, hq, ← EReal.coe_mul]
  pointwise [k0_pay58]
  by_cases h : cc.val < 512
  · rw [dif_pos h]
    have hs := select_of (α := EReal) (P := d.val < 64) (WordCmp.cmpi_slt_ofNat (w := 32) (a := d.val) (b := 64) (by omega) (by omega))
    refine (hs _ _).trans ?_
    refine (congrArg (fun y => if d.val < 64 then y else 0) (e ⟨cc.val, h⟩)).trans ?_
    have i1 : (⟨cc.val, h⟩ : Fin 512) = ⟨cc.val % 512, Nat.mod_lt _ (by decide)⟩ := Fin.ext (Nat.mod_eq_of_lt h).symm
    rw [i1]
    exact if_congr (by omega) rfl rfl
  · rw [dif_neg h]
    have hs := select_of (α := EReal) (P := 64 ≤ d.val) (WordCmp.cmpi_sge_ofNat (w := 32) (a := d.val) (b := 64) (by omega) (by omega))
    refine (hs _ _).trans ?_
    refine (congrArg (fun y => if 64 ≤ d.val then y else 0) (e ⟨cc.val - 512, by omega⟩)).trans ?_
    have i1 : (⟨cc.val - 512, by omega⟩ : Fin 512) = ⟨cc.val % 512, Nat.mod_lt _ (by decide)⟩ := Fin.ext (by show cc.val - 512 = cc.val % 512; omega)
    rw [i1]
    exact if_congr (by omega) rfl rfl

/-- The mask's constant is minus infinity. -/
theorem ofBits_ninf : Ideal.ofBits .f32 0xFF800000#32 = ⊥ := by simp [Ideal.ofBits, Ideal.ieee]

/-- The mask at a position of the diagonal tile. -/
theorem masked_at (s : FVec Ideal S512x1024 .f32) (k : Fin 512) (cc : Fin 1024) :
    masked s (ix2 k cc) = if k.val ≤ cc.val % 512 then s (ix2 k cc) else ⊥ := by
  have hk := k.isLt
  have hc := cc.isLt
  pointwise [masked, k0_pay86]
  have e : Scalar.select (IntOp.cmpi .sge (BitVec.ofNat 32 cc.val) 512#32) (IntOp.subi (BitVec.ofNat 32 cc.val) 512#32) (BitVec.ofNat 32 cc.val) = BitVec.ofNat 32 (cc.val % 512) := by
    rw [select_of (P := 512 ≤ cc.val) (WordCmp.cmpi_sge_ofNat (w := 32) (a := cc.val) (b := 512) (by omega) (by omega))]
    split
    · apply BitVec.eq_of_toNat_eq
      show ((BitVec.ofNat 32 cc.val) - 512#32).toNat = _
      rw [BitVec.toNat_sub, BitVec.toNat_ofNat, BitVec.toNat_ofNat, BitVec.toNat_ofNat]
      omega
    · congr 1; omega
  rw [e]
  refine (select_of (α := EReal) (P := k.val ≤ cc.val % 512) (WordCmp.cmpi_sle_ofNat (w := 32) (a := k.val) (b := cc.val % 512) (by omega) (by omega)) _ _).trans ?_
  rw [ofBits_ninf]

section Unit
variable (x0 : Vec Ideal S1x1 .f32) (x1 : Vec Ideal S1x4x512x128 .f32) (x2 : Vec Ideal S1x4x8192x128 .bf16) (x3 : Vec Ideal S1x4x32x128x256 .bf16)
  (x4 : Vec Ideal S1x512x512 .bf16) (x5 : Vec Ideal S128x1 .f32) (u : Fin 4)
  (q : Fin 512 → Fin 128 → ℝ) (k v : ℕ → Fin 128 → ℝ)
  (hq : ∀ r d, x1 (ix4 0 u r d) = ((q r d : ℝ) : EReal))
  (hk : ∀ n d, x2 (ix4 0 u ⟨n % 8192, Nat.mod_lt _ (Nat.zero_lt_succ 8191)⟩ d) = ((k n d : ℝ) : EReal))
  (hv : ∀ n d, colVal x3 u d n = ((v n d : ℝ) : EReal))
include hq hk

/-- A column's scores are the half inner products, scaled. -/
theorem colScore_eq (h : Fin 2) (r : Fin 512) (n : ℕ) :
    colScore (k0_pay58 (qTile x1 u)) x2 u ⟨512 * h.val + r.val, by omega⟩ n = ((halfDot h (k n) (q r) * (Real.log 2)⁻¹ : ℝ) : EReal) := by
  unfold colScore
  rw [Finset.sum_congr rfl fun d _ => congrArg (· * _) (hk n d)]
  refine sum_pad h (k n) (q r) _ _ fun d => ?_
  rw [query_at x1 u _ d q hq]
  have i1 : (⟨(512 * h.val + r.val) % 512, Nat.mod_lt _ (by decide)⟩ : Fin 512) = r := Fin.ext (by show (512 * h.val + r.val) % 512 = r.val; omega)
  have i2 : (512 * h.val + r.val) / 512 = h.val := by omega
  show (if d.val / 64 = (512 * h.val + r.val) / 512 then ((q ⟨(512 * h.val + r.val) % 512, Nat.mod_lt _ (by decide)⟩ d * (Real.log 2)⁻¹ : ℝ) : EReal) else 0) = _
  rw [i1, i2]

include hv

/-- After the diagonal tile a column holds the causal softmax's sums. -/
theorem end_col (h : Fin 2) (r : Fin 512) (e : Fin 128) (j : ℕ) :
    (endU x1 x2 x3 u j).2.1 (ix2 0 ⟨512 * h.val + r.val, by omega⟩) = ((den (fun n => halfDot h (k n) (q r)) (512 * j + r.val) : ℝ) : EReal)
      ∧ (endU x1 x2 x3 u j).2.2 (ix3 0 e ⟨512 * h.val + r.val, by omega⟩)
        = ((num (fun n => halfDot h (k n) (q r)) (fun n => v n e) (512 * j + r.val) : ℝ) : EReal) := by
  have hr := r.isLt
  have hs := colScore_eq x1 x2 u q k hq hk h r
  have h1 := run_col (k0_pay58 (qTile x1 u)) x2 x3 u ⟨512 * h.val + r.val, by omega⟩ e (fun n => v n e)
    (fun n => by rw [hs]; exact EReal.coe_ne_top _) (fun n => hv n e) j
  have h2 := h1.congr (σ' := causal (fun n => halfDot h (k n) (q r)) (Real.log 2)⁻¹ (512 * j + r.val)) fun n hn => by
    rw [hs]; unfold causal; rw [if_pos (by omega)]
  have h3 := h2.step (causal_ne_top _ _ _) (masked (scores (k0_pay58 (qTile x1 u)) (keyTile x2 u j))) (vals (valTile x3 u j 0) (valTile x3 u j 1))
    (fun n => by
      rw [masked_at, scores_at, hs]
      unfold causal
      refine if_congr ?_ rfl rfl
      show n.val ≤ (512 * h.val + r.val) % 512 ↔ _
      omega)
    (fun n => (vals_at x3 u j e n).trans (hv _ _))
  obtain ⟨-, a, b⟩ := h3
  rw [ws_one_causal _ (by omega)] at a
  rw [ws_causal _ _ (by omega)] at b
  exact ⟨a, b⟩

/-- The unit's output: the finish of the difference of the two causal softmaxes. -/
theorem out_at (lam : ℝ) (hlam : x0 (ix2 0 0) = (lam : EReal)) (j : ℕ) (r : Fin 512) (d : Fin 128) :
    outU x0 x1 x2 x3 x4 x5 u j (ix3 0 r d) = finish (fun e => ((num (fun n => halfDot 0 (k n) (q r)) (fun n => v n e) (512 * j + r.val) / den (fun n => halfDot 0 (k n) (q r)) (512 * j + r.val)
      - lam * (num (fun n => halfDot 1 (k n) (q r)) (fun n => v n e) (512 * j + r.val) / den (fun n => halfDot 1 (k n) (q r)) (512 * j + r.val)) : ℝ) : EReal))
      (x5 (ix2 d 0)) (gTile x4 u (ix3 0 r d)) d := by
  have h0 := fun e => end_col x1 x2 x3 u q k v hq hk hv 0 r e j
  have h1 := fun e => end_col x1 x2 x3 u q k v hq hk hv 1 r e j
  unfold outU
  rw [hlam]
  generalize endU x1 x2 x3 u j = p at h0 h1
  have i0 : (⟨512 * (0 : Fin 2).val + r.val, by omega⟩ : Fin 1024) = ⟨r.val, by omega⟩ := Fin.ext (by show 512 * 0 + r.val = r.val; omega)
  have i1 : (⟨512 * (1 : Fin 2).val + r.val, by omega⟩ : Fin 1024) = ⟨512 + r.val, by omega⟩ := Fin.ext (by show 512 * 1 + r.val = 512 + r.val; omega)
  rw [i0] at h0
  rw [i1] at h1
  have key : ∀ e, p.2.2 (ix3 0 e ⟨r.val, by omega⟩) * Ideal.div 1 (p.2.1 (ix2 0 ⟨r.val, by omega⟩))
        - (lam : EReal) * (p.2.2 (ix3 0 e ⟨512 + r.val, by omega⟩) * Ideal.div 1 (p.2.1 (ix2 0 ⟨512 + r.val, by omega⟩)))
      = ((num (fun n => halfDot 0 (k n) (q r)) (fun n => v n e) (512 * j + r.val) / den (fun n => halfDot 0 (k n) (q r)) (512 * j + r.val)
      - lam * (num (fun n => halfDot 1 (k n) (q r)) (fun n => v n e) (512 * j + r.val) / den (fun n => halfDot 1 (k n) (q r)) (512 * j + r.val)) : ℝ) : EReal) := fun e => by
    rw [(h0 e).1, (h0 e).2, (h1 e).1, (h1 e).2, mul_recip, mul_recip, ← EReal.coe_mul, ← EReal.coe_sub]
  pointwise [k0_pay130, k0_pay129]
  unfold finish
  simp only [key]

end Unit

end Cert.KernelIdeal.Att

end
-- ==== Proof.Result.lean ====
/-
  The result of the attention, element by element, from the arrays the program is given; and the blocks a grid
  point is given, as entries of those arrays.
-/
module

public import proofs.«01_k».proof.Proof.Unit
public import Idealize.ShloMosaic.Lib.StableHlo.ReadAt
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem
open Cert.Softmax

/-- Every element of an array is a real number. -/
def AllReal {s : Shape} (x : s.Idx → EReal) : Prop := ∀ y, x y = ((x y).toReal : EReal)

/-- Row `n` of head pair `H` of batch element `b`, as reals: the two heads of the pair side by side. -/
def pairRow (x : Vec Ideal S2x8192x16x64 .f32) (b : Fin 2) (H : Fin 8) (n : ℕ) (d : Fin 128) : ℝ :=
  (x (ix4 b ⟨n % 8192, Nat.mod_lt _ (by decide)⟩ ⟨H.val * 2 + d.val / 64, by omega⟩ ⟨d.val % 64, Nat.mod_lt _ (by decide)⟩) : EReal).toReal

/-- Row `n` of the values of head pair `H`, as reals. -/
def valRow (x : Vec Ideal S2x8192x8x128 .f32) (b : Fin 2) (H : Fin 8) (n : ℕ) (d : Fin 128) : ℝ :=
  (x (ix4 b ⟨n % 8192, Nat.mod_lt _ (by decide)⟩ H d) : EReal).toReal

/-- Element `e` of the difference of the two heads' attention at position `Q`. -/
def attend (lam : ℝ) (q : Fin 128 → ℝ) (k v : ℕ → Fin 128 → ℝ) (Q : ℕ) (e : Fin 128) : ℝ :=
  num (fun n => halfDot 0 (k n) q) (fun n => v n e) Q / den (fun n => halfDot 0 (k n) q) Q
    - lam * (num (fun n => halfDot 1 (k n) q) (fun n => v n e) Q / den (fun n => halfDot 1 (k n) q) Q)

/-- The result at batch element `b`, position `Q`, head pair `H`, element `d` of the pair. -/
def resultAt (x0 : Vec Ideal S1 .f32) (x1 x2 : Vec Ideal S2x8192x16x64 .f32) (x3 : Vec Ideal S2x8192x8x128 .f32)
    (x4 : Vec Ideal S2x8192x1024 .bf16) (x5 : Vec Ideal S128 .f32) (b : Fin 2) (Q : Fin 8192) (H : Fin 8) (d : Fin 128) : EReal :=
  finish (fun e => ((attend (x0 (ix1 0) : EReal).toReal (pairRow x1 b H Q.val) (pairRow x2 b H) (valRow x3 b H) Q.val e : ℝ) : EReal))
    (x5 (ix1 d)) (x4 (ix3 b Q ⟨128 * H.val + d.val, by omega⟩)) d

/-- The result array. -/
def result (x0 : Vec Ideal S1 .f32) (x1 x2 : Vec Ideal S2x8192x16x64 .f32) (x3 : Vec Ideal S2x8192x8x128 .f32)
    (x4 : Vec Ideal S2x8192x1024 .bf16) (x5 : Vec Ideal S128 .f32) : Vec Ideal S2x8192x1024 .bf16 := fun y =>
  resultAt x0 x1 x2 x3 x4 x5 (y 0) (y 1) ⟨(y 2).val / 128, by have := (y 2).isLt; simp at this; omega⟩ ⟨(y 2).val % 128, Nat.mod_lt _ (by decide)⟩

section Blocks

variable (m : (ℓ : Loc nD τ sig) → Buf (Elt Ideal) ℓ) (c : Dev nD) (t : Fin cfg0.N)

/-- The blocks' places. -/
theorem idx0 : ∀ t : Fin cfg0.N, win0_1.index t = ![(grid0.coords t 0).val, (grid0.coords t 1).val, (grid0.coords t 2).val, 0]
    ∧ win0_2.index t = ![(grid0.coords t 0).val, (grid0.coords t 1).val, 0, 0]
    ∧ win0_3.index t = ![(grid0.coords t 0).val, (grid0.coords t 1).val, 0, 0, 0]
    ∧ win0_4.index t = ![(grid0.coords t 0).val, (grid0.coords t 2).val, (grid0.coords t 1).val]
    ∧ win0_6.index t = ![(grid0.coords t 0).val, (grid0.coords t 2).val, (grid0.coords t 1).val]
    ∧ win0_0.index t = ![0, 0] ∧ win0_5.index t = ![0, 0] :=
  (by decide +kernel : ∀ t : Fin grid0.N, win0_1.index t = ![(grid0.coords t 0).val, (grid0.coords t 1).val, (grid0.coords t 2).val, 0]
    ∧ win0_2.index t = ![(grid0.coords t 0).val, (grid0.coords t 1).val, 0, 0]
    ∧ win0_3.index t = ![(grid0.coords t 0).val, (grid0.coords t 1).val, 0, 0, 0]
    ∧ win0_4.index t = ![(grid0.coords t 0).val, (grid0.coords t 2).val, (grid0.coords t 1).val]
    ∧ win0_6.index t = ![(grid0.coords t 0).val, (grid0.coords t 2).val, (grid0.coords t 1).val]
    ∧ win0_0.index t = ![0, 0] ∧ win0_5.index t = ![0, 0])

/-- The transposed queries at an index. -/
theorem V_q (b : Fin 2) (H : Fin 8) (n : Fin 8192) (d : Fin 128) :
    V m c main_v1 (ix4 b H n d) = m ((c : Thread nD τ).loc main_arg1) (ix4 b n ⟨H.val * 2 + d.val / 64, by omega⟩ ⟨d.val % 64, Nat.mod_lt _ (by decide)⟩) := by
  unfold V
  after_reads_at

/-- The transposed keys at an index. -/
theorem V_k (b : Fin 2) (H : Fin 8) (n : Fin 8192) (d : Fin 128) :
    V m c main_v4 (ix4 b H n d) = m ((c : Thread nD τ).loc main_arg2) (ix4 b n ⟨H.val * 2 + d.val / 64, by omega⟩ ⟨d.val % 64, Nat.mod_lt _ (by decide)⟩) := by
  unfold V
  after_reads_at

/-- The transposed values at an index. -/
theorem V_v (b : Fin 2) (H : Fin 8) (a : Fin 32) (e : Fin 128) (x : Fin 256) :
    V m c main_v7 (ix5 b H a e x) = m ((c : Thread nD τ).loc main_arg3) (ix4 b ⟨a.val * 256 + x.val, by omega⟩ H e) := by
  unfold V
  after_reads_at

/-- The scalar at its index. -/
theorem V_lam : V m c main_v8 (ix2 0 0) = m ((c : Thread nD τ).loc main_arg0) (ix1 0) := by
  unfold V
  after_reads_at

/-- The norm's weight at an index. -/
theorem V_sub (d : Fin 128) : V m c main_v9 (ix2 d 0) = m ((c : Thread nD τ).loc main_arg5) (ix1 d) := by
  unfold V
  after_reads_at

/-- The head pair of unit `u` at a point. -/
def pairOf (t : Fin cfg0.N) (u : Fin 4) : Fin 8 := ⟨(4 * (grid0.coords t 1).val + u.val) % 8, Nat.mod_lt _ (by decide)⟩

/-- The batch element of a point. -/
def batchOf (t : Fin cfg0.N) : Fin 2 := ⟨(grid0.coords t 0).val, (grid0.coords t 0).isLt⟩

/-- The position of row `r` of a point. -/
def posOf (t : Fin cfg0.N) (r : Fin 512) : Fin 8192 := ⟨(512 * (grid0.coords t 2).val + r.val) % 8192, Nat.mod_lt _ (by decide)⟩

theorem lt1 (t : Fin cfg0.N) : (grid0.coords t 1).val < 2 := (grid0.coords t 1).isLt
theorem lt2 (t : Fin cfg0.N) : (grid0.coords t 2).val < 16 := (grid0.coords t 2).isLt
theorem lt0 (t : Fin cfg0.N) : (grid0.coords t 0).val < 2 := (grid0.coords t 0).isLt

theorem pairOf_val (t : Fin cfg0.N) (u : Fin 4) : (pairOf t u).val = 4 * (grid0.coords t 1).val + u.val := by
  have := lt1 t
  exact Nat.mod_eq_of_lt (by omega)

theorem posOf_val (t : Fin cfg0.N) (r : Fin 512) : (posOf t r).val = 512 * (grid0.coords t 2).val + r.val := by
  have := lt2 t
  exact Nat.mod_eq_of_lt (by omega)

/-- The query block of a point. -/
theorem blk_q (u : Fin 4) (r : Fin 512) (d : Fin 128) :
    iblk m c 1 t (ix4 0 u r d) = V m c main_v1 (ix4 (batchOf t) (pairOf t u) (posOf t r) d) := by
  have h1 := pairOf_val t u
  have h2 := posOf_val t r
  have h3 := (idx0 t).1
  blk_ext [iblk, h3, h1, h2, batchOf]

/-- The key block of a point. -/
theorem blk_k (u : Fin 4) (n : Fin 8192) (d : Fin 128) :
    iblk m c 2 t (ix4 0 u n d) = V m c main_v4 (ix4 (batchOf t) (pairOf t u) n d) := by
  have h1 := pairOf_val t u
  have h3 := (idx0 t).2.1
  blk_ext [iblk, h3, h1, batchOf]

/-- The value block of a point. -/
theorem blk_v (u : Fin 4) (a : Fin 32) (e : Fin 128) (x : Fin 256) :
    iblk m c 3 t (ix5 0 u a e x) = V m c main_v7 (ix5 (batchOf t) (pairOf t u) a e x) := by
  have h1 := pairOf_val t u
  have h3 := (idx0 t).2.2.1
  blk_ext [iblk, h3, h1, batchOf]

/-- The gate block of a point. -/
theorem blk_g (u : Fin 4) (r : Fin 512) (d : Fin 128) :
    gTile (iblk m c 4 t) u (ix3 0 r d) = V m c main_arg4 (ix3 (batchOf t) (posOf t r) ⟨128 * (pairOf t u).val + d.val, by omega⟩) := by
  have h1 := pairOf_val t u
  have h2 := posOf_val t r
  have h3 := (idx0 t).2.2.2.1
  show iblk m c 4 t (ix3 0 r ⟨(128 * u.val + d.val) % 512, _⟩) = _
  blk_ext [iblk, h3, h1, h2, batchOf]

/-- The scalar's block. -/
theorem blk_lam : iblk m c 0 t (ix2 0 0) = V m c main_v8 (ix2 0 0) := by
  have h3 := (idx0 t).2.2.2.2.2.1
  blk_ext [iblk, h3]

/-- The weight's block. -/
theorem blk_sub (d : Fin 128) : iblk m c 5 t (ix2 d 0) = V m c main_v9 (ix2 d 0) := by
  have h3 := (idx0 t).2.2.2.2.2.2
  blk_ext [iblk, h3]

/-- A unit's slice of what the body leaves at a point is the result's entries at the point's place. -/
theorem unit_blk (u : Fin 4) (r : Fin 512) (d : Fin 128)
    (h0 : AllReal (s := S1) (m ((c : Thread nD τ).loc main_arg0)))
    (h1 : AllReal (s := S2x8192x16x64) (m ((c : Thread nD τ).loc main_arg1)))
    (h2 : AllReal (s := S2x8192x16x64) (m ((c : Thread nD τ).loc main_arg2)))
    (h3 : AllReal (s := S2x8192x8x128) (m ((c : Thread nD τ).loc main_arg3))) :
    outU (iblk m c 0 t) (iblk m c 1 t) (iblk m c 2 t) (iblk m c 3 t) (iblk m c 4 t) (iblk m c 5 t) u (grid0.coords t 2).val (ix3 0 r d)
      = resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (batchOf t) (posOf t r) (pairOf t u) d := by
  refine (out_at (iblk m c 0 t) (iblk m c 1 t) (iblk m c 2 t) (iblk m c 3 t) (iblk m c 4 t) (iblk m c 5 t) u
    (fun r => pairRow (m ((c : Thread nD τ).loc main_arg1)) (batchOf t) (pairOf t u) (posOf t r).val)
    (pairRow (m ((c : Thread nD τ).loc main_arg2)) (batchOf t) (pairOf t u))
    (valRow (m ((c : Thread nD τ).loc main_arg3)) (batchOf t) (pairOf t u)) ?_ ?_ ?_
    (m ((c : Thread nD τ).loc main_arg0) (ix1 0) : EReal).toReal ?_ (grid0.coords t 2).val r d).trans ?_
  · intro r d
    rw [blk_q, V_q, h1]
    have e : (⟨(posOf t r).val % 8192, Nat.mod_lt _ (by decide)⟩ : Fin 8192) = posOf t r := Fin.ext (Nat.mod_eq_of_lt (posOf t r).isLt)
    unfold pairRow
    rw [e]
  · intro n d
    rw [blk_k, V_k, h2]
    rfl
  · intro n d
    unfold colVal
    rw [blk_v, V_v, h3]
    have e : (⟨n / 256 % 32 * 256 + n % 256, by omega⟩ : Fin 8192) = ⟨n % 8192, Nat.mod_lt _ (by decide)⟩ := Fin.ext (by show n / 256 % 32 * 256 + n % 256 = n % 8192; omega)
    unfold valRow
    rw [← e]
  · rw [blk_lam, V_lam]; exact h0 _
  · rw [blk_sub, blk_g, V_sub, V_main_arg4, ← posOf_val]
    rfl

/-- What the body leaves at a point, at its index in the block. -/
theorem outs_blk (u : Fin 4) (r : Fin 512) (d : Fin 128) :
    outsAt0 m c t (ix3 0 r ⟨128 * u.val + d.val, by omega⟩)
      = outU (iblk m c 0 t) (iblk m c 1 t) (iblk m c 2 t) (iblk m c 3 t) (iblk m c 4 t) (iblk m c 5 t) u (grid0.coords t 2).val (ix3 0 r d) := by
  unfold outsAt0
  match u with
  | ⟨0, _⟩ => exact out_0 c (grid0.coords t) _ _ _ _ _ _ _ _ _ _ _ _ _ _ _ _ _ _ _ _ _ _ r d
  | ⟨1, _⟩ => exact out_1 c (grid0.coords t) _ _ _ _ _ _ _ _ _ _ _ _ _ _ _ _ _ _ _ _ _ _ r d
  | ⟨2, _⟩ => exact out_2 c (grid0.coords t) _ _ _ _ _ _ _ _ _ _ _ _ _ _ _ _ _ _ _ _ _ _ r d
  | ⟨3, _⟩ => exact out_3 c (grid0.coords t) _ _ _ _ _ _ _ _ _ _ _ _ _ _ _ _ _ _ _ _ _ _ r d

/-- The output array after the run is the result. -/
theorem arr_result
    (h0 : AllReal (s := S1) (m ((c : Thread nD τ).loc main_arg0)))
    (h1 : AllReal (s := S2x8192x16x64) (m ((c : Thread nD τ).loc main_arg1)))
    (h2 : AllReal (s := S2x8192x16x64) (m ((c : Thread nD τ).loc main_arg2)))
    (h3 : AllReal (s := S2x8192x8x128) (m ((c : Thread nD τ).loc main_arg3))) :
    (dats m 0 c).arrAt 6 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have hi := (idx0 t).2.2.2.2.1
  blk_simp
  rw [after0_6]
  obtain ⟨z, r, x, rfl⟩ : ∃ (z : Fin 1) (r x : Fin 512), y = ix3 z r x := ⟨y 0, y 1, y 2, by funext a; match a with | ⟨0, _⟩ => rfl | ⟨1, _⟩ => rfl | ⟨2, _⟩ => rfl⟩
  obtain rfl : z = 0 := Subsingleton.elim _ _
  have hx : x = ⟨128 * (⟨x.val / 128, by omega⟩ : Fin 4).val + (⟨x.val % 128, Nat.mod_lt _ (by decide)⟩ : Fin 128).val, by dsimp; omega⟩ := Fin.ext (by dsimp; omega)
  conv_lhs => rw [hx]
  rw [outs_blk, unit_blk m c t _ _ _ h0 h1 h2 h3]
  unfold result
  have hp := pairOf_val t ⟨x.val / 128, by omega⟩
  have hr := posOf_val t r
  congr 1
  · apply Fin.ext; blk_simp [hi]; simp [batchOf]
  · apply Fin.ext; blk_simp [hi]; simp; omega
  · apply Fin.ext; blk_simp [hi]; simp at *; omega
  · apply Fin.ext; blk_simp [hi]; simp at *; omega

end Blocks

end Cert.KernelIdeal.Att

end
-- ==== Proof.Plain.lean ====
/-
  The reference, stage by stage, and each stage at an index.
-/
module

public import proofs.«01_k».proof.Proof.Gen.ReferenceIdeal.Run
public import proofs.«01_k».proof.Proof.Result
public import Idealize.ShloMosaic.Lib.Pointwise
public import Idealize.ShloMosaic.Lib.StableHlo.ReadAt

@[expose] public section

set_option maxRecDepth 16384

noncomputable section

namespace Cert.ReferenceIdeal.Plain

open Cert.ReferenceIdeal Cert.ReferenceIdeal.Gen Idealize.ShloMosaic Idealize.ShloMosaic.TcCoe Idealize.ShloMosaic.Tactic Idealize.SL.Sem
open Cert.Softmax

/-- The causal mask. -/
def mask : IVec S2x16x8192x8192 1 :=
  broadcastInDim S2x16x8192x8192 ![0, 1, 2, 3] bcast_S1x1x8192x8192_S2x16x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))

/-- The masked scores. -/
def score (q k : FVec Ideal S2x8192x16x64 .f32) : FVec Ideal S2x16x8192x8192 .f32 :=
  select mask (Host.dotGeneral dot_S2x8192x16x64_S2x8192x16x64_S2x16x8192x8192_3_3_1_1_02_02 none q k) (broadcastInDim S2x16x8192x8192 ![] bcast_S_S2x16x8192x8192 (id (constant S_ .f32 0xFF800000#32)))

/-- Each row's maximum. -/
def rowMax (s : FVec Ideal S2x16x8192x8192 .f32) : FVec Ideal S2x16x8192 .f32 :=
  maximumf (broadcastInDim S2x16x8192 ![] bcast_S_S2x16x8192 (constant S_ .f32 0xFF800000#32)) (Host.reduce FloatOps.maximumf s (constant S_ .f32 0xFF800000#32) reducesTo_S2x16x8192x8192_S2x16x8192_d3 h_S_)

/-- The exponentials of the scores less their row's maximum. -/
def weight (s : FVec Ideal S2x16x8192x8192 .f32) : FVec Ideal S2x16x8192x8192 .f32 :=
  Host.exp (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 (rowMax s))))

/-- The softmax of the scores. -/
def soft (w : FVec Ideal S2x16x8192x8192 .f32) : FVec Ideal S2x16x8192x8192 .f32 :=
  Host.divf w (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd w (constant S_ .f32 0x00000000#32) reducesTo_S2x16x8192x8192_S2x16x8192_d3 h_S_)))

/-- The difference of the two heads of each pair. -/
def diff (lam : FVec Ideal S1 .f32) (p : FVec Ideal S2x16x8192x8192 .f32) : FVec Ideal S2x8x8192x8192 .f32 :=
  subf (shapeCast _ (extractStridedSlice S2x8x1x8192x8192 ![0, 0, 0, 0, 0] (shapeCast _ p shapeCasts_S2x16x8192x8192_S2x8x2x8192x8192) slices_S2x8x2x8192x8192_S2x8x1x8192x8192_0_0_0_0_0) shapeCasts_S2x8x1x8192x8192_S2x8x8192x8192) (mulf (broadcastInDim S2x8x8192x8192 ![] bcast_S_S2x8x8192x8192 (shapeCast _ lam shapeCasts_S1_S_)) (shapeCast _ (extractStridedSlice S2x8x1x8192x8192 ![0, 0, 1, 0, 0] (shapeCast _ p shapeCasts_S2x16x8192x8192_S2x8x2x8192x8192) slices_S2x8x2x8192x8192_S2x8x1x8192x8192_0_0_1_0_0) shapeCasts_S2x8x1x8192x8192_S2x8x8192x8192))

/-- The values under the differences. -/
def mixed (v : FVec Ideal S2x8192x8x128 .f32) (a : FVec Ideal S2x8x8192x8192 .f32) : FVec Ideal S2x8192x8x128 .f32 :=
  transpose S2x8192x8x128 [0, 3, 1, 2] (Host.dotGeneral dot_S2x8192x8x128_S2x8x8192x8192_S2x8x128x8192_1_3_3_2_02_01 none v a) transposes_S2x8x128x8192_S2x8192x8x128_0_3_1_2

/-- The norm, its weight, the constant and the gate. -/
def ended (o : FVec Ideal S2x8192x8x128 .f32) (gate : FVec Ideal S2x8192x1024 .bf16) (sub : FVec Ideal S128 .f32) : FVec Ideal S2x8192x1024 .bf16 :=
  truncf .bf16 (mulf (shapeCast _ (mulf (mulf (mulf o (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf o o) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x3727C5AC#32)))))) (broadcastInDim S2x8192x8x128 ![0, 1, 2, 3] bcast_S1x1x1x128_S2x8192x8x128_0_1_2_3 (broadcastInDim S1x1x1x128 ![3] bcast_S128_S1x1x1x128_3 sub))) (broadcastInDim S2x8192x8x128 ![] bcast_S_S2x8192x8x128 (constant S_ .f32 0x3F4CCCCD#32))) shapeCasts_S2x8192x8x128_S2x8192x1024) (extf .f32 gate bitsLt_bf16_f32)) bitsLt_bf16_f32

/-- The reference's result is its stages in turn. -/
theorem res_eq (m : (ℓ : Loc nD τ sig) → Buf (Elt Ideal) ℓ) (c : Dev nD) :
    Value.res_main_v49 m c = ended (mixed (m ((c.tc : Thread nD τ).loc main_arg3)) (diff (m ((c.tc : Thread nD τ).loc main_arg0))
      (soft (weight (score (m ((c.tc : Thread nD τ).loc main_arg1)) (m ((c.tc : Thread nD τ).loc main_arg2)))))))
      (m ((c.tc : Thread nD τ).loc main_arg4)) (m ((c.tc : Thread nD τ).loc main_arg5)) := by
  unfold Value.res_main_v49 ended mixed diff soft weight rowMax score mask
  rfl

/-- A masked score. -/
theorem score_at (q k : FVec Ideal S2x8192x16x64 .f32) (b : Fin 2) (h : Fin 16) (Q n : Fin 8192) :
    score q k (ix4 b h Q n) = if n.val ≤ Q.val then ∑ d : Fin 64, q (ix4 b Q h d) * k (ix4 b n h d) else (⊥ : EReal) := by
  pointwise [score, mask]
  have hs := KernelIdeal.Att.select_of (α := EReal) (P := n.val ≤ Q.val) (WordCmp.cmpi_sle_ofNat (w := 32) (a := n.val) (b := Q.val) (by omega) (by omega))
  refine (hs _ _).trans ?_
  exact congrArg (fun z : EReal => if n.val ≤ Q.val then _ else z) KernelIdeal.Att.ofBits_ninf

/-- A fold of the maximum from minus infinity is the largest. -/
theorem fold_sup {ι : Type} (u : Finset ι) (f : ι → EReal) : u.fold max ⊥ f = u.sup f := rfl

/-- A row's maximum as it is folded. -/
theorem fold_at (s : FVec Ideal S2x16x8192x8192 .f32) (b : Fin 2) (h : Fin 16) (Q : Fin 8192) :
    Host.reduce FloatOps.maximumf s (constant S_ .f32 0xFF800000#32) reducesTo_S2x16x8192x8192_S2x16x8192_d3 h_S_ (ix3 b h Q)
      = Finset.univ.fold max (Ideal.ofBits .f32 0xFF800000#32) fun n : Fin 8192 => s (ix4 b h Q n) := by
  rw [Host.reduce_eq_fold]
  simp only [pointwise]

/-- The larger of two arrays at an index. -/
theorem larger_at (x y : FVec Ideal S2x16x8192 .f32) (j : S2x16x8192.Idx) : maximumf x y j = max (x j : EReal) (y j) := rfl

/-- The constant array at an index. -/
theorem ninf_at (j : S2x16x8192.Idx) : (broadcastInDim S2x16x8192 ![] bcast_S_S2x16x8192 (constant (F := Ideal) S_ .f32 0xFF800000#32) j : EReal) = ⊥ :=
  KernelIdeal.Att.ofBits_ninf

/-- A row's maximum. -/
theorem rowMax_at (s : FVec Ideal S2x16x8192x8192 .f32) (b : Fin 2) (h : Fin 16) (Q : Fin 8192) :
    rowMax s (ix3 b h Q) = Finset.univ.sup fun n : Fin 8192 => s (ix4 b h Q n) := by
  unfold rowMax
  rw [larger_at, ninf_at, fold_at, KernelIdeal.Att.ofBits_ninf, max_eq_right bot_le]
  exact fold_sup _ _

/-- A weight. -/
theorem weight_at (s : FVec Ideal S2x16x8192x8192 .f32) (b : Fin 2) (h : Fin 16) (Q n : Fin 8192) :
    weight s (ix4 b h Q n) = Ideal.exp (s (ix4 b h Q n) - rowMax s (ix3 b h Q)) := by
  pointwise [weight]

/-- A weight over its row's sum. -/
theorem soft_at (w : FVec Ideal S2x16x8192x8192 .f32) (b : Fin 2) (h : Fin 16) (Q n : Fin 8192) :
    soft w (ix4 b h Q n) = Ideal.div (w (ix4 b h Q n)) (∑ j : Fin 8192, w (ix4 b h Q j)) := by
  pointwise [soft]

/-- The two heads' difference. -/
theorem diff_at (lam : FVec Ideal S1 .f32) (p : FVec Ideal S2x16x8192x8192 .f32) (b : Fin 2) (H : Fin 8) (Q n : Fin 8192) :
    diff lam p (ix4 b H Q n) = p (ix4 b ⟨H.val * 2, by omega⟩ Q n) - lam (ix1 0) * p (ix4 b ⟨H.val * 2 + 1, by omega⟩ Q n) := by
  pointwise [diff]

/-- The values summed under the differences. -/
theorem mixed_at (v : FVec Ideal S2x8192x8x128 .f32) (a : FVec Ideal S2x8x8192x8192 .f32) (b : Fin 2) (Q : Fin 8192) (H : Fin 8) (e : Fin 128) :
    mixed v a (ix4 b Q H e) = ∑ n : Fin 8192, v (ix4 b n H e) * a (ix4 b H Q n) := by
  pointwise [mixed]

/-- The finish of a row. -/
theorem ended_at (o : FVec Ideal S2x8192x8x128 .f32) (gate : FVec Ideal S2x8192x1024 .bf16) (sub : FVec Ideal S128 .f32) (b : Fin 2) (Q : Fin 8192) (C : Fin 1024) :
    ended o gate sub (ix3 b Q C) = finish (fun e => o (ix4 b Q ⟨C.val / 128, by omega⟩ e)) (sub (ix1 ⟨C.val % 128, Nat.mod_lt _ (by decide)⟩)) (gate (ix3 b Q C))
      ⟨C.val % 128, Nat.mod_lt _ (by decide)⟩ := by
  pointwise [ended]
  rfl

section Reals

open Cert.KernelIdeal.Att (AllReal pairRow valRow attend resultAt result)

variable (x0 : FVec Ideal S1 .f32) (x1 x2 : FVec Ideal S2x8192x16x64 .f32) (x3 : FVec Ideal S2x8192x8x128 .f32)
  (x4 : FVec Ideal S2x8192x1024 .bf16) (x5 : FVec Ideal S128 .f32)

/-- A half of a pair's rows, multiplied and summed, is that head's product. -/
theorem dot_head (h1 : AllReal x1) (h2 : AllReal x2) (b : Fin 2) (H : Fin 8) (h : Fin 2) (Q n : Fin 8192) :
    ∑ d : Fin 64, x1 (ix4 b Q ⟨H.val * 2 + h.val, by omega⟩ d) * x2 (ix4 b n ⟨H.val * 2 + h.val, by omega⟩ d)
      = ((halfDot h (pairRow x2 b H n.val) (pairRow x1 b H Q.val) : ℝ) : EReal) := by
  unfold halfDot
  rw [coe_sum]
  refine Finset.sum_congr rfl fun d _ => ?_
  have hn : (⟨n.val % 8192, Nat.mod_lt _ (by decide)⟩ : Fin 8192) = n := Fin.ext (Nat.mod_eq_of_lt n.isLt)
  have hQ : (⟨Q.val % 8192, Nat.mod_lt _ (by decide)⟩ : Fin 8192) = Q := Fin.ext (Nat.mod_eq_of_lt Q.isLt)
  have hh : (⟨H.val * 2 + (64 * h.val + d.val) / 64, by omega⟩ : Fin 16) = ⟨H.val * 2 + h.val, by omega⟩ := Fin.ext (by show H.val * 2 + (64 * h.val + d.val) / 64 = H.val * 2 + h.val; omega)
  have hd : (⟨(64 * h.val + d.val) % 64, Nat.mod_lt _ (by decide)⟩ : Fin 64) = d := Fin.ext (by show (64 * h.val + d.val) % 64 = d.val; omega)
  unfold pairRow
  dsimp only
  rw [hn, hQ, hh, hd, mul_comm, EReal.coe_mul, ← h1, ← h2]

/-- A head's masked scores are its causal column. -/
theorem score_head (h1 : AllReal x1) (h2 : AllReal x2) (b : Fin 2) (H : Fin 8) (h : Fin 2) (Q n : Fin 8192) :
    score x1 x2 (ix4 b ⟨H.val * 2 + h.val, by omega⟩ Q n) = causal (fun n => halfDot h (pairRow x2 b H n) (pairRow x1 b H Q.val)) 1 Q.val n.val := by
  rw [score_at, dot_head x1 x2 h1 h2]
  unfold causal
  rw [mul_one]

/-- The largest of a column given by number. -/
theorem sup_fin (n : ℕ) (f : ℕ → EReal) : (Finset.univ.sup fun i : Fin n => f i.val) = mx f n :=
  le_antisymm (Finset.sup_le fun i _ => le_mx f i.isLt)
    (Finset.sup_le fun k hk => Finset.le_sup (f := fun i : Fin n => f i.val) (Finset.mem_univ ⟨k, Finset.mem_range.mp hk⟩))

/-- A head's row maximum. -/
theorem max_head (h1 : AllReal x1) (h2 : AllReal x2) (b : Fin 2) (H : Fin 8) (h : Fin 2) (Q : Fin 8192) :
    rowMax (score x1 x2) (ix3 b ⟨H.val * 2 + h.val, by omega⟩ Q) = ((top (fun n => halfDot h (pairRow x2 b H n) (pairRow x1 b H Q.val)) Q.val : ℝ) : EReal) := by
  rw [rowMax_at]
  simp only [score_head x1 x2 h1 h2]
  rw [sup_fin 8192 (causal _ 1 Q.val), mx_causal _ zero_le_one Q.isLt, mul_one]

/-- A head's softmax at a key. -/
theorem soft_head (h1 : AllReal x1) (h2 : AllReal x2) (b : Fin 2) (H : Fin 8) (h : Fin 2) (Q n : Fin 8192) :
    soft (weight (score x1 x2)) (ix4 b ⟨H.val * 2 + h.val, by omega⟩ Q n)
      = Ideal.div (Ideal.exp (causal (fun n => halfDot h (pairRow x2 b H n) (pairRow x1 b H Q.val)) 1 Q.val n.val
          - ((top (fun n => halfDot h (pairRow x2 b H n) (pairRow x1 b H Q.val)) Q.val : ℝ) : EReal)))
        ((den (fun n => halfDot h (pairRow x2 b H n) (pairRow x1 b H Q.val)) Q.val : ℝ) : EReal) := by
  rw [soft_at]
  simp only [weight_at, score_head x1 x2 h1 h2, max_head x1 x2 h1 h2]
  rw [Fin.sum_univ_eq_sum_range (fun n => Ideal.exp (causal (fun n => halfDot h (pairRow x2 b H n) (pairRow x1 b H Q.val)) 1 Q.val n
          - ((top (fun n => halfDot h (pairRow x2 b H n) (pairRow x1 b H Q.val)) Q.val : ℝ) : EReal))) 8192, sum_exp_causal _ Q.isLt]

/-- The pair's attention at an element. -/
theorem mixed_pair (h0 : AllReal x0) (h1 : AllReal x1) (h2 : AllReal x2) (h3 : AllReal x3) (b : Fin 2) (Q : Fin 8192) (H : Fin 8) (e : Fin 128) :
    mixed x3 (diff x0 (soft (weight (score x1 x2)))) (ix4 b Q H e)
      = ((attend (x0 (ix1 0) : EReal).toReal (pairRow x1 b H Q.val) (pairRow x2 b H) (valRow x3 b H) Q.val e : ℝ) : EReal) := by
  rw [mixed_at]
  unfold attend
  rw [← plain_diff _ _ _ _ Q.isLt, ← Fin.sum_univ_eq_sum_range (fun k => ((valRow x3 b H k e : ℝ) : EReal) * (_ - _ * _)) 8192]
  refine Finset.sum_congr rfl fun n _ => ?_
  have s0 := soft_head x1 x2 h1 h2 b H 0 Q n
  have s1 := soft_head x1 x2 h1 h2 b H 1 Q n
  have hn : (⟨n.val % 8192, Nat.mod_lt _ (by decide)⟩ : Fin 8192) = n := Fin.ext (Nat.mod_eq_of_lt n.isLt)
  rw [diff_at]
  refine congrArg₂ (· * ·) ?_ (congrArg₂ (· - ·) s0 (congrArg₂ (· * ·) (h0 _) s1))
  unfold valRow
  rw [hn, ← h3]

/-- The reference's stages give the result. -/
theorem plain_result (h0 : AllReal x0) (h1 : AllReal x1) (h2 : AllReal x2) (h3 : AllReal x3) :
    ended (mixed x3 (diff x0 (soft (weight (score x1 x2))))) x4 x5 = result x0 x1 x2 x3 x4 x5 := by
  funext y
  obtain ⟨b, Q, C, rfl⟩ : ∃ (b : Fin 2) (Q : Fin 8192) (C : Fin 1024), y = ix3 b Q C := ⟨y 0, y 1, y 2, by funext a; match a with | ⟨0, _⟩ => rfl | ⟨1, _⟩ => rfl | ⟨2, _⟩ => rfl⟩
  rw [ended_at]
  simp only [mixed_pair x0 x1 x2 x3 h0 h1 h2 h3]
  have hC : (⟨128 * (C.val / 128) + C.val % 128, by omega⟩ : Fin 1024) = C := Fin.ext (by show 128 * (C.val / 128) + C.val % 128 = C.val; omega)
  show _ = resultAt x0 x1 x2 x3 x4 x5 b Q ⟨C.val / 128, _⟩ ⟨C.val % 128, _⟩
  unfold resultAt
  dsimp only
  rw [hC]

end Reals

end Cert.ReferenceIdeal.Plain

end
-- ==== Proof.Finite.lean ====
/-
  The precondition, read: every element of the first four arguments is a real number.
-/
module

public import proofs.«01_k».proof.Pre_finite
public import proofs.«01_k».proof.Proof.Result
public import Idealize.ShloMosaic.Lib.ReduceAll
public import Idealize.ShloMosaic.Lib.Pointwise

@[expose] public section

set_option maxRecDepth 16384

noncomputable section

namespace Cert.Pre_finite

open Idealize.ShloMosaic Cert.KernelIdeal.Att

/-- The side conditions of the precondition's operations. -/
theorem facts : Facts where
  bcast_S_S1 := by decide
  reducesTo_S1_S_d0 := by decide
  h_S_ := by decide
  bcast_S_S2x8192x16x64 := by decide
  reducesTo_S2x8192x16x64_S_d0_1_2_3 := by decide
  bcast_S_S2x8192x8x128 := by decide
  reducesTo_S2x8192x8x128_S_d0_1_2_3 := by decide

/-- The empty index is the only one. -/
instance : Subsingleton S_.Idx := ⟨fun i j => funext fun a => a.elim0⟩

/-- A conjunction of two bits that is one has both one. -/
theorem both (a b : BitVec 1) (h : IntOp.andi a b = 1#1) : a = 1#1 ∧ b = 1#1 := by
  revert h; revert a b; decide

/-- An extended real whose absolute value is below infinity is a real number. -/
theorem real_of_lt (x : EReal) (h : max x (-x) < ⊤) : x = (x.toReal : EReal) := by
  induction x using EReal.rec with
  | bot => simp at h
  | top => simp at h
  | coe r => rfl

/-- A tested array is real at every index. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1) :
    AllReal x := by
  intro y
  have h := Host.reduce_andi_all _ _ _ _ _ e y
  have h' : Ideal.cmp .olt (max (x y : EReal) (-(x y : EReal))) (Ideal.ofBits .f32 0x7F800000#32) = 1 := h
  have hi : Ideal.ofBits .f32 0x7F800000#32 = ⊤ := by simp [Ideal.ofBits, Ideal.ieee]
  rw [Ideal.cmp_olt_eq_one, hi] at h'
  exact real_of_lt _ h'

/-- What the precondition says. -/
theorem decode [Facts] (x0 : FVec Ideal S1 .f32) (x1 x2 : FVec Ideal S2x8192x16x64 .f32) (x3 : FVec Ideal S2x8192x8x128 .f32)
    (x4 : FVec Ideal S2x8192x1024 .bf16) (x5 : FVec Ideal S128 .f32) (h : fn (F := Ideal) x0 x1 x2 x3 x4 x5 = fun _ => 1#1) :
    AllReal x0 ∧ AllReal x1 ∧ AllReal x2 ∧ AllReal x3 := by
  have e := congrFun h ix0
  obtain ⟨e, e3⟩ := both _ _ e
  obtain ⟨e, e2⟩ := both _ _ e
  obtain ⟨e0, e1⟩ := both _ _ e
  exact ⟨all_real x0 _ _ _ e0, all_real x1 _ _ _ e1, all_real x2 _ _ _ e2, all_real x3 _ _ _ e3⟩

end Cert.Pre_finite

end
-- ==== Proof.Finish.lean ====
/-
  The last call: what it leaves at an index, from the arrays the program is given.
-/
module

public import proofs.«01_k».proof.Proof.Gen.Kernel2Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Last

open Idealize.ShloMosaic

/-- The sum of the two gated branches at feature `d`: the pool branch's, and the attention branch's product under its gate. -/
def merged (a sga mp : Fin 1024 → EReal) (wab : Fin 1024 → Fin 1024 → EReal) (d : Fin 1024) : EReal :=
  mp d + sga d * ∑ f : Fin 1024, a f * wab f d

/-- The scaled input and the output product of the merged branches. -/
def hidden (a sga mp x : Fin 1024 → EReal) (wab wo : Fin 1024 → Fin 1024 → EReal) (e : Fin 1024) : EReal :=
  Ideal.ofBits .f32 0x3F9837F0#32 * x e + ∑ d : Fin 1024, merged a sga mp wab d * wo d e

/-- The mean of a row. -/
def mean (h : Fin 1024 → EReal) : EReal := Ideal.div (∑ e : Fin 1024, h e) (Ideal.ofBits .f32 0x44800000#32)

/-- A row less its mean, over the root of its variance. -/
def normed (h : Fin 1024 → EReal) (e : Fin 1024) : EReal :=
  (h e - mean h) * Ideal.rsqrt (mean (fun e => (h e - mean h) * (h e - mean h)) + Ideal.ofBits .f32 0x3727C5AC#32)

end Cert.Last

namespace Cert.Kernel2Ideal.Fin2

open Cert.Kernel2Ideal Cert.Kernel2Ideal.Gen Idealize.ShloMosaic Idealize.ShloMosaic.TcCoe Idealize.ShloMosaic.Tactic Idealize.SL.Sem
open Cert.Last

/-- The merged branches of a tile. -/
def mergeT (v0 : Vec Ideal S512x1024 .bf16) (v2 : Vec Ideal S1024x1024 .bf16) (v5 : Vec Ideal S512x1024 .f32) (v7 : Vec Ideal S512x1024 .bf16) : FVec Ideal S512x1024 .f32 :=
  addf (shapeCast S512x1024 v5 shapeCasts_S512x1024_S512x1024) (mulf (extf .f32 (shapeCast S512x1024 v7 shapeCasts_S512x1024_S512x1024 : FVec Ideal S512x1024 .bf16) bitsLt_bf16_f32)
    (matmul dot_S512x1024_S1024x1024_S512x1024_1_0_0_1_n_n none (shapeCast S512x1024 v0 shapeCasts_S512x1024_S512x1024 : FVec Ideal S512x1024 .bf16) (shapeCast S1024x1024 v2 shapeCasts_S1024x1024_S1024x1024 : FVec Ideal S1024x1024 .bf16) (constant S512x1024 .f32 0x00000000#32)))

/-- The output product of a tile and its input. -/
def hidT (mg : FVec Ideal S512x1024 .f32) (v13 : Vec Ideal S1024x1024 .bf16) (v16 : Vec Ideal S512x1024 .f32) : FVec Ideal S512x1024 .f32 :=
  addf (mulf (broadcast S512x1024 (Scalar.ofBits .f32 0x3F9837F0#32)) (shapeCast S512x1024 v16 shapeCasts_S512x1024_S512x1024))
    (matmul dot_S512x1024_S1024x1024_S512x1024_1_0_0_1_n_n none (truncf .bf16 mg bitsLt_bf16_f32) (shapeCast S1024x1024 v13 shapeCasts_S1024x1024_S1024x1024 : FVec Ideal S1024x1024 .bf16) (constant S512x1024 .f32 0x00000000#32))

/-- The means of a tile's rows, as a column. -/
def meanT (h : FVec Ideal S512x1024 .f32) : FVec Ideal S512x1 .f32 :=
  divf (shapeCast S512x1 (multiReduction .add [1] S512 h 0x00000000#32 reduces_S512x1024_S512 (.inl rfl) rfl) shapeCasts_S512_S512x1) (broadcast S512x1 (Scalar.ofBits .f32 0x44800000#32))

/-- A tile less its rows' means. -/
def centT (h : FVec Ideal S512x1024 .f32) : FVec Ideal S512x1024 .f32 := subf h (broadcastTo S512x1024 (meanT h) broadcasts_S512x1_S512x1024)

/-- A tile's rows over the roots of their mean squares. -/
def rootT (z : FVec Ideal S512x1024 .f32) : FVec Ideal S512x1024 .f32 :=
  mulf z (broadcastTo S512x1024 (rsqrt (addf (meanT (mulf z z)) (broadcast S512x1 (Scalar.ofBits .f32 0x3727C5AC#32)))) broadcasts_S512x1_S512x1024)

/-- The body's value is its stages in turn. -/
theorem pay2_eq (v0 : Vec Ideal S512x1024 .bf16) (v2 : Vec Ideal S1024x1024 .bf16) (v5 : Vec Ideal S512x1024 .f32) (v7 : Vec Ideal S512x1024 .bf16)
    (v13 : Vec Ideal S1024x1024 .bf16) (v16 : Vec Ideal S512x1024 .f32) :
    k0_pay2 v0 v2 v5 v7 v13 v16 = rootT (centT (hidT (mergeT v0 v2 v5 v7) v13 v16)) := rfl

theorem mergeT_at (v0 : Vec Ideal S512x1024 .bf16) (v2 : Vec Ideal S1024x1024 .bf16) (v5 : Vec Ideal S512x1024 .f32) (v7 : Vec Ideal S512x1024 .bf16) (r : Fin 512) (d : Fin 1024) :
    mergeT v0 v2 v5 v7 (ix2 r d) = merged (fun f => v0 (ix2 r f)) (fun f => v7 (ix2 r f)) (fun f => v5 (ix2 r f)) (fun f d => v2 (ix2 f d)) d := by
  pointwise [mergeT]
  rfl

theorem hidT_at (mg : FVec Ideal S512x1024 .f32) (v13 : Vec Ideal S1024x1024 .bf16) (v16 : Vec Ideal S512x1024 .f32) (r : Fin 512) (e : Fin 1024) :
    hidT mg v13 v16 (ix2 r e) = Ideal.ofBits .f32 0x3F9837F0#32 * v16 (ix2 r e) + ∑ d : Fin 1024, mg (ix2 r d) * v13 (ix2 d e) := by
  pointwise [hidT]

theorem meanT_at (h : FVec Ideal S512x1024 .f32) (r : Fin 512) (z : Fin 1) : meanT h (ix2 r z) = mean fun e => h (ix2 r e) := by
  pointwise [meanT]
  rfl

theorem centT_at (h : FVec Ideal S512x1024 .f32) (r : Fin 512) (e : Fin 1024) : centT h (ix2 r e) = h (ix2 r e) - mean fun e => h (ix2 r e) := by
  rw [← meanT_at h r 0]
  pointwise [centT]

theorem rootT_at (h : FVec Ideal S512x1024 .f32) (r : Fin 512) (e : Fin 1024) :
    rootT h (ix2 r e) = h (ix2 r e) * Ideal.rsqrt ((mean fun e => h (ix2 r e) * h (ix2 r e)) + Ideal.ofBits .f32 0x3727C5AC#32) := by
  have e1 := meanT_at (mulf h h) r 0
  have e2 : (mean fun e => mulf h h (ix2 r e)) = mean fun e => h (ix2 r e) * h (ix2 r e) := rfl
  rw [← e2, ← e1]
  pointwise [rootT]

/-- The body's value at an index. -/
theorem pay2_at (v0 : Vec Ideal S512x1024 .bf16) (v2 : Vec Ideal S1024x1024 .bf16) (v5 : Vec Ideal S512x1024 .f32) (v7 : Vec Ideal S512x1024 .bf16)
    (v13 : Vec Ideal S1024x1024 .bf16) (v16 : Vec Ideal S512x1024 .f32) (r : Fin 512) (e : Fin 1024) :
    k0_pay2 v0 v2 v5 v7 v13 v16 (ix2 r e) = normed (hidden (fun f => v0 (ix2 r f)) (fun f => v7 (ix2 r f)) (fun f => v5 (ix2 r f)) (fun f => v16 (ix2 r f))
      (fun f d => v2 (ix2 f d)) (fun f d => v13 (ix2 f d))) e := by
  rw [pay2_eq, rootT_at]
  simp only [centT_at, hidT_at, mergeT_at]
  rfl

/-- The result at row `n`, feature `e`: the row number counts the batch elements' positions one after the other. -/
def resultAt (x0 x1 : Vec Ideal S2x8192x1024 .bf16) (x2 x3 : Vec Ideal S2x8192x1024 .f32) (x4 x5 : Vec Ideal S1024x1024 .f32) (x6 x7 : Vec Ideal S1024 .f32)
    (b : Fin 2) (n : Fin 8192) (e : Fin 1024) : EReal :=
  normed (hidden (fun f => x0 (ix3 b n f)) (fun f => x1 (ix3 b n f)) (fun f => x2 (ix3 b n f)) (fun f => x3 (ix3 b n f)) (fun f d => x4 (ix2 f d)) (fun f d => x5 (ix2 f d))) e
    * x6 (ix1 e) + x7 (ix1 e)

/-- The result array. -/
def result (x0 x1 : Vec Ideal S2x8192x1024 .bf16) (x2 x3 : Vec Ideal S2x8192x1024 .f32) (x4 x5 : Vec Ideal S1024x1024 .f32) (x6 x7 : Vec Ideal S1024 .f32) :
    Vec Ideal S16384x1024 .f32 := fun y =>
  resultAt x0 x1 x2 x3 x4 x5 x6 x7 ⟨(y 0).val / 8192, by have := (y 0).isLt; simp at this; omega⟩ ⟨(y 0).val % 8192, Nat.mod_lt _ (by decide)⟩ (y 1)

section Blocks

variable (m : (ℓ : Loc nD τ sig) → Buf (Elt Ideal) ℓ) (c : Dev nD) (t : Fin cfg0.N)

/-- The blocks' places. -/
theorem idx0 : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0])

theorem V_a (n : Fin 16384) (f : Fin 1024) : V m c main_v0 (ix2 n f) = m ((c : Thread nD τ).loc main_arg0) (ix3 ⟨n.val / 8192, by omega⟩ ⟨n.val % 8192, Nat.mod_lt _ (by decide)⟩ f) := by
  unfold V
  after_reads_at

theorem V_sga (n : Fin 16384) (f : Fin 1024) : V m c main_v1 (ix2 n f) = m ((c : Thread nD τ).loc main_arg1) (ix3 ⟨n.val / 8192, by omega⟩ ⟨n.val % 8192, Nat.mod_lt _ (by decide)⟩ f) := by
  unfold V
  after_reads_at

theorem V_mp (n : Fin 16384) (f : Fin 1024) : V m c main_v2 (ix2 n f) = m ((c : Thread nD τ).loc main_arg2) (ix3 ⟨n.val / 8192, by omega⟩ ⟨n.val % 8192, Nat.mod_lt _ (by decide)⟩ f) := by
  unfold V
  after_reads_at

theorem V_x (n : Fin 16384) (f : Fin 1024) : V m c main_v3 (ix2 n f) = m ((c : Thread nD τ).loc main_arg3) (ix3 ⟨n.val / 8192, by omega⟩ ⟨n.val % 8192, Nat.mod_lt _ (by decide)⟩ f) := by
  unfold V
  after_reads_at

theorem V_wab (f d : Fin 1024) : V m c main_v4 (ix2 f d) = m ((c : Thread nD τ).loc main_arg4) (ix2 f d) := by
  unfold V
  after_reads_at

theorem V_wo (f d : Fin 1024) : V m c main_v5 (ix2 f d) = m ((c : Thread nD τ).loc main_arg5) (ix2 f d) := by
  unfold V
  after_reads_at

theorem V_g (e : Fin 1024) : V m c main_v6 (ix2 0 e) = m ((c : Thread nD τ).loc main_arg6) (ix1 e) := by
  unfold V
  after_reads_at

theorem V_b (e : Fin 1024) : V m c main_v7 (ix2 0 e) = m ((c : Thread nD τ).loc main_arg7) (ix1 e) := by
  unfold V
  after_reads_at

/-- The row of a point's row `r`. -/
def rowOf (t : Fin cfg0.N) (r : Fin 512) : Fin 16384 := ⟨(512 * t.val + r.val) % 16384, Nat.mod_lt _ (by decide)⟩

theorem rowOf_val (t : Fin cfg0.N) (r : Fin 512) : (rowOf t r).val = 512 * t.val + r.val := by
  have h : t.val < 32 := t.isLt
  exact Nat.mod_eq_of_lt (by omega)

theorem blk_a (r : Fin 512) (f : Fin 1024) : iblk m c 0 t (ix2 r f) = V m c main_v0 (ix2 (rowOf t r) f) := by
  have h1 := rowOf_val t r
  have h3 := (idx0 t).1
  blk_ext [iblk, h3, h1]

theorem blk_sga (r : Fin 512) (f : Fin 1024) : iblk m c 1 t (ix2 r f) = V m c main_v1 (ix2 (rowOf t r) f) := by
  have h1 := rowOf_val t r
  have h3 := (idx0 t).2.1
  blk_ext [iblk, h3, h1]

theorem blk_mp (r : Fin 512) (f : Fin 1024) : iblk m c 2 t (ix2 r f) = V m c main_v2 (ix2 (rowOf t r) f) := by
  have h1 := rowOf_val t r
  have h3 := (idx0 t).2.2.1
  blk_ext [iblk, h3, h1]

theorem blk_x (r : Fin 512) (f : Fin 1024) : iblk m c 3 t (ix2 r f) = V m c main_v3 (ix2 (rowOf t r) f) := by
  have h1 := rowOf_val t r
  have h3 := (idx0 t).2.2.2.1
  blk_ext [iblk, h3, h1]

theorem blk_wab (f d : Fin 1024) : iblk m c 4 t (ix2 f d) = V m c main_v4 (ix2 f d) := by
  have h3 := (idx0 t).2.2.2.2.1
  blk_ext [iblk, h3]

theorem blk_wo (f d : Fin 1024) : iblk m c 5 t (ix2 f d) = V m c main_v5 (ix2 f d) := by
  have h3 := (idx0 t).2.2.2.2.2.1
  blk_ext [iblk, h3]

theorem blk_g (e : Fin 1024) : iblk m c 6 t (ix2 0 e) = V m c main_v6 (ix2 0 e) := by
  have h3 := (idx0 t).2.2.2.2.2.2.1
  blk_ext [iblk, h3]

theorem blk_b (e : Fin 1024) : iblk m c 7 t (ix2 0 e) = V m c main_v7 (ix2 0 e) := by
  have h3 := (idx0 t).2.2.2.2.2.2.2.1
  blk_ext [iblk, h3]

/-- A whole tile read. -/
theorem ld_tile {η : EltTy} (x : Vec Ideal S512x1024 η) : View.ld x r0_0 = x := by
  funext y
  refine View.ld_unit_apply_of x _ _ _ y y ?_
  intro a
  match a with
  | ⟨0, _⟩ => simp
  | ⟨1, _⟩ => simp

/-- A whole matrix read. -/
theorem ld_mat {η : EltTy} (x : Vec Ideal S1024x1024 η) : View.ld x r0_1 = x := by
  funext y
  refine View.ld_unit_apply_of x _ _ _ y y ?_
  intro a
  match a with
  | ⟨0, _⟩ => simp
  | ⟨1, _⟩ => simp

/-- A whole row read. -/
theorem ld_row {η : EltTy} (x : Vec Ideal S1x1024 η) : View.ld x r0_2 = x := by
  funext y
  refine View.ld_unit_apply_of x _ _ _ y y ?_
  intro a
  match a with
  | ⟨0, _⟩ => simp
  | ⟨1, _⟩ => simp

/-- What the body leaves, at an index, over any blocks. -/
theorem out_at (x0 x1 : Vec Ideal S512x1024 .bf16) (x2 x3 : Vec Ideal S512x1024 .f32) (x4 x5 : Vec Ideal S1024x1024 .bf16) (x6 x7 : Vec Ideal S1x1024 .f32) (r : Fin 512) (e : Fin 1024) :
    out0_8 x0 x1 x2 x3 x4 x5 x6 x7 (ix2 r e) = normed (hidden (fun f => x0 (ix2 r f)) (fun f => x1 (ix2 r f)) (fun f => x2 (ix2 r f)) (fun f => x3 (ix2 r f))
      (fun f d => x4 (ix2 f d)) (fun f d => x5 (ix2 f d))) e * x6 (ix2 0 e) + x7 (ix2 0 e) := by
  unfold out0_8
  rw [Value.canon8_eq]
  unfold Value.E8
  rw [ld_tile x0, ld_tile x1, ld_tile x2, ld_tile x3, ld_mat x4, ld_mat x5, ld_row x6, ld_row x7]
  have i6 : Value.ix8_1 (ix2 r e) = ix2 0 e := by funext a; match a with | ⟨0, _⟩ => rfl | ⟨1, _⟩ => rfl
  have i7 : Value.ix8_2 (ix2 r e) = ix2 0 e := by funext a; match a with | ⟨0, _⟩ => rfl | ⟨1, _⟩ => rfl
  rw [i6, i7]
  exact congrArg (fun a : EReal => a * x6 (ix2 0 e) + x7 (ix2 0 e)) (pay2_at x0 x4 x2 x1 x5 x3 r e)

/-- What the body leaves at a point, at an index, is the result's entry at the point's row. -/
theorem out_blk (r : Fin 512) (e : Fin 1024) :
    out0_8 (iblk m c 0 t) (iblk m c 1 t) (iblk m c 2 t) (iblk m c 3 t) (iblk m c 4 t) (iblk m c 5 t) (iblk m c 6 t) (iblk m c 7 t) (ix2 r e)
      = resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
          ⟨(rowOf t r).val / 8192, by omega⟩ ⟨(rowOf t r).val % 8192, Nat.mod_lt _ (by decide)⟩ e := by
  refine (out_at (iblk m c 0 t) (iblk m c 1 t) (iblk m c 2 t) (iblk m c 3 t) (iblk m c 4 t) (iblk m c 5 t) (iblk m c 6 t) (iblk m c 7 t) r e).trans ?_
  unfold resultAt
  have e0 : (fun f => iblk m c 0 t (ix2 r f)) = _ := funext fun f => (blk_a m c t r f).trans (V_a m c _ f)
  have e1 : (fun f => iblk m c 1 t (ix2 r f)) = _ := funext fun f => (blk_sga m c t r f).trans (V_sga m c _ f)
  have e2 : (fun f => iblk m c 2 t (ix2 r f)) = _ := funext fun f => (blk_mp m c t r f).trans (V_mp m c _ f)
  have e3 : (fun f => iblk m c 3 t (ix2 r f)) = _ := funext fun f => (blk_x m c t r f).trans (V_x m c _ f)
  have e4 : (fun f d => iblk m c 4 t (ix2 f d)) = _ := funext fun f => funext fun d => (blk_wab m c t f d).trans (V_wab m c f d)
  have e5 : (fun f d => iblk m c 5 t (ix2 f d)) = _ := funext fun f => funext fun d => (blk_wo m c t f d).trans (V_wo m c f d)
  rw [e0, e1, e2, e3, e4, e5, (blk_g m c t e).trans (V_g m c e), (blk_b m c t e).trans (V_b m c e)]

/-- The output array after the run is the result. -/
theorem arr_result : (dats m 0 c).arrAt 8 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t hf y => ?_
  have hi := (idx0 t).2.2.2.2.2.2.2.2
  blk_simp
  rw [after0_8]
  obtain ⟨r, e, rfl⟩ : ∃ (r : Fin 512) (e : Fin 1024), y = ix2 r e := ⟨y 0, y 1, by funext a; match a with | ⟨0, _⟩ => rfl | ⟨1, _⟩ => rfl⟩
  rw [out_blk]
  unfold result
  have hr := rowOf_val t r
  congr 1
  · apply Fin.ext; blk_simp [hi]; simp; omega
  · apply Fin.ext; blk_simp [hi]; simp; omega
  · apply Fin.ext; blk_simp [hi]

end Blocks

end Cert.Kernel2Ideal.Fin2

end
-- ==== Proof.FinishPlain.lean ====
/-
  The last call's reference, stage by stage, and each stage at an index.
-/
module

public import proofs.«01_k».proof.Proof.Gen.Reference2Ideal.Run
public import proofs.«01_k».proof.Proof.Finish

@[expose] public section

set_option maxRecDepth 16384

noncomputable section

namespace Cert.Reference2Ideal.Plain

open Cert.Reference2Ideal Cert.Reference2Ideal.Gen Idealize.ShloMosaic Idealize.ShloMosaic.TcCoe Idealize.ShloMosaic.Tactic Idealize.SL.Sem
open Cert.Last

/-- The merged branches. -/
def mergeR (a sga : FVec Ideal S2x8192x1024 .bf16) (mp : FVec Ideal S2x8192x1024 .f32) (wab : FVec Ideal S1024x1024 .f32) : FVec Ideal S2x8192x1024 .f32 :=
  addf mp (mulf (extf .f32 sga bitsLt_bf16_f32) (Host.dotGeneral dot_S2x8192x1024_S1024x1024_S2x8192x1024_2_0_01_1_n_n none (extf .f32 a bitsLt_bf16_f32) wab))

/-- The scaled input and the output product. -/
def hidR (mg x : FVec Ideal S2x8192x1024 .f32) (wo : FVec Ideal S1024x1024 .f32) : FVec Ideal S2x8192x1024 .f32 :=
  addf (mulf (broadcastInDim S2x8192x1024 ![] bcast_S_S2x8192x1024 (constant S_ .f32 0x3F9837F0#32)) x) (Host.dotGeneral dot_S2x8192x1024_S1024x1024_S2x8192x1024_2_0_01_1_n_n none mg wo)

/-- The rows' means. -/
def meanR (h : FVec Ideal S2x8192x1024 .f32) : FVec Ideal S2x8192x1 .f32 :=
  Host.divf (broadcastInDim S2x8192x1 ![0, 1] bcast_S2x8192_S2x8192x1_0_1 (Host.reduceAdd h (constant S_ .f32 0x00000000#32) reducesTo_S2x8192x1024_S2x8192_d2 h_S_)) (broadcastInDim S2x8192x1 ![] bcast_S_S2x8192x1 (constant S_ .f32 0x44800000#32))

/-- The rows less their means. -/
def centR (h : FVec Ideal S2x8192x1024 .f32) : FVec Ideal S2x8192x1024 .f32 :=
  subf h (broadcastInDim S2x8192x1024 ![0, 1, 2] bcast_S2x8192x1_S2x8192x1024_0_1_2 (meanR h))

/-- The rows over the roots of their mean squares. -/
def rootR (z : FVec Ideal S2x8192x1024 .f32) : FVec Ideal S2x8192x1024 .f32 :=
  mulf z (broadcastInDim S2x8192x1024 ![0, 1, 2] bcast_S2x8192x1_S2x8192x1024_0_1_2 (Host.rsqrt (addf (meanR (mulf z z)) (broadcastInDim S2x8192x1 ![] bcast_S_S2x8192x1 (constant S_ .f32 0x3727C5AC#32)))))

/-- The weight, the bias and the rows counted on. -/
def scaleR (z : FVec Ideal S2x8192x1024 .f32) (g b : FVec Ideal S1024 .f32) : FVec Ideal S16384x1024 .f32 :=
  shapeCast _ (addf (mulf z (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b))) shapeCasts_S2x8192x1024_S16384x1024

/-- The reference's result is its stages in turn. -/
theorem res_eq (m : (ℓ : Loc nD τ sig) → Buf (Elt Ideal) ℓ) (c : Dev nD) :
    Value.res_main_v33 m c = scaleR (rootR (centR (hidR (mergeR (m ((c.tc : Thread nD τ).loc main_arg0)) (m ((c.tc : Thread nD τ).loc main_arg1))
      (m ((c.tc : Thread nD τ).loc main_arg2)) (m ((c.tc : Thread nD τ).loc main_arg4))) (m ((c.tc : Thread nD τ).loc main_arg3)) (m ((c.tc : Thread nD τ).loc main_arg5)))))
      (m ((c.tc : Thread nD τ).loc main_arg6)) (m ((c.tc : Thread nD τ).loc main_arg7)) := by
  unfold Value.res_main_v33 scaleR rootR centR hidR mergeR meanR
  rfl

theorem mergeR_at (a sga : FVec Ideal S2x8192x1024 .bf16) (mp : FVec Ideal S2x8192x1024 .f32) (wab : FVec Ideal S1024x1024 .f32) (b : Fin 2) (n : Fin 8192) (d : Fin 1024) :
    mergeR a sga mp wab (ix3 b n d) = merged (fun f => a (ix3 b n f)) (fun f => sga (ix3 b n f)) (fun f => mp (ix3 b n f)) (fun f d => wab (ix2 f d)) d := by
  pointwise [mergeR]
  rfl

theorem hidR_at (mg x : FVec Ideal S2x8192x1024 .f32) (wo : FVec Ideal S1024x1024 .f32) (b : Fin 2) (n : Fin 8192) (e : Fin 1024) :
    hidR mg x wo (ix3 b n e) = Ideal.ofBits .f32 0x3F9837F0#32 * x (ix3 b n e) + ∑ d : Fin 1024, mg (ix3 b n d) * wo (ix2 d e) := by
  pointwise [hidR]

theorem meanR_at (h : FVec Ideal S2x8192x1024 .f32) (b : Fin 2) (n : Fin 8192) (z : Fin 1) : meanR h (ix3 b n z) = mean fun e => h (ix3 b n e) := by
  pointwise [meanR]
  rfl

theorem centR_at (h : FVec Ideal S2x8192x1024 .f32) (b : Fin 2) (n : Fin 8192) (e : Fin 1024) : centR h (ix3 b n e) = h (ix3 b n e) - mean fun e => h (ix3 b n e) := by
  rw [← meanR_at h b n 0]
  pointwise [centR]

theorem rootR_at (h : FVec Ideal S2x8192x1024 .f32) (b : Fin 2) (n : Fin 8192) (e : Fin 1024) :
    rootR h (ix3 b n e) = h (ix3 b n e) * Ideal.rsqrt ((mean fun e => h (ix3 b n e) * h (ix3 b n e)) + Ideal.ofBits .f32 0x3727C5AC#32) := by
  have e1 := meanR_at (mulf h h) b n 0
  have e2 : (mean fun e => mulf h h (ix3 b n e)) = mean fun e => h (ix3 b n e) * h (ix3 b n e) := rfl
  rw [← e2, ← e1]
  pointwise [rootR]

theorem scaleR_at (z : FVec Ideal S2x8192x1024 .f32) (g b : FVec Ideal S1024 .f32) (n : Fin 16384) (e : Fin 1024) :
    scaleR z g b (ix2 n e) = z (ix3 ⟨n.val / 8192, by omega⟩ ⟨n.val % 8192, Nat.mod_lt _ (by decide)⟩ e) * g (ix1 e) + b (ix1 e) := by
  pointwise [scaleR]

/-- The reference's stages give the result. -/
theorem plain_result (x0 x1 : FVec Ideal S2x8192x1024 .bf16) (x2 x3 : FVec Ideal S2x8192x1024 .f32) (x4 x5 : FVec Ideal S1024x1024 .f32) (x6 x7 : FVec Ideal S1024 .f32) :
    scaleR (rootR (centR (hidR (mergeR x0 x1 x2 x4) x3 x5))) x6 x7 = Kernel2Ideal.Fin2.result x0 x1 x2 x3 x4 x5 x6 x7 := by
  funext y
  obtain ⟨n, e, rfl⟩ : ∃ (n : Fin 16384) (e : Fin 1024), y = ix2 n e := ⟨y 0, y 1, by funext a; match a with | ⟨0, _⟩ => rfl | ⟨1, _⟩ => rfl⟩
  rw [scaleR_at, rootR_at]
  simp only [centR_at, hidR_at, mergeR_at]
  rfl

end Cert.Reference2Ideal.Plain

end
-- ==== Proof.ProjTile.lean ====
/-
  The projection's tiles: what a grid point of the prompt's first call stores, as functions of the blocks it reads,
  and how a window stored head by head is read back.
-/
module

public import proofs.«01_k».proof.Proof.Gen.Kernel3Ideal.Frame.Runs
public import Idealize.ShloMosaic.Lib.Pointwise
public import Idealize.ShloMosaic.Lib.Pipeline.ValueKit
public import Idealize.ShloMosaic.Lib.WritesUnit

@[expose] public section

set_option maxRecDepth 16384

noncomputable section

namespace Cert.Kernel3Ideal.Pro

open Cert.Kernel3Ideal Cert.Kernel3Ideal.Gen Idealize.ShloMosaic Idealize.ShloMosaic.TcCoe Idealize.ShloMosaic.Tactic Idealize.SL.Sem

variable {F : FTy → Type} [FloatOps F]

/-- The input tile times a block of the weights. -/
def mm (x0 : Vec F S1x256x1024 .f32) (w : Vec F S1024x1024 .bf16) : FVec F S256x1024 .f32 :=
  matmul dot_S256x1024_S1024x1024_S256x1024_1_0_0_1_n_n none (k0_pay2 x0) (shapeCast S1024x1024 w shapeCasts_S1024x1024_S1024x1024 : FVec F S1024x1024 .bf16)
    (constant S256x1024 .f32 0x00000000#32)

/-- A pair of heads turned by the position tables. -/
def turned (y c sn sp : FVec F S256x128 .f32) : FVec F S256x128 .f32 :=
  addf (addf (mulf y c) (mulf (dynamicRotate 1 96#32 none y rotates_S256x128_d1) sn)) (mulf (dynamicRotate 1 32#32 none y rotates_S256x128_d1) sp)

theorem slices : ∀ h : Fin 8, S256x1024.Slices ![0, 128 * h.val] S256x128 := by decide

/-- The columns of a pair of heads. -/
def cut (y : FVec F S256x1024 .f32) (h : Fin 8) : FVec F S256x128 .f32 := extractStridedSlice S256x128 ![0, 128 * h.val] y (slices h)

/-- The columns of a block of the weights. -/
def cols (x4 : Vec F S1024x7168 .bf16) (o : ℕ) : Vec F S1024x1024 .bf16 :=
  fun y => x4 (ix2 (y 0) ⟨(o + (y 1).val) % 7168, Nat.mod_lt _ (by decide)⟩)

/-- The stores of a window written one pair of heads after another, the last first. -/
def list8 {e : EltTy} (p : Fin 8 → Vec F S1x256x128 e) : List (View.Piece (Elt F) S1x256x1024 e) :=
  [⟨Rect.unit (s := S1x256x1024) ![0, 0, 896] S1x256x128.size inb_S1x256x1024_S1x256x128_0_0_896, p 7⟩, ⟨Rect.unit (s := S1x256x1024) ![0, 0, 768] S1x256x128.size inb_S1x256x1024_S1x256x128_0_0_768, p 6⟩, ⟨Rect.unit (s := S1x256x1024) ![0, 0, 640] S1x256x128.size inb_S1x256x1024_S1x256x128_0_0_640, p 5⟩, ⟨Rect.unit (s := S1x256x1024) ![0, 0, 512] S1x256x128.size inb_S1x256x1024_S1x256x128_0_0_512, p 4⟩, ⟨Rect.unit (s := S1x256x1024) ![0, 0, 384] S1x256x128.size inb_S1x256x1024_S1x256x128_0_0_384, p 3⟩, ⟨Rect.unit (s := S1x256x1024) ![0, 0, 256] S1x256x128.size inb_S1x256x1024_S1x256x128_0_0_256, p 2⟩, ⟨Rect.unit (s := S1x256x1024) ![0, 0, 128] S1x256x128.size inb_S1x256x1024_S1x256x128_0_0_128, p 1⟩, ⟨Rect.unit (s := S1x256x1024) ![0, 0, 0] S1x256x128.size inb_S1x256x1024_S1x256x128_0_0_0, p 0⟩]

/-- The last store holds the index. -/
theorem hit8 {e : EltTy} (v : View sig .tc .vmem S1x256x1024 e) (f : BufTy.Contents (Elt F) v.ty) (o : ℕ)
    (inb : ∀ a, (![0, 0, o] : Fin 3 → ℕ) a + S1x256x128.size a ≤ S1x256x1024.size a) (w : Vec F S1x256x128 e) (L : List (View.Piece (Elt F) S1x256x1024 e)) (r : Fin 256) (l : Fin 128) (j : Fin 1024) (hj : j.val = o + l.val) :
    v.read (Elt F) (v.writes (Elt F) f ((⟨Rect.unit (s := S1x256x1024) ![0, 0, o] S1x256x128.size inb, w⟩ : View.Piece (Elt F) S1x256x1024 e) :: L)) (ix3 0 r j : S1x256x1024.Idx) = w (ix3 0 r l : S1x256x128.Idx) := by
  have hx : ∀ a : Fin S1x256x1024.rank, ((ix3 0 r j : S1x256x1024.Idx) a).val = (![0, 0, o] : Fin 3 → ℕ) a + ((ix3 0 r l : S1x256x128.Idx) a).val := by
    intro a
    match a with
    | ⟨0, _⟩ => rfl
    | ⟨1, _⟩ => exact (Nat.zero_add _).symm
    | ⟨2, _⟩ => exact hj
  exact View.read_writes_cons_unit_of_mem (s := S1x256x1024) (off' := ![0, 0, o]) (size := S1x256x128.size) v f inb w L (ix3 0 r j : S1x256x1024.Idx) (ix3 0 r l : S1x256x128.Idx) rfl hx

/-- The last store does not hold the index. -/
theorem miss8 {e : EltTy} (v : View sig .tc .vmem S1x256x1024 e) (f : BufTy.Contents (Elt F) v.ty) (o : ℕ)
    (inb : ∀ a, (![0, 0, o] : Fin 3 → ℕ) a + S1x256x128.size a ≤ S1x256x1024.size a) (w : Vec F S1x256x128 e) (L : List (View.Piece (Elt F) S1x256x1024 e)) (r : Fin 256) (l : Fin 128) (j : Fin 1024) (hj : j.val < o ∨ o + 128 ≤ j.val) :
    v.read (Elt F) (v.writes (Elt F) f ((⟨Rect.unit (s := S1x256x1024) ![0, 0, o] S1x256x128.size inb, w⟩ : View.Piece (Elt F) S1x256x1024 e) :: L)) (ix3 0 r j : S1x256x1024.Idx)
      = v.read (Elt F) (v.writes (Elt F) f L) (ix3 0 r j : S1x256x1024.Idx) :=
  View.read_writes_cons_unit_of_not_mem (s := S1x256x1024) (off' := ![0, 0, o]) (size := S1x256x128.size) v f inb w L (ix3 0 r j : S1x256x1024.Idx) rfl 2 hj

/-- Such a window at an index is its pair of heads' store. -/
theorem read_list8 {e : EltTy} (v : View sig .tc .vmem S1x256x1024 e) (f : BufTy.Contents (Elt F) v.ty) (p : Fin 8 → Vec F S1x256x128 e) (h : Fin 8) (r : Fin 256) (l : Fin 128) :
    v.read (Elt F) (v.writes (Elt F) f (list8 p)) (ix3 0 r ⟨128 * h.val + l.val, by omega⟩) = p h (ix3 0 r l : S1x256x128.Idx) := by
  unfold list8
  match h with
  | ⟨0, _⟩ =>
    refine (miss8 v f 896 _ _ _ r l ⟨128 * 0 + l.val, by omega⟩ (Or.inl (by show 128 * 0 + l.val < 896; omega))).trans ?_
    refine (miss8 v f 768 _ _ _ r l ⟨128 * 0 + l.val, by omega⟩ (Or.inl (by show 128 * 0 + l.val < 768; omega))).trans ?_
    refine (miss8 v f 640 _ _ _ r l ⟨128 * 0 + l.val, by omega⟩ (Or.inl (by show 128 * 0 + l.val < 640; omega))).trans ?_
    refine (miss8 v f 512 _ _ _ r l ⟨128 * 0 + l.val, by omega⟩ (Or.inl (by show 128 * 0 + l.val < 512; omega))).trans ?_
    refine (miss8 v f 384 _ _ _ r l ⟨128 * 0 + l.val, by omega⟩ (Or.inl (by show 128 * 0 + l.val < 384; omega))).trans ?_
    refine (miss8 v f 256 _ _ _ r l ⟨128 * 0 + l.val, by omega⟩ (Or.inl (by show 128 * 0 + l.val < 256; omega))).trans ?_
    refine (miss8 v f 128 _ _ _ r l ⟨128 * 0 + l.val, by omega⟩ (Or.inl (by show 128 * 0 + l.val < 128; omega))).trans ?_
    exact hit8 v f 0 _ _ _ r l ⟨128 * 0 + l.val, by omega⟩ (by show 128 * 0 + l.val = 0 + l.val; rfl)
  | ⟨1, _⟩ =>
    refine (miss8 v f 896 _ _ _ r l ⟨128 * 1 + l.val, by omega⟩ (Or.inl (by show 128 * 1 + l.val < 896; omega))).trans ?_
    refine (miss8 v f 768 _ _ _ r l ⟨128 * 1 + l.val, by omega⟩ (Or.inl (by show 128 * 1 + l.val < 768; omega))).trans ?_
    refine (miss8 v f 640 _ _ _ r l ⟨128 * 1 + l.val, by omega⟩ (Or.inl (by show 128 * 1 + l.val < 640; omega))).trans ?_
    refine (miss8 v f 512 _ _ _ r l ⟨128 * 1 + l.val, by omega⟩ (Or.inl (by show 128 * 1 + l.val < 512; omega))).trans ?_
    refine (miss8 v f 384 _ _ _ r l ⟨128 * 1 + l.val, by omega⟩ (Or.inl (by show 128 * 1 + l.val < 384; omega))).trans ?_
    refine (miss8 v f 256 _ _ _ r l ⟨128 * 1 + l.val, by omega⟩ (Or.inl (by show 128 * 1 + l.val < 256; omega))).trans ?_
    exact hit8 v f 128 _ _ _ r l ⟨128 * 1 + l.val, by omega⟩ (by show 128 * 1 + l.val = 128 + l.val; omega)
  | ⟨2, _⟩ =>
    refine (miss8 v f 896 _ _ _ r l ⟨128 * 2 + l.val, by omega⟩ (Or.inl (by show 128 * 2 + l.val < 896; omega))).trans ?_
    refine (miss8 v f 768 _ _ _ r l ⟨128 * 2 + l.val, by omega⟩ (Or.inl (by show 128 * 2 + l.val < 768; omega))).trans ?_
    refine (miss8 v f 640 _ _ _ r l ⟨128 * 2 + l.val, by omega⟩ (Or.inl (by show 128 * 2 + l.val < 640; omega))).trans ?_
    refine (miss8 v f 512 _ _ _ r l ⟨128 * 2 + l.val, by omega⟩ (Or.inl (by show 128 * 2 + l.val < 512; omega))).trans ?_
    refine (miss8 v f 384 _ _ _ r l ⟨128 * 2 + l.val, by omega⟩ (Or.inl (by show 128 * 2 + l.val < 384; omega))).trans ?_
    exact hit8 v f 256 _ _ _ r l ⟨128 * 2 + l.val, by omega⟩ (by show 128 * 2 + l.val = 256 + l.val; omega)
  | ⟨3, _⟩ =>
    refine (miss8 v f 896 _ _ _ r l ⟨128 * 3 + l.val, by omega⟩ (Or.inl (by show 128 * 3 + l.val < 896; omega))).trans ?_
    refine (miss8 v f 768 _ _ _ r l ⟨128 * 3 + l.val, by omega⟩ (Or.inl (by show 128 * 3 + l.val < 768; omega))).trans ?_
    refine (miss8 v f 640 _ _ _ r l ⟨128 * 3 + l.val, by omega⟩ (Or.inl (by show 128 * 3 + l.val < 640; omega))).trans ?_
    refine (miss8 v f 512 _ _ _ r l ⟨128 * 3 + l.val, by omega⟩ (Or.inl (by show 128 * 3 + l.val < 512; omega))).trans ?_
    exact hit8 v f 384 _ _ _ r l ⟨128 * 3 + l.val, by omega⟩ (by show 128 * 3 + l.val = 384 + l.val; omega)
  | ⟨4, _⟩ =>
    refine (miss8 v f 896 _ _ _ r l ⟨128 * 4 + l.val, by omega⟩ (Or.inl (by show 128 * 4 + l.val < 896; omega))).trans ?_
    refine (miss8 v f 768 _ _ _ r l ⟨128 * 4 + l.val, by omega⟩ (Or.inl (by show 128 * 4 + l.val < 768; omega))).trans ?_
    refine (miss8 v f 640 _ _ _ r l ⟨128 * 4 + l.val, by omega⟩ (Or.inl (by show 128 * 4 + l.val < 640; omega))).trans ?_
    exact hit8 v f 512 _ _ _ r l ⟨128 * 4 + l.val, by omega⟩ (by show 128 * 4 + l.val = 512 + l.val; omega)
  | ⟨5, _⟩ =>
    refine (miss8 v f 896 _ _ _ r l ⟨128 * 5 + l.val, by omega⟩ (Or.inl (by show 128 * 5 + l.val < 896; omega))).trans ?_
    refine (miss8 v f 768 _ _ _ r l ⟨128 * 5 + l.val, by omega⟩ (Or.inl (by show 128 * 5 + l.val < 768; omega))).trans ?_
    exact hit8 v f 640 _ _ _ r l ⟨128 * 5 + l.val, by omega⟩ (by show 128 * 5 + l.val = 640 + l.val; omega)
  | ⟨6, _⟩ =>
    refine (miss8 v f 896 _ _ _ r l ⟨128 * 6 + l.val, by omega⟩ (Or.inl (by show 128 * 6 + l.val < 896; omega))).trans ?_
    exact hit8 v f 768 _ _ _ r l ⟨128 * 6 + l.val, by omega⟩ (by show 128 * 6 + l.val = 768 + l.val; omega)
  | ⟨7, _⟩ =>
    exact hit8 v f 896 _ _ _ r l ⟨128 * 7 + l.val, by omega⟩ (by show 128 * 7 + l.val = 896 + l.val; omega)

/-- The stores of a window written one pair of heads after another, the last first. -/
def list10 {e : EltTy} (p : Fin 8 → Vec F S1x1x256x128 e) : List (View.Piece (Elt F) S1x8x256x128 e) :=
  [⟨Rect.unit (s := S1x8x256x128) ![0, 7, 0, 0] S1x1x256x128.size inb_S1x8x256x128_S1x1x256x128_0_7_0_0, p 7⟩, ⟨Rect.unit (s := S1x8x256x128) ![0, 6, 0, 0] S1x1x256x128.size inb_S1x8x256x128_S1x1x256x128_0_6_0_0, p 6⟩, ⟨Rect.unit (s := S1x8x256x128) ![0, 5, 0, 0] S1x1x256x128.size inb_S1x8x256x128_S1x1x256x128_0_5_0_0, p 5⟩, ⟨Rect.unit (s := S1x8x256x128) ![0, 4, 0, 0] S1x1x256x128.size inb_S1x8x256x128_S1x1x256x128_0_4_0_0, p 4⟩, ⟨Rect.unit (s := S1x8x256x128) ![0, 3, 0, 0] S1x1x256x128.size inb_S1x8x256x128_S1x1x256x128_0_3_0_0, p 3⟩, ⟨Rect.unit (s := S1x8x256x128) ![0, 2, 0, 0] S1x1x256x128.size inb_S1x8x256x128_S1x1x256x128_0_2_0_0, p 2⟩, ⟨Rect.unit (s := S1x8x256x128) ![0, 1, 0, 0] S1x1x256x128.size inb_S1x8x256x128_S1x1x256x128_0_1_0_0, p 1⟩, ⟨Rect.unit (s := S1x8x256x128) ![0, 0, 0, 0] S1x1x256x128.size inb_S1x8x256x128_S1x1x256x128_0_0_0_0, p 0⟩]

/-- The last store holds the index. -/
theorem hit10 {e : EltTy} (v : View sig .tc .vmem S1x8x256x128 e) (f : BufTy.Contents (Elt F) v.ty) (o : ℕ)
    (inb : ∀ a, (![0, o, 0, 0] : Fin 4 → ℕ) a + S1x1x256x128.size a ≤ S1x8x256x128.size a) (w : Vec F S1x1x256x128 e) (L : List (View.Piece (Elt F) S1x8x256x128 e)) (r : Fin 256) (l : Fin 128) (j : Fin 8) (hj : j.val = o) :
    v.read (Elt F) (v.writes (Elt F) f ((⟨Rect.unit (s := S1x8x256x128) ![0, o, 0, 0] S1x1x256x128.size inb, w⟩ : View.Piece (Elt F) S1x8x256x128 e) :: L)) (ix4 0 j r l : S1x8x256x128.Idx) = w (ix4 0 0 r l : S1x1x256x128.Idx) := by
  have hx : ∀ a : Fin S1x8x256x128.rank, ((ix4 0 j r l : S1x8x256x128.Idx) a).val = (![0, o, 0, 0] : Fin 4 → ℕ) a + ((ix4 0 0 r l : S1x1x256x128.Idx) a).val := by
    intro a
    match a with
    | ⟨0, _⟩ => rfl
    | ⟨1, _⟩ => exact hj
    | ⟨2, _⟩ => exact (Nat.zero_add _).symm
    | ⟨3, _⟩ => exact (Nat.zero_add _).symm
  exact View.read_writes_cons_unit_of_mem (s := S1x8x256x128) (off' := ![0, o, 0, 0]) (size := S1x1x256x128.size) v f inb w L (ix4 0 j r l : S1x8x256x128.Idx) (ix4 0 0 r l : S1x1x256x128.Idx) rfl hx

/-- The last store does not hold the index. -/
theorem miss10 {e : EltTy} (v : View sig .tc .vmem S1x8x256x128 e) (f : BufTy.Contents (Elt F) v.ty) (o : ℕ)
    (inb : ∀ a, (![0, o, 0, 0] : Fin 4 → ℕ) a + S1x1x256x128.size a ≤ S1x8x256x128.size a) (w : Vec F S1x1x256x128 e) (L : List (View.Piece (Elt F) S1x8x256x128 e)) (r : Fin 256) (l : Fin 128) (j : Fin 8) (hj : j.val < o ∨ o + 1 ≤ j.val) :
    v.read (Elt F) (v.writes (Elt F) f ((⟨Rect.unit (s := S1x8x256x128) ![0, o, 0, 0] S1x1x256x128.size inb, w⟩ : View.Piece (Elt F) S1x8x256x128 e) :: L)) (ix4 0 j r l : S1x8x256x128.Idx)
      = v.read (Elt F) (v.writes (Elt F) f L) (ix4 0 j r l : S1x8x256x128.Idx) :=
  View.read_writes_cons_unit_of_not_mem (s := S1x8x256x128) (off' := ![0, o, 0, 0]) (size := S1x1x256x128.size) v f inb w L (ix4 0 j r l : S1x8x256x128.Idx) rfl 1 hj

/-- Such a window at an index is its pair of heads' store. -/
theorem read_list10 {e : EltTy} (v : View sig .tc .vmem S1x8x256x128 e) (f : BufTy.Contents (Elt F) v.ty) (p : Fin 8 → Vec F S1x1x256x128 e) (h : Fin 8) (r : Fin 256) (l : Fin 128) :
    v.read (Elt F) (v.writes (Elt F) f (list10 p)) (ix4 0 h r l) = p h (ix4 0 0 r l : S1x1x256x128.Idx) := by
  unfold list10
  match h with
  | ⟨0, _⟩ =>
    refine (miss10 v f 7 _ _ _ r l 0 (Or.inl (by decide))).trans ?_
    refine (miss10 v f 6 _ _ _ r l 0 (Or.inl (by decide))).trans ?_
    refine (miss10 v f 5 _ _ _ r l 0 (Or.inl (by decide))).trans ?_
    refine (miss10 v f 4 _ _ _ r l 0 (Or.inl (by decide))).trans ?_
    refine (miss10 v f 3 _ _ _ r l 0 (Or.inl (by decide))).trans ?_
    refine (miss10 v f 2 _ _ _ r l 0 (Or.inl (by decide))).trans ?_
    refine (miss10 v f 1 _ _ _ r l 0 (Or.inl (by decide))).trans ?_
    exact hit10 v f 0 _ _ _ r l 0 rfl
  | ⟨1, _⟩ =>
    refine (miss10 v f 7 _ _ _ r l 1 (Or.inl (by decide))).trans ?_
    refine (miss10 v f 6 _ _ _ r l 1 (Or.inl (by decide))).trans ?_
    refine (miss10 v f 5 _ _ _ r l 1 (Or.inl (by decide))).trans ?_
    refine (miss10 v f 4 _ _ _ r l 1 (Or.inl (by decide))).trans ?_
    refine (miss10 v f 3 _ _ _ r l 1 (Or.inl (by decide))).trans ?_
    refine (miss10 v f 2 _ _ _ r l 1 (Or.inl (by decide))).trans ?_
    exact hit10 v f 1 _ _ _ r l 1 rfl
  | ⟨2, _⟩ =>
    refine (miss10 v f 7 _ _ _ r l 2 (Or.inl (by decide))).trans ?_
    refine (miss10 v f 6 _ _ _ r l 2 (Or.inl (by decide))).trans ?_
    refine (miss10 v f 5 _ _ _ r l 2 (Or.inl (by decide))).trans ?_
    refine (miss10 v f 4 _ _ _ r l 2 (Or.inl (by decide))).trans ?_
    refine (miss10 v f 3 _ _ _ r l 2 (Or.inl (by decide))).trans ?_
    exact hit10 v f 2 _ _ _ r l 2 rfl
  | ⟨3, _⟩ =>
    refine (miss10 v f 7 _ _ _ r l 3 (Or.inl (by decide))).trans ?_
    refine (miss10 v f 6 _ _ _ r l 3 (Or.inl (by decide))).trans ?_
    refine (miss10 v f 5 _ _ _ r l 3 (Or.inl (by decide))).trans ?_
    refine (miss10 v f 4 _ _ _ r l 3 (Or.inl (by decide))).trans ?_
    exact hit10 v f 3 _ _ _ r l 3 rfl
  | ⟨4, _⟩ =>
    refine (miss10 v f 7 _ _ _ r l 4 (Or.inl (by decide))).trans ?_
    refine (miss10 v f 6 _ _ _ r l 4 (Or.inl (by decide))).trans ?_
    refine (miss10 v f 5 _ _ _ r l 4 (Or.inl (by decide))).trans ?_
    exact hit10 v f 4 _ _ _ r l 4 rfl
  | ⟨5, _⟩ =>
    refine (miss10 v f 7 _ _ _ r l 5 (Or.inl (by decide))).trans ?_
    refine (miss10 v f 6 _ _ _ r l 5 (Or.inl (by decide))).trans ?_
    exact hit10 v f 5 _ _ _ r l 5 rfl
  | ⟨6, _⟩ =>
    refine (miss10 v f 7 _ _ _ r l 6 (Or.inl (by decide))).trans ?_
    exact hit10 v f 6 _ _ _ r l 6 rfl
  | ⟨7, _⟩ =>
    exact hit10 v f 7 _ _ _ r l 7 rfl

/-- The stores of a window written one pair of heads after another, the last first. -/
def list12 {e : EltTy} (p : Fin 8 → Vec F S1x1x1x128x256 e) : List (View.Piece (Elt F) S1x8x1x128x256 e) :=
  [⟨Rect.unit (s := S1x8x1x128x256) ![0, 7, 0, 0, 0] S1x1x1x128x256.size inb_S1x8x1x128x256_S1x1x1x128x256_0_7_0_0_0, p 7⟩, ⟨Rect.unit (s := S1x8x1x128x256) ![0, 6, 0, 0, 0] S1x1x1x128x256.size inb_S1x8x1x128x256_S1x1x1x128x256_0_6_0_0_0, p 6⟩, ⟨Rect.unit (s := S1x8x1x128x256) ![0, 5, 0, 0, 0] S1x1x1x128x256.size inb_S1x8x1x128x256_S1x1x1x128x256_0_5_0_0_0, p 5⟩, ⟨Rect.unit (s := S1x8x1x128x256) ![0, 4, 0, 0, 0] S1x1x1x128x256.size inb_S1x8x1x128x256_S1x1x1x128x256_0_4_0_0_0, p 4⟩, ⟨Rect.unit (s := S1x8x1x128x256) ![0, 3, 0, 0, 0] S1x1x1x128x256.size inb_S1x8x1x128x256_S1x1x1x128x256_0_3_0_0_0, p 3⟩, ⟨Rect.unit (s := S1x8x1x128x256) ![0, 2, 0, 0, 0] S1x1x1x128x256.size inb_S1x8x1x128x256_S1x1x1x128x256_0_2_0_0_0, p 2⟩, ⟨Rect.unit (s := S1x8x1x128x256) ![0, 1, 0, 0, 0] S1x1x1x128x256.size inb_S1x8x1x128x256_S1x1x1x128x256_0_1_0_0_0, p 1⟩, ⟨Rect.unit (s := S1x8x1x128x256) ![0, 0, 0, 0, 0] S1x1x1x128x256.size inb_S1x8x1x128x256_S1x1x1x128x256_0_0_0_0_0, p 0⟩]

/-- The last store holds the index. -/
theorem hit12 {e : EltTy} (v : View sig .tc .vmem S1x8x1x128x256 e) (f : BufTy.Contents (Elt F) v.ty) (o : ℕ)
    (inb : ∀ a, (![0, o, 0, 0, 0] : Fin 5 → ℕ) a + S1x1x1x128x256.size a ≤ S1x8x1x128x256.size a) (w : Vec F S1x1x1x128x256 e) (L : List (View.Piece (Elt F) S1x8x1x128x256 e)) (r : Fin 128) (l : Fin 256) (j : Fin 8) (hj : j.val = o) :
    v.read (Elt F) (v.writes (Elt F) f ((⟨Rect.unit (s := S1x8x1x128x256) ![0, o, 0, 0, 0] S1x1x1x128x256.size inb, w⟩ : View.Piece (Elt F) S1x8x1x128x256 e) :: L)) (ix5 0 j 0 r l : S1x8x1x128x256.Idx) = w (ix5 0 0 0 r l : S1x1x1x128x256.Idx) := by
  have hx : ∀ a : Fin S1x8x1x128x256.rank, ((ix5 0 j 0 r l : S1x8x1x128x256.Idx) a).val = (![0, o, 0, 0, 0] : Fin 5 → ℕ) a + ((ix5 0 0 0 r l : S1x1x1x128x256.Idx) a).val := by
    intro a
    match a with
    | ⟨0, _⟩ => rfl
    | ⟨1, _⟩ => exact hj
    | ⟨2, _⟩ => rfl
    | ⟨3, _⟩ => exact (Nat.zero_add _).symm
    | ⟨4, _⟩ => exact (Nat.zero_add _).symm
  exact View.read_writes_cons_unit_of_mem (s := S1x8x1x128x256) (off' := ![0, o, 0, 0, 0]) (size := S1x1x1x128x256.size) v f inb w L (ix5 0 j 0 r l : S1x8x1x128x256.Idx) (ix5 0 0 0 r l : S1x1x1x128x256.Idx) rfl hx

/-- The last store does not hold the index. -/
theorem miss12 {e : EltTy} (v : View sig .tc .vmem S1x8x1x128x256 e) (f : BufTy.Contents (Elt F) v.ty) (o : ℕ)
    (inb : ∀ a, (![0, o, 0, 0, 0] : Fin 5 → ℕ) a + S1x1x1x128x256.size a ≤ S1x8x1x128x256.size a) (w : Vec F S1x1x1x128x256 e) (L : List (View.Piece (Elt F) S1x8x1x128x256 e)) (r : Fin 128) (l : Fin 256) (j : Fin 8) (hj : j.val < o ∨ o + 1 ≤ j.val) :
    v.read (Elt F) (v.writes (Elt F) f ((⟨Rect.unit (s := S1x8x1x128x256) ![0, o, 0, 0, 0] S1x1x1x128x256.size inb, w⟩ : View.Piece (Elt F) S1x8x1x128x256 e) :: L)) (ix5 0 j 0 r l : S1x8x1x128x256.Idx)
      = v.read (Elt F) (v.writes (Elt F) f L) (ix5 0 j 0 r l : S1x8x1x128x256.Idx) :=
  View.read_writes_cons_unit_of_not_mem (s := S1x8x1x128x256) (off' := ![0, o, 0, 0, 0]) (size := S1x1x1x128x256.size) v f inb w L (ix5 0 j 0 r l : S1x8x1x128x256.Idx) rfl 1 hj

/-- Such a window at an index is its pair of heads' store. -/
theorem read_list12 {e : EltTy} (v : View sig .tc .vmem S1x8x1x128x256 e) (f : BufTy.Contents (Elt F) v.ty) (p : Fin 8 → Vec F S1x1x1x128x256 e) (h : Fin 8) (r : Fin 128) (l : Fin 256) :
    v.read (Elt F) (v.writes (Elt F) f (list12 p)) (ix5 0 h 0 r l) = p h (ix5 0 0 0 r l : S1x1x1x128x256.Idx) := by
  unfold list12
  match h with
  | ⟨0, _⟩ =>
    refine (miss12 v f 7 _ _ _ r l 0 (Or.inl (by decide))).trans ?_
    refine (miss12 v f 6 _ _ _ r l 0 (Or.inl (by decide))).trans ?_
    refine (miss12 v f 5 _ _ _ r l 0 (Or.inl (by decide))).trans ?_
    refine (miss12 v f 4 _ _ _ r l 0 (Or.inl (by decide))).trans ?_
    refine (miss12 v f 3 _ _ _ r l 0 (Or.inl (by decide))).trans ?_
    refine (miss12 v f 2 _ _ _ r l 0 (Or.inl (by decide))).trans ?_
    refine (miss12 v f 1 _ _ _ r l 0 (Or.inl (by decide))).trans ?_
    exact hit12 v f 0 _ _ _ r l 0 rfl
  | ⟨1, _⟩ =>
    refine (miss12 v f 7 _ _ _ r l 1 (Or.inl (by decide))).trans ?_
    refine (miss12 v f 6 _ _ _ r l 1 (Or.inl (by decide))).trans ?_
    refine (miss12 v f 5 _ _ _ r l 1 (Or.inl (by decide))).trans ?_
    refine (miss12 v f 4 _ _ _ r l 1 (Or.inl (by decide))).trans ?_
    refine (miss12 v f 3 _ _ _ r l 1 (Or.inl (by decide))).trans ?_
    refine (miss12 v f 2 _ _ _ r l 1 (Or.inl (by decide))).trans ?_
    exact hit12 v f 1 _ _ _ r l 1 rfl
  | ⟨2, _⟩ =>
    refine (miss12 v f 7 _ _ _ r l 2 (Or.inl (by decide))).trans ?_
    refine (miss12 v f 6 _ _ _ r l 2 (Or.inl (by decide))).trans ?_
    refine (miss12 v f 5 _ _ _ r l 2 (Or.inl (by decide))).trans ?_
    refine (miss12 v f 4 _ _ _ r l 2 (Or.inl (by decide))).trans ?_
    refine (miss12 v f 3 _ _ _ r l 2 (Or.inl (by decide))).trans ?_
    exact hit12 v f 2 _ _ _ r l 2 rfl
  | ⟨3, _⟩ =>
    refine (miss12 v f 7 _ _ _ r l 3 (Or.inl (by decide))).trans ?_
    refine (miss12 v f 6 _ _ _ r l 3 (Or.inl (by decide))).trans ?_
    refine (miss12 v f 5 _ _ _ r l 3 (Or.inl (by decide))).trans ?_
    refine (miss12 v f 4 _ _ _ r l 3 (Or.inl (by decide))).trans ?_
    exact hit12 v f 3 _ _ _ r l 3 rfl
  | ⟨4, _⟩ =>
    refine (miss12 v f 7 _ _ _ r l 4 (Or.inl (by decide))).trans ?_
    refine (miss12 v f 6 _ _ _ r l 4 (Or.inl (by decide))).trans ?_
    refine (miss12 v f 5 _ _ _ r l 4 (Or.inl (by decide))).trans ?_
    exact hit12 v f 4 _ _ _ r l 4 rfl
  | ⟨5, _⟩ =>
    refine (miss12 v f 7 _ _ _ r l 5 (Or.inl (by decide))).trans ?_
    refine (miss12 v f 6 _ _ _ r l 5 (Or.inl (by decide))).trans ?_
    exact hit12 v f 5 _ _ _ r l 5 rfl
  | ⟨6, _⟩ =>
    refine (miss12 v f 7 _ _ _ r l 6 (Or.inl (by decide))).trans ?_
    exact hit12 v f 6 _ _ _ r l 6 rfl
  | ⟨7, _⟩ =>
    exact hit12 v f 7 _ _ _ r l 7 rfl

/-- The load of a block of the weights. -/
theorem read_w (m : Memref sig .tc .vmem S1024x7168 .bf16) (hm : m.IsWhole) (x : Vec F S1024x7168 .bf16) (o : ℕ) (ho : o + 1024 ≤ 7168)
    (inb : ∀ a, (![0, o] : Fin 2 → ℕ) a + S1024x1024.size a ≤ S1024x7168.size a) :
    View.readAt (Elt F) m.view (Rect.unit (s := S1024x7168) ![0, o] S1024x1024.size inb).toLoadRect (hm.unread x) = cols x o := by
  rw [View.readAt_eq_ld, hm.read_unread]
  funext y
  unfold cols
  refine View.ld_unit_apply_of x _ _ inb y _ ?_
  have hy1 : (y 1).val < 1024 := (y 1).isLt
  intro a
  match a with
  | ⟨0, _⟩ => show (y 0).val = 0 + (y 0).val; omega
  | ⟨1, _⟩ => show (o + (y 1).val) % 7168 = o + (y 1).val; omega

/-- The load of the input tile. -/
theorem read_x (m : Memref sig .tc .vmem S1x256x1024 .f32) (hm : m.IsWhole) (x : Vec F S1x256x1024 .f32)
    (inb : ∀ a, (![0, 0, 0] : Fin 3 → ℕ) a + S1x256x1024.size a ≤ S1x256x1024.size a) :
    View.readAt (Elt F) m.view (Rect.unit (s := S1x256x1024) ![0, 0, 0] S1x256x1024.size inb).toLoadRect (hm.unread x) = x := by
  rw [View.readAt_eq_ld, hm.read_unread]
  funext y
  refine View.ld_unit_apply_of x _ _ inb y _ ?_
  intro a
  match a with
  | ⟨0, _⟩ => exact (Nat.zero_add _).symm
  | ⟨1, _⟩ => exact (Nat.zero_add _).symm
  | ⟨2, _⟩ => exact (Nat.zero_add _).symm

/-- The load of a table. -/
theorem read_t (m : Memref sig .tc .vmem S256x128 .f32) (hm : m.IsWhole) (x : Vec F S256x128 .f32)
    (inb : ∀ a, (![0, 0] : Fin 2 → ℕ) a + S256x128.size a ≤ S256x128.size a) :
    View.readAt (Elt F) m.view (Rect.unit (s := S256x128) ![0, 0] S256x128.size inb).toLoadRect (hm.unread x) = x := by
  rw [View.readAt_eq_ld, hm.read_unread]
  funext y
  refine View.ld_unit_apply_of x _ _ inb y _ ?_
  intro a
  match a with
  | ⟨0, _⟩ => exact (Nat.zero_add _).symm
  | ⟨1, _⟩ => exact (Nat.zero_add _).symm

/-- A window stored whole. -/
theorem read_whole {e : EltTy} (v : View sig .tc .vmem S1x256x1024 e) (f : BufTy.Contents (Elt F) v.ty) (p : Vec F S1x256x1024 e) (y : S1x256x1024.Idx) :
    v.read (Elt F) (v.writes (Elt F) f [⟨Rect.unit (s := S1x256x1024) ![0, 0, 0] S1x256x1024.size inb_S1x256x1024_S1x256x1024_0_0_0, p⟩]) y = p y := by
  refine View.read_writes_cons_unit_of_mem (size := S1x256x1024.size) _ _ _ _ _ _ (y : S1x256x1024.Idx) rfl ?_
  intro a
  match a with
  | ⟨0, _⟩ => exact (Nat.zero_add _).symm
  | ⟨1, _⟩ => exact (Nat.zero_add _).symm
  | ⟨2, _⟩ => exact (Nat.zero_add _).symm

/-- A pair of heads of a product, turned. -/
def keyT (x0 : Vec F S1x256x1024 .f32) (x1 x2 x3 : Vec F S256x128 .f32) (w : Vec F S1024x1024 .bf16) (h : Fin 8) : FVec F S256x128 .f32 :=
  turned (cut (mm x0 w) h) (k0_pay21 x1) (k0_pay22 x2) (k0_pay23 x3)

/-- A pair of query heads: the product scaled, then turned. -/
def queryT (x0 : Vec F S1x256x1024 .f32) (x1 x2 x3 : Vec F S256x128 .f32) (w : Vec F S1024x1024 .bf16) (h : Fin 8) : FVec F S256x128 .f32 :=
  turned (cut (k0_pay24 (k0_pay2 x0) w) h) (k0_pay21 x1) (k0_pay22 x2) (k0_pay23 x3)

/-- What is stored of the keys. -/
def kP (x0 : Vec F S1x256x1024 .f32) (x1 x2 x3 : Vec F S256x128 .f32) (w : Vec F S1024x1024 .bf16) (h : Fin 8) : FVec F S1x256x128 .f32 :=
  shapeCast S1x256x128 (keyT x0 x1 x2 x3 w h) shapeCasts_S256x128_S1x256x128

/-- What is stored of the queries. -/
def qP (x0 : Vec F S1x256x1024 .f32) (x1 x2 x3 : Vec F S256x128 .f32) (w : Vec F S1024x1024 .bf16) (h : Fin 8) : FVec F S1x1x256x128 .f32 :=
  shapeCast S1x1x256x128 (queryT x0 x1 x2 x3 w h) shapeCasts_S256x128_S1x1x256x128

/-- What is stored of the keys for the attention. -/
def kbP (x0 : Vec F S1x256x1024 .f32) (x1 x2 x3 : Vec F S256x128 .f32) (w : Vec F S1024x1024 .bf16) (h : Fin 8) : FVec F S1x1x256x128 .bf16 :=
  shapeCast S1x1x256x128 (truncf .bf16 (keyT x0 x1 x2 x3 w h) bitsLt_bf16_f32) shapeCasts_S256x128_S1x1x256x128

/-- What is stored of the values for the attention, a pair of heads transposed. -/
def vtP (x0 : Vec F S1x256x1024 .f32) (w : Vec F S1024x1024 .bf16) (h : Fin 8) : FVec F S1x1x1x128x256 .bf16 :=
  shapeCast S1x1x1x128x256 (truncf .bf16 (transpose S128x256 [1, 0] (cut (mm x0 w) h) transposes_S256x128_p1_0_S128x256) bitsLt_bf16_f32) shapeCasts_S128x256_S1x1x1x128x256

end Cert.Kernel3Ideal.Pro
-- ==== Proof.ProjRun.lean ====
/-
  The projection's run at a grid point: the stores of each output, and what a window so written holds at an index.
-/
module

public import proofs.«01_k».proof.Proof.ProjTile
public import proofs.«01_k».proof.Proof.Gen.Kernel3Ideal.Frame

@[expose] public section

set_option maxRecDepth 16384

noncomputable section

namespace Cert.Kernel3Ideal.Pro

open Cert.Kernel3Ideal Cert.Kernel3Ideal.Gen Idealize.ShloMosaic Idealize.ShloMosaic.TcCoe Idealize.ShloMosaic.Tactic Idealize.SL.Sem

variable {F : FTy → Type} [FloatOps F]

variable (c : Dev nD) (i : grid0.Coords) (arg2 : Memref sig .tc .vmem S1x256x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x7168 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x8x256x128 .f32) (harg12 : arg12.IsWhole) (arg13 : Memref sig .tc .vmem S1x8x256x128 .bf16) (harg13 : arg13.IsWhole) (arg14 : Memref sig .tc .vmem S1x8x1x128x256 .bf16) (harg14 : arg14.IsWhole) (arg15 : Memref sig .tc .vmem S1x256x1024 .bf16) (harg15 : arg15.IsWhole) (arg16 : Memref sig .tc .vmem S1x256x1024 .bf16) (harg16 : arg16.IsWhole) (arg17 : Memref sig .tc .vmem S1x256x1024 .f32) (harg17 : arg17.IsWhole) (arg18 : Memref sig .tc .vmem S1x16x512 .f32) (harg18 : arg18.IsWhole) (arg19 : Memref sig .tc .vmem S288x512 .f32) (harg19 : arg19.IsWhole) (arg20 : Memref sig .tc .vmem S3x288x512 .f32) (harg20 : arg20.IsWhole)
variable (x0 : Vec F S1x256x1024 .f32) (x1 : Vec F S256x128 .f32) (x2 : Vec F S256x128 .f32) (x3 : Vec F S256x128 .f32) (x4 : Vec F S1024x7168 .bf16) (x5 : Vec F S4x128x128 .bf16) (x6 : Vec F S1x512 .f32) (x7 : Vec F S512x1024 .bf16) (xs0 : Vec F S288x512 .f32)

section

variable (hc0 : cond0_0 i)

/-- The stores of the keys, case A. -/
theorem run_A_8 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).1 =
    list8 (kP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 2048] S1024x1024.size inb_S1024x7168_S1024x1024_0_2048).toLoadRect (harg6.unread x4))) := by
  unfold kernelRun0_A; rfl

/-- The stores of the values, case A. -/
theorem run_A_9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.1 =
    [⟨Rect.unit (s := S1x256x1024) ![0, 0, 0] S1x256x1024.size inb_S1x256x1024_S1x256x1024_0_0_0, k0_pay65 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 3072] S1024x1024.size inb_S1024x7168_S1024x1024_0_3072).toLoadRect (harg6.unread x4))⟩] := by
  unfold kernelRun0_A; rfl

/-- The stores of the queries, case A. -/
theorem run_A_10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.1 =
    list10 (qP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 1024] S1024x1024.size inb_S1024x7168_S1024x1024_0_1024).toLoadRect (harg6.unread x4))) := by
  unfold kernelRun0_A; rfl

/-- The stores of the attention's keys, case A. -/
theorem run_A_11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.1 =
    list10 (kbP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 2048] S1024x1024.size inb_S1024x7168_S1024x1024_0_2048).toLoadRect (harg6.unread x4))) := by
  unfold kernelRun0_A; rfl

/-- The stores of the attention's values, case A. -/
theorem run_A_12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.1 =
    list12 (vtP (View.readAt (Elt F) arg2.view (Rect.unit (s := S1x256x1024) ![0, 0, 0] S1x256x1024.size inb_S1x256x1024_S1x256x1024_0_0_0).toLoadRect (harg2.unread x0)) (View.readAt (Elt F) arg6.view (Rect.unit (s := S1024x7168) ![0, 3072] S1024x1024.size inb_S1024x7168_S1024x1024_0_3072).toLoadRect (harg6.unread x4))) := by
  unfold kernelRun0_A; rfl

/-- The stores of the attention gate, case A. -/
theorem run_A_13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.1 =
    [⟨Rect.unit (s := S1x256x1024) ![0, 0, 0] S1x256x1024.size inb_S1x256x1024_S1x256x1024_0_0_0, k0_pay76 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 4096] S1024x1024.size inb_S1024x7168_S1024x1024_0_4096).toLoadRect (harg6.unread x4))⟩] := by
  unfold kernelRun0_A; rfl

/-- The stores of the branch gate, case A. -/
theorem run_A_14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.2.1 =
    [⟨Rect.unit (s := S1x256x1024) ![0, 0, 0] S1x256x1024.size inb_S1x256x1024_S1x256x1024_0_0_0, k0_pay1 (k0_pay77 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 6144] S1024x1024.size inb_S1024x7168_S1024x1024_0_6144).toLoadRect (harg6.unread x4)))⟩] := by
  unfold kernelRun0_A; rfl

/-- The keys at an index, case A. -/
theorem out_A_8 (r : Fin 256) (l : Fin 128) (h : Fin 8) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r ⟨128 * h.val + l.val, by omega⟩) = kP x0 x1 x2 x3 (cols x4 2048) h (ix3 0 r l) := by
  unfold out0_A_8
  rw [run_A_8, read_x, read_t, read_t, read_t, read_w _ _ _ 2048 (by decide)]
  exact read_list8 _ _ _ h r l

/-- The values at an index, case A. -/
theorem out_A_9 (y : S1x256x1024.Idx) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 y = k0_pay65 (k0_pay2 x0) (cols x4 3072) y := by
  unfold out0_A_9
  rw [run_A_9, read_x, read_w _ _ _ 3072 (by decide)]
  exact read_whole _ _ _ y

/-- The queries at an index, case A. -/
theorem out_A_10 (r : Fin 256) (l : Fin 128) (h : Fin 8) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix4 0 h r l) = qP x0 x1 x2 x3 (cols x4 1024) h (ix4 0 0 r l) := by
  unfold out0_A_10
  rw [run_A_10, read_x, read_t, read_t, read_t, read_w _ _ _ 1024 (by decide)]
  exact read_list10 _ _ _ h r l

/-- The attention's keys at an index, case A. -/
theorem out_A_11 (r : Fin 256) (l : Fin 128) (h : Fin 8) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix4 0 h r l) = kbP x0 x1 x2 x3 (cols x4 2048) h (ix4 0 0 r l) := by
  unfold out0_A_11
  rw [run_A_11, read_x, read_t, read_t, read_t, read_w _ _ _ 2048 (by decide)]
  exact read_list10 _ _ _ h r l

/-- The attention's values at an index, case A. -/
theorem out_A_12 (r : Fin 128) (l : Fin 256) (h : Fin 8) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix5 0 h 0 r l) = vtP x0 (cols x4 3072) h (ix5 0 0 0 r l) := by
  unfold out0_A_12
  rw [run_A_12, read_x, read_w _ _ _ 3072 (by decide)]
  exact read_list12 _ _ _ h r l

/-- The attention gate at an index, case A. -/
theorem out_A_13 (y : S1x256x1024.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 y = k0_pay76 (k0_pay2 x0) (cols x4 4096) y := by
  unfold out0_A_13
  rw [run_A_13, read_x, read_w _ _ _ 4096 (by decide)]
  exact read_whole _ _ _ y

/-- The branch gate at an index, case A. -/
theorem out_A_14 (y : S1x256x1024.Idx) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 y = k0_pay1 (k0_pay77 (k0_pay2 x0) (cols x4 6144)) y := by
  unfold out0_A_14
  rw [run_A_14, read_x, read_w _ _ _ 6144 (by decide)]
  exact read_whole _ _ _ y

end

section

variable (hc0 : ¬cond0_0 i)

/-- The stores of the keys, case B. -/
theorem run_B_8 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).1 =
    list8 (kP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 2048] S1024x1024.size inb_S1024x7168_S1024x1024_0_2048).toLoadRect (harg6.unread x4))) := by
  unfold kernelRun0_B; rfl

/-- The stores of the values, case B. -/
theorem run_B_9 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.1 =
    [⟨Rect.unit (s := S1x256x1024) ![0, 0, 0] S1x256x1024.size inb_S1x256x1024_S1x256x1024_0_0_0, k0_pay65 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 3072] S1024x1024.size inb_S1024x7168_S1024x1024_0_3072).toLoadRect (harg6.unread x4))⟩] := by
  unfold kernelRun0_B; rfl

/-- The stores of the queries, case B. -/
theorem run_B_10 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.1 =
    list10 (qP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 1024] S1024x1024.size inb_S1024x7168_S1024x1024_0_1024).toLoadRect (harg6.unread x4))) := by
  unfold kernelRun0_B; rfl

/-- The stores of the attention's keys, case B. -/
theorem run_B_11 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.1 =
    list10 (kbP (View.readAt (Elt F) arg2.view (Rect.unit (s := S1x256x1024) ![0, 0, 0] S1x256x1024.size inb_S1x256x1024_S1x256x1024_0_0_0).toLoadRect (harg2.unread x0)) (View.readAt (Elt F) arg3.view (Rect.unit (s := S256x128) ![0, 0] S256x128.size inb_S256x128_S256x128_0_0).toLoadRect (harg3.unread x1)) (View.readAt (Elt F) arg4.view (Rect.unit (s := S256x128) ![0, 0] S256x128.size inb_S256x128_S256x128_0_0).toLoadRect (harg4.unread x2)) (View.readAt (Elt F) arg5.view (Rect.unit (s := S256x128) ![0, 0] S256x128.size inb_S256x128_S256x128_0_0).toLoadRect (harg5.unread x3)) (View.readAt (Elt F) arg6.view (Rect.unit (s := S1024x7168) ![0, 2048] S1024x1024.size inb_S1024x7168_S1024x1024_0_2048).toLoadRect (harg6.unread x4))) := by
  unfold kernelRun0_B; rfl

/-- The stores of the attention's values, case B. -/
theorem run_B_12 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.1 =
    list12 (vtP (View.readAt (Elt F) arg2.view (Rect.unit (s := S1x256x1024) ![0, 0, 0] S1x256x1024.size inb_S1x256x1024_S1x256x1024_0_0_0).toLoadRect (harg2.unread x0)) (View.readAt (Elt F) arg6.view (Rect.unit (s := S1024x7168) ![0, 3072] S1024x1024.size inb_S1024x7168_S1024x1024_0_3072).toLoadRect (harg6.unread x4))) := by
  unfold kernelRun0_B; rfl

/-- The stores of the attention gate, case B. -/
theorem run_B_13 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.2.1 =
    [⟨Rect.unit (s := S1x256x1024) ![0, 0, 0] S1x256x1024.size inb_S1x256x1024_S1x256x1024_0_0_0, k0_pay76 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 4096] S1024x1024.size inb_S1024x7168_S1024x1024_0_4096).toLoadRect (harg6.unread x4))⟩] := by
  unfold kernelRun0_B; rfl

/-- The stores of the branch gate, case B. -/
theorem run_B_14 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.2.2.1 =
    [⟨Rect.unit (s := S1x256x1024) ![0, 0, 0] S1x256x1024.size inb_S1x256x1024_S1x256x1024_0_0_0, k0_pay1 (k0_pay77 (k0_pay2 (View.readAt (Elt F) arg2.view (Rect.unit (s := S1x256x1024) ![0, 0, 0] S1x256x1024.size inb_S1x256x1024_S1x256x1024_0_0_0).toLoadRect (harg2.unread x0))) (View.readAt (Elt F) arg6.view (Rect.unit (s := S1024x7168) ![0, 6144] S1024x1024.size inb_S1024x7168_S1024x1024_0_6144).toLoadRect (harg6.unread x4)))⟩] := by
  unfold kernelRun0_B; rfl

/-- The keys at an index, case B. -/
theorem out_B_8 (r : Fin 256) (l : Fin 128) (h : Fin 8) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r ⟨128 * h.val + l.val, by omega⟩) = kP x0 x1 x2 x3 (cols x4 2048) h (ix3 0 r l) := by
  unfold out0_B_8
  rw [run_B_8, read_x, read_t, read_t, read_t, read_w _ _ _ 2048 (by decide)]
  exact read_list8 _ _ _ h r l

/-- The values at an index, case B. -/
theorem out_B_9 (y : S1x256x1024.Idx) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 y = k0_pay65 (k0_pay2 x0) (cols x4 3072) y := by
  unfold out0_B_9
  rw [run_B_9, read_x, read_w _ _ _ 3072 (by decide)]
  exact read_whole _ _ _ y

/-- The queries at an index, case B. -/
theorem out_B_10 (r : Fin 256) (l : Fin 128) (h : Fin 8) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix4 0 h r l) = qP x0 x1 x2 x3 (cols x4 1024) h (ix4 0 0 r l) := by
  unfold out0_B_10
  rw [run_B_10, read_x, read_t, read_t, read_t, read_w _ _ _ 1024 (by decide)]
  exact read_list10 _ _ _ h r l

/-- The attention's keys at an index, case B. -/
theorem out_B_11 (r : Fin 256) (l : Fin 128) (h : Fin 8) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix4 0 h r l) = kbP x0 x1 x2 x3 (cols x4 2048) h (ix4 0 0 r l) := by
  unfold out0_B_11
  rw [run_B_11, read_x, read_t, read_t, read_t, read_w _ _ _ 2048 (by decide)]
  exact read_list10 _ _ _ h r l

/-- The attention's values at an index, case B. -/
theorem out_B_12 (r : Fin 128) (l : Fin 256) (h : Fin 8) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix5 0 h 0 r l) = vtP x0 (cols x4 3072) h (ix5 0 0 0 r l) := by
  unfold out0_B_12
  rw [run_B_12, read_x, read_w _ _ _ 3072 (by decide)]
  exact read_list12 _ _ _ h r l

/-- The attention gate at an index, case B. -/
theorem out_B_13 (y : S1x256x1024.Idx) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 y = k0_pay76 (k0_pay2 x0) (cols x4 4096) y := by
  unfold out0_B_13
  rw [run_B_13, read_x, read_w _ _ _ 4096 (by decide)]
  exact read_whole _ _ _ y

/-- The branch gate at an index, case B. -/
theorem out_B_14 (y : S1x256x1024.Idx) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 y = k0_pay1 (k0_pay77 (k0_pay2 x0) (cols x4 6144)) y := by
  unfold out0_B_14
  rw [run_B_14, read_x, read_w _ _ _ 6144 (by decide)]
  exact read_whole _ _ _ y

end

end Cert.Kernel3Ideal.Pro
-- ==== Proof.Project.lean ====
/-
  The projection of the prompt: what it leaves at an index, from the arrays the program is given.
-/
module

public import proofs.«01_k».proof.Proof.ProjRun
public import proofs.«01_k».proof.Proof.Gen.Kernel3Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Pro

open Idealize.ShloMosaic

/-- The angle of frequency `i` at position `n`. -/
def ang (n i : ℕ) : EReal :=
  FloatOps.sitofp (F := Ideal) .f32 (BitVec.ofNat 32 n) * Ideal.div 1 (Ideal.pow (Ideal.ofBits .f32 0x461C4000#32)
    (Ideal.div (Ideal.ofBits .f32 0x40000000#32 * FloatOps.sitofp (F := Ideal) .f32 (BitVec.ofNat 32 i)) (Ideal.ofBits .f32 0x42800000#32)))

/-- A row of heads turned at position `n`: within each head of 64, the two halves as a plane's coordinates. -/
def turn (y : ℕ → EReal) (n j : ℕ) : EReal :=
  if j % 64 < 32 then y j * Ideal.cos (ang n (j % 32)) - y (j + 32) * Ideal.sin (ang n (j % 32))
  else y (j - 32) * Ideal.sin (ang n (j % 32)) + y j * Ideal.cos (ang n (j % 32))

/-- The product of two rows. -/
def dot (a b : Fin 1024 → EReal) : EReal := ∑ f : Fin 1024, a f * b f

/-- The product of a row with a column of the weights, counted from `o`. -/
def pr (x : (⟨3, ![2, 8192, 1024]⟩ : Shape).Idx → EReal) (w : (⟨2, ![1024, 7168]⟩ : Shape).Idx → EReal) (o : ℕ) (b : Fin 2) (n : Fin 8192) (j : ℕ) : EReal :=
  ∑ f : Fin 1024, x (ix3 b n f) * w (ix2 f ⟨(o + j) % 7168, Nat.mod_lt _ (by decide)⟩)

theorem scale_nonneg : 0 ≤ Ideal.ofBits .f32 0x3E000000#32 := by
  simp [Ideal.ofBits, Ideal.ieee]
  rw [← EReal.coe_mul]
  exact EReal.coe_nonneg.mpr (by positivity)

theorem scale_ne_top : Ideal.ofBits .f32 0x3E000000#32 ≠ ⊤ := by
  simp [Ideal.ofBits, Ideal.ieee]
  rw [← EReal.coe_mul]
  exact EReal.coe_ne_top _

/-- A row scaled before it is turned is the turned row scaled. -/
theorem turn_scale (y : ℕ → EReal) (n j : ℕ) (s : EReal) (h0 : 0 ≤ s) (ht : s ≠ ⊤) : turn (fun j => y j * s) n j = turn y n j * s := by
  unfold turn
  split
  · rw [sub_eq_add_neg, sub_eq_add_neg, EReal.right_distrib_of_nonneg_of_ne_top h0 ht, neg_mul, mul_right_comm, mul_right_comm (y (j + 32))]
  · rw [EReal.right_distrib_of_nonneg_of_ne_top h0 ht, mul_right_comm, mul_right_comm (y j)]

end Cert.Pro

namespace Cert.Kernel3Ideal.Pro

open Cert.Kernel3Ideal Cert.Kernel3Ideal.Gen Idealize.ShloMosaic Idealize.ShloMosaic.TcCoe Idealize.ShloMosaic.Tactic Idealize.SL.Sem
open Cert.Pro

theorem mm_at (x0 : Vec Ideal S1x256x1024 .f32) (w : Vec Ideal S1024x1024 .bf16) (r : Fin 256) (j : Fin 1024) :
    mm x0 w (ix2 r j) = dot (fun f => x0 (ix3 0 r f)) fun f => w (ix2 f j) := by
  pointwise [mm, k0_pay2]
  rfl

theorem q_at (x0 : Vec Ideal S1x256x1024 .f32) (w : Vec Ideal S1024x1024 .bf16) (r : Fin 256) (j : Fin 1024) :
    k0_pay24 (k0_pay2 x0) w (ix2 r j) = (dot (fun f => x0 (ix3 0 r f)) fun f => w (ix2 f j)) * Ideal.ofBits .f32 0x3E000000#32 := by
  pointwise [k0_pay24, k0_pay2]
  rfl

theorem turned_at (y c sn sp : FVec Ideal S256x128 .f32) (r : Fin 256) (l : Fin 128) :
    turned y c sn sp (ix2 r l) = y (ix2 r l) * c (ix2 r l) + y (ix2 r ⟨(l.val + 32) % 128, Nat.mod_lt _ (by decide)⟩) * sn (ix2 r l)
      + y (ix2 r ⟨(l.val + 96) % 128, Nat.mod_lt _ (by decide)⟩) * sp (ix2 r l) := by
  pointwise [turned]
  have e1 : (l.val + 128 - 96) % 128 = (l.val + 32) % 128 := by omega
  have e2 : (l.val + 128 - 32) % 128 = (l.val + 96) % 128 := by omega
  simp only [e1, e2]

theorem cut_at (y : FVec Ideal S256x1024 .f32) (h : Fin 8) (r : Fin 256) (l : Fin 128) :
    cut y h (ix2 r l) = y (ix2 r ⟨128 * h.val + l.val, by omega⟩) := by
  pointwise [cut]

theorem kP_at (x0 : Vec Ideal S1x256x1024 .f32) (x1 x2 x3 : Vec Ideal S256x128 .f32) (w : Vec Ideal S1024x1024 .bf16) (h : Fin 8) (r : Fin 256) (l : Fin 128) :
    kP x0 x1 x2 x3 w h (ix3 0 r l) = keyT x0 x1 x2 x3 w h (ix2 r l) := by
  pointwise [kP]

theorem qP_at (x0 : Vec Ideal S1x256x1024 .f32) (x1 x2 x3 : Vec Ideal S256x128 .f32) (w : Vec Ideal S1024x1024 .bf16) (h : Fin 8) (r : Fin 256) (l : Fin 128) :
    qP x0 x1 x2 x3 w h (ix4 0 0 r l) = queryT x0 x1 x2 x3 w h (ix2 r l) := by
  pointwise [qP]

theorem kbP_at (x0 : Vec Ideal S1x256x1024 .f32) (x1 x2 x3 : Vec Ideal S256x128 .f32) (w : Vec Ideal S1024x1024 .bf16) (h : Fin 8) (r : Fin 256) (l : Fin 128) :
    kbP x0 x1 x2 x3 w h (ix4 0 0 r l) = keyT x0 x1 x2 x3 w h (ix2 r l) := by
  pointwise [kbP]

theorem vtP_at (x0 : Vec Ideal S1x256x1024 .f32) (w : Vec Ideal S1024x1024 .bf16) (h : Fin 8) (r : Fin 128) (l : Fin 256) :
    vtP x0 w h (ix5 0 0 0 r l) = mm x0 w (ix2 l ⟨128 * h.val + r.val, by omega⟩) := by
  pointwise [vtP, cut]

theorem v_at (x0 : Vec Ideal S1x256x1024 .f32) (w : Vec Ideal S1024x1024 .bf16) (r : Fin 256) (j : Fin 1024) :
    k0_pay65 (k0_pay2 x0) w (ix3 0 r j) = dot (fun f => x0 (ix3 0 r f)) fun f => w (ix2 f j) := by
  pointwise [k0_pay65, k0_pay64, k0_pay2]
  rfl

theorem sza_at (x0 : Vec Ideal S1x256x1024 .f32) (w : Vec Ideal S1024x1024 .bf16) (r : Fin 256) (j : Fin 1024) :
    k0_pay76 (k0_pay2 x0) w (ix3 0 r j) = (dot (fun f => x0 (ix3 0 r f)) fun f => w (ix2 f j)) * Ideal.logistic (dot (fun f => x0 (ix3 0 r f)) fun f => w (ix2 f j)) := by
  pointwise [k0_pay76, k0_pay2]
  rfl

theorem sga_at (x0 : Vec Ideal S1x256x1024 .f32) (w : Vec Ideal S1024x1024 .bf16) (r : Fin 256) (j : Fin 1024) :
    k0_pay1 (k0_pay77 (k0_pay2 x0) w) (ix3 0 r j) = Ideal.logistic (dot (fun f => x0 (ix3 0 r f)) fun f => w (ix2 f j)) := by
  pointwise [k0_pay1, k0_pay77, k0_pay2]
  rfl

theorem tab (x : Vec Ideal S256x128 .f32) (r : Fin 256) (l : Fin 128) : k0_pay21 x (ix2 r l) = x (ix2 r l) ∧ k0_pay22 x (ix2 r l) = x (ix2 r l) ∧ k0_pay23 x (ix2 r l) = x (ix2 r l) := by
  refine ⟨?_, ?_, ?_⟩
  · pointwise [k0_pay21]
  · pointwise [k0_pay22]
  · pointwise [k0_pay23]

variable (m : (ℓ : Loc nD τ sig) → Buf (Elt Ideal) ℓ) (c : Dev nD) (t : Fin cfg0.N)

theorem V_c (n : Fin 8192) (l : Fin 128) : V m c main_v23 (ix2 n l) = Ideal.cos (ang n.val (l.val % 32)) := by
  unfold V
  after_reads_at
  rfl

theorem V_sn (n : Fin 8192) (l : Fin 128) : V m c main_v28 (ix2 n l) = if l.val % 64 < 32 then -Ideal.sin (ang n.val (l.val % 64)) else (0 : EReal) := by
  unfold V
  after_reads_at
  split <;> after_reads_at
  rfl

theorem V_sp (n : Fin 8192) (l : Fin 128) : V m c main_v32 (ix2 n l) = if l.val % 64 < 32 then (0 : EReal) else Ideal.sin (ang n.val (l.val % 64 - 32)) := by
  unfold V
  after_reads_at
  split <;> after_reads_at
  rfl

theorem V_w (f : Fin 1024) (j : Fin 7168) : V m c main_v33 (ix2 f j) = m ((c : Thread nD τ).loc main_arg1) (ix2 f j) := by
  unfold V
  after_reads_at

theorem V_x : V m c main_arg0 = m ((c : Thread nD τ).loc main_arg0) := by
  unfold V
  funext y
  after_reads_at

theorem idx0 : ∀ t : Fin cfg0.N, win0_0.index t = ![t.val / 32, t.val % 32, 0] :=
  (by decide +kernel : ∀ t : Fin grid0.N, win0_0.index t = ![t.val / 32, t.val % 32, 0])

theorem idx1 : ∀ t : Fin cfg0.N, win0_1.index t = ![t.val % 32, 0] :=
  (by decide +kernel : ∀ t : Fin grid0.N, win0_1.index t = ![t.val % 32, 0])

theorem idx2 : ∀ t : Fin cfg0.N, win0_2.index t = ![t.val % 32, 0] :=
  (by decide +kernel : ∀ t : Fin grid0.N, win0_2.index t = ![t.val % 32, 0])

theorem idx3 : ∀ t : Fin cfg0.N, win0_3.index t = ![t.val % 32, 0] :=
  (by decide +kernel : ∀ t : Fin grid0.N, win0_3.index t = ![t.val % 32, 0])

theorem idx4 : ∀ t : Fin cfg0.N, win0_4.index t = ![0, 0] :=
  (by decide +kernel : ∀ t : Fin grid0.N, win0_4.index t = ![0, 0])

theorem idx8 : ∀ t : Fin cfg0.N, win0_8.index t = ![t.val / 32, t.val % 32, 0] :=
  (by decide +kernel : ∀ t : Fin grid0.N, win0_8.index t = ![t.val / 32, t.val % 32, 0])

theorem idx9 : ∀ t : Fin cfg0.N, win0_9.index t = ![t.val / 32, t.val % 32, 0] :=
  (by decide +kernel : ∀ t : Fin grid0.N, win0_9.index t = ![t.val / 32, t.val % 32, 0])

theorem idx10 : ∀ t : Fin cfg0.N, win0_10.index t = ![t.val / 32, 0, t.val % 32, 0] :=
  (by decide +kernel : ∀ t : Fin grid0.N, win0_10.index t = ![t.val / 32, 0, t.val % 32, 0])

theorem idx11 : ∀ t : Fin cfg0.N, win0_11.index t = ![t.val / 32, 0, t.val % 32, 0] :=
  (by decide +kernel : ∀ t : Fin grid0.N, win0_11.index t = ![t.val / 32, 0, t.val % 32, 0])

theorem idx12 : ∀ t : Fin cfg0.N, win0_12.index t = ![t.val / 32, 0, t.val % 32, 0, 0] :=
  (by decide +kernel : ∀ t : Fin grid0.N, win0_12.index t = ![t.val / 32, 0, t.val % 32, 0, 0])

theorem idx13 : ∀ t : Fin cfg0.N, win0_13.index t = ![t.val / 32, t.val % 32, 0] :=
  (by decide +kernel : ∀ t : Fin grid0.N, win0_13.index t = ![t.val / 32, t.val % 32, 0])

theorem idx14 : ∀ t : Fin cfg0.N, win0_14.index t = ![t.val / 32, t.val % 32, 0] :=
  (by decide +kernel : ∀ t : Fin grid0.N, win0_14.index t = ![t.val / 32, t.val % 32, 0])

/-- The batch element of a point. -/
def bOf (t : Fin cfg0.N) : Fin 2 := ⟨t.val / 32 % 2, Nat.mod_lt _ (by decide)⟩

theorem bOf_val (t : Fin cfg0.N) : (bOf t).val = t.val / 32 := by
  have h : t.val < 64 := t.isLt
  exact Nat.mod_eq_of_lt (by omega)

/-- The position of a point's row `r`. -/
def nOf (t : Fin cfg0.N) (r : Fin 256) : Fin 8192 := ⟨(256 * (t.val % 32) + r.val) % 8192, Nat.mod_lt _ (by decide)⟩

theorem nOf_val (t : Fin cfg0.N) (r : Fin 256) : (nOf t r).val = 256 * (t.val % 32) + r.val :=
  Nat.mod_eq_of_lt (by omega)

theorem blk_x (r : Fin 256) (f : Fin 1024) : iblk m c 0 t (ix3 0 r f) = V m c main_arg0 (ix3 (bOf t) (nOf t r) f) := by
  have h1 := nOf_val t r
  have h2 := bOf_val t
  have h3 := idx0 t
  blk_ext [iblk, h3, h1, h2]

theorem blk_c (r : Fin 256) (l : Fin 128) : iblk m c 1 t (ix2 r l) = V m c main_v23 (ix2 (nOf t r) l) := by
  have h1 := nOf_val t r
  have h3 := idx1 t
  blk_ext [iblk, h3, h1]

theorem blk_sn (r : Fin 256) (l : Fin 128) : iblk m c 2 t (ix2 r l) = V m c main_v28 (ix2 (nOf t r) l) := by
  have h1 := nOf_val t r
  have h3 := idx2 t
  blk_ext [iblk, h3, h1]

theorem blk_sp (r : Fin 256) (l : Fin 128) : iblk m c 3 t (ix2 r l) = V m c main_v32 (ix2 (nOf t r) l) := by
  have h1 := nOf_val t r
  have h3 := idx3 t
  blk_ext [iblk, h3, h1]

theorem blk_w (f : Fin 1024) (j : Fin 7168) : iblk m c 4 t (ix2 f j) = V m c main_v33 (ix2 f j) := by
  have h3 := idx4 t
  blk_ext [iblk, h3]

/-- A point's product at an index. -/
theorem sum_blk (o : ℕ) (r : Fin 256) (j : Fin 1024) : dot (fun f => iblk m c 0 t (ix3 0 r f)) (fun f => cols (iblk m c 4 t) o (ix2 f j))
    = pr (m ((c : Thread nD τ).loc main_arg0)) (m ((c : Thread nD τ).loc main_arg1)) o (bOf t) (nOf t r) j.val := by
  unfold pr dot
  refine Finset.sum_congr rfl fun f _ => ?_
  have e0 : iblk m c 0 t (ix3 0 r f) = m ((c : Thread nD τ).loc main_arg0) (ix3 (bOf t) (nOf t r) f) := (blk_x m c t r f).trans (congrFun (V_x m c) _)
  have e1 : cols (iblk m c 4 t) o (ix2 f j) = m ((c : Thread nD τ).loc main_arg1) (ix2 f ⟨(o + j.val) % 7168, Nat.mod_lt _ (by decide)⟩) :=
    (blk_w m c t f ⟨(o + j.val) % 7168, Nat.mod_lt _ (by decide)⟩).trans (V_w m c f _)
  exact congrArg₂ (fun a b : EReal => a * b) e0 e1

/-- A point's tile turned by its tables, at an index. -/
theorem turned_blk (z : FVec Ideal S256x1024 .f32) (y : ℕ → EReal) (h : Fin 8) (r : Fin 256) (l : Fin 128) (hz : ∀ j : Fin 1024, z (ix2 r j) = y j.val) :
    turned (cut z h) (k0_pay21 (iblk m c 1 t)) (k0_pay22 (iblk m c 2 t)) (k0_pay23 (iblk m c 3 t)) (ix2 r l) = turn y (nOf t r).val (128 * h.val + l.val) := by
  have ec : k0_pay21 (iblk m c 1 t) (ix2 r l) = Ideal.cos (ang (nOf t r).val (l.val % 32)) := (tab _ r l).1.trans ((blk_c m c t r l).trans (V_c m c _ l))
  have en : k0_pay22 (iblk m c 2 t) (ix2 r l) = if l.val % 64 < 32 then -Ideal.sin (ang (nOf t r).val (l.val % 64)) else (0 : EReal) :=
    (tab _ r l).2.1.trans ((blk_sn m c t r l).trans (V_sn m c _ l))
  have ep : k0_pay23 (iblk m c 3 t) (ix2 r l) = if l.val % 64 < 32 then (0 : EReal) else Ideal.sin (ang (nOf t r).val (l.val % 64 - 32)) :=
    (tab _ r l).2.2.trans ((blk_sp m c t r l).trans (V_sp m c _ l))
  rw [turned_at, cut_at, cut_at, cut_at, hz, hz, hz, ec, en, ep]
  unfold turn
  have hl := l.isLt
  have e32 : (128 * h.val + l.val) % 32 = l.val % 32 := by omega
  have e64 : (128 * h.val + l.val) % 64 = l.val % 64 := by omega
  rw [e32, e64]
  by_cases hc : l.val % 64 < 32
  · have a1 : l.val % 64 = l.val % 32 := by omega
    have a2 : 128 * h.val + (l.val + 32) % 128 = 128 * h.val + l.val + 32 := by omega
    simp only [if_pos hc, a2]
    rw [a1, mul_zero, add_zero, mul_neg, sub_eq_add_neg]
  · have a1 : l.val % 64 - 32 = l.val % 32 := by omega
    have a2 : 128 * h.val + (l.val + 96) % 128 = 128 * h.val + l.val - 32 := by omega
    simp only [if_neg hc, a2]
    rw [a1, mul_zero, add_zero, add_comm]

theorem key_blk (o : ℕ) (h : Fin 8) (r : Fin 256) (l : Fin 128) :
    keyT (iblk m c 0 t) (iblk m c 1 t) (iblk m c 2 t) (iblk m c 3 t) (cols (iblk m c 4 t) o) h (ix2 r l)
      = turn (pr (m ((c : Thread nD τ).loc main_arg0)) (m ((c : Thread nD τ).loc main_arg1)) o (bOf t) (nOf t r)) (nOf t r).val (128 * h.val + l.val) :=
  turned_blk m c t _ _ h r l fun j => (mm_at _ _ r j).trans (sum_blk m c t o r j)

theorem query_blk (o : ℕ) (h : Fin 8) (r : Fin 256) (l : Fin 128) :
    queryT (iblk m c 0 t) (iblk m c 1 t) (iblk m c 2 t) (iblk m c 3 t) (cols (iblk m c 4 t) o) h (ix2 r l)
      = turn (pr (m ((c : Thread nD τ).loc main_arg0)) (m ((c : Thread nD τ).loc main_arg1)) o (bOf t) (nOf t r)) (nOf t r).val (128 * h.val + l.val)
        * Ideal.ofBits .f32 0x3E000000#32 :=
  (turned_blk m c t _ (fun j => pr (m ((c : Thread nD τ).loc main_arg0)) (m ((c : Thread nD τ).loc main_arg1)) o (bOf t) (nOf t r) j * Ideal.ofBits .f32 0x3E000000#32)
    h r l fun j => (q_at _ _ r j).trans (congrArg (· * Ideal.ofBits .f32 0x3E000000#32) (sum_blk m c t o r j))).trans (turn_scale _ _ _ _ scale_nonneg scale_ne_top)

end Cert.Kernel3Ideal.Pro
-- ==== Proof.ProjArr.lean ====
/-
  The projection's output arrays after the run.
-/
module

public import proofs.«01_k».proof.Proof.Project

@[expose] public section

set_option maxRecDepth 16384

noncomputable section

namespace Cert.Pro

open Idealize.ShloMosaic

variable (x : (⟨3, ![2, 8192, 1024]⟩ : Shape).Idx → EReal) (w : (⟨2, ![1024, 7168]⟩ : Shape).Idx → EReal)

/-- The keys. -/
def keysAt (b : Fin 2) (n : Fin 8192) (j : ℕ) : EReal := turn (pr x w 2048 b n) n.val j

/-- The queries. -/
def queriesAt (b : Fin 2) (n : Fin 8192) (j : ℕ) : EReal := turn (pr x w 1024 b n) n.val j * Ideal.ofBits .f32 0x3E000000#32

/-- The values. -/
def valuesAt (b : Fin 2) (n : Fin 8192) (j : ℕ) : EReal := pr x w 3072 b n j

/-- The attention's gate. -/
def szaAt (b : Fin 2) (n : Fin 8192) (j : ℕ) : EReal := pr x w 4096 b n j * Ideal.logistic (pr x w 4096 b n j)

/-- The branch's gate. -/
def sgaAt (b : Fin 2) (n : Fin 8192) (j : ℕ) : EReal := Ideal.logistic (pr x w 6144 b n j)

/-- An array over positions and features. -/
def arr3 (g : Fin 2 → Fin 8192 → ℕ → EReal) : (⟨3, ![2, 8192, 1024]⟩ : Shape).Idx → EReal := fun y => g (y 0) (y 1) (y 2).val

/-- An array by pairs of heads. -/
def arr4 (g : Fin 2 → Fin 8192 → ℕ → EReal) : (⟨4, ![2, 8, 8192, 128]⟩ : Shape).Idx → EReal := fun y => g (y 0) (y 2) (128 * (y 1).val + (y 3).val)

/-- An array by pairs of heads and blocks of positions, the positions last. -/
def arr5 (g : Fin 2 → Fin 8192 → ℕ → EReal) : (⟨5, ![2, 8, 32, 128, 256]⟩ : Shape).Idx → EReal := fun y =>
  g (y 0) ⟨(256 * (y 2).val + (y 4).val) % 8192, Nat.mod_lt _ (by decide)⟩ (128 * (y 1).val + (y 3).val)

end Cert.Pro

namespace Cert.Kernel3Ideal.Pro

open Cert.Kernel3Ideal Cert.Kernel3Ideal.Gen Idealize.ShloMosaic Idealize.ShloMosaic.TcCoe Idealize.ShloMosaic.Tactic Idealize.SL.Sem
open Cert.Pro

variable (m : (ℓ : Loc nD τ sig) → Buf (Elt Ideal) ℓ) (c : Dev nD) (t : Fin cfg0.N)

theorem after_8 (h : Fin 8) (r : Fin 256) (l : Fin 128) : (outsAt0 m c t.val t.isLt).1 (ix3 0 r ⟨128 * h.val + l.val, by omega⟩) = keysAt (m ((c : Thread nD τ).loc main_arg0)) (m ((c : Thread nD τ).loc main_arg1)) (bOf t) (nOf t r) (128 * h.val + l.val) := by
  by_cases h0 : t.val % 32 = 0
  · have e := congrFun (congrArg (fun z => z.1) (outsAt0_A m c t h0)) (ix3 0 r ⟨128 * h.val + l.val, by omega⟩)
    have e' := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r l h
    dsimp only at e
    rw [e, e']
    exact (kP_at (iblk m c 0 t) (iblk m c 1 t) (iblk m c 2 t) (iblk m c 3 t) (cols (iblk m c 4 t) 2048) h r l).trans (key_blk m c t 2048 h r l)
  · have e := congrFun (congrArg (fun z => z.1) (outsAt0_B m c t h0)) (ix3 0 r ⟨128 * h.val + l.val, by omega⟩)
    have e' := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r l h
    dsimp only at e
    rw [e, e']
    exact (kP_at (iblk m c 0 t) (iblk m c 1 t) (iblk m c 2 t) (iblk m c 3 t) (cols (iblk m c 4 t) 2048) h r l).trans (key_blk m c t 2048 h r l)

/-- Window 8's array after the run. -/
theorem arr_8 : (dats m 0 c).arrAt 8 cfg0.N = arr3 (keysAt (m ((c : Thread nD τ).loc main_arg0)) (m ((c : Thread nD τ).loc main_arg1))) := by
  refine (dats m 0 c).arrAt_eq_of_covers 8 _ (by decide +kernel) fun t hf y => ?_
  have hi := idx8 t
  have ht : t.val < 64 := t.isLt
  have hb := bOf_val t
  blk_simp
  rw [after0_8]
  obtain ⟨h, r, l, rfl⟩ : ∃ (h : Fin 8) (r : Fin 256) (l : Fin 128), y = ix3 0 r ⟨128 * h.val + l.val, by omega⟩ := by
    have hy : (y 2).val < 1024 := (y 2).isLt
    refine ⟨⟨(y 2).val / 128, by omega⟩, y 1, ⟨(y 2).val % 128, Nat.mod_lt _ (by decide)⟩, ?_⟩
    funext a
    match a with
    | ⟨0, _⟩ => exact Subsingleton.elim (α := Fin 1) _ _
    | ⟨1, _⟩ => rfl
    | ⟨2, _⟩ => apply Fin.ext; show (y 2).val = 128 * ((y 2).val / 128) + (y 2).val % 128; omega
  have hn := nOf_val t r
  rw [after_8]
  unfold arr3
  congr 1
  · apply Fin.ext; blk_simp [hi]; (try simp); omega
  · apply Fin.ext; blk_simp [hi]; (try simp); omega
  · blk_simp [hi]

theorem after_9 (r : Fin 256) (j : Fin 1024) : (outsAt0 m c t.val t.isLt).2.1 (ix3 0 r j) = valuesAt (m ((c : Thread nD τ).loc main_arg0)) (m ((c : Thread nD τ).loc main_arg1)) (bOf t) (nOf t r) j.val := by
  by_cases h0 : t.val % 32 = 0
  · have e := congrFun (congrArg (fun z => z.2.1) (outsAt0_A m c t h0)) (ix3 0 r j)
    have e' := out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (ix3 0 r j)
    dsimp only at e
    rw [e, e']
    exact (v_at (iblk m c 0 t) (cols (iblk m c 4 t) 3072) r j).trans (sum_blk m c t 3072 r j)
  · have e := congrFun (congrArg (fun z => z.2.1) (outsAt0_B m c t h0)) (ix3 0 r j)
    have e' := out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) (ix3 0 r j)
    dsimp only at e
    rw [e, e']
    exact (v_at (iblk m c 0 t) (cols (iblk m c 4 t) 3072) r j).trans (sum_blk m c t 3072 r j)

/-- Window 9's array after the run. -/
theorem arr_9 : (dats m 0 c).arrAt 9 cfg0.N = arr3 (valuesAt (m ((c : Thread nD τ).loc main_arg0)) (m ((c : Thread nD τ).loc main_arg1))) := by
  refine (dats m 0 c).arrAt_eq_of_covers 9 _ (by decide +kernel) fun t hf y => ?_
  have hi := idx9 t
  have ht : t.val < 64 := t.isLt
  have hb := bOf_val t
  blk_simp
  rw [after0_9]
  obtain ⟨r, l, rfl⟩ : ∃ (r : Fin 256) (j : Fin 1024), y = ix3 0 r j :=
    ⟨y 1, y 2, by funext a; match a with | ⟨0, _⟩ => exact Subsingleton.elim (α := Fin 1) _ _ | ⟨1, _⟩ => rfl | ⟨2, _⟩ => rfl⟩
  have hn := nOf_val t r
  rw [after_9]
  unfold arr3
  congr 1
  · apply Fin.ext; blk_simp [hi]; (try simp); omega
  · apply Fin.ext; blk_simp [hi]; (try simp); omega
  · blk_simp [hi]

theorem after_10 (h : Fin 8) (r : Fin 256) (l : Fin 128) : (outsAt0 m c t.val t.isLt).2.2.1 (ix4 0 h r l) = queriesAt (m ((c : Thread nD τ).loc main_arg0)) (m ((c : Thread nD τ).loc main_arg1)) (bOf t) (nOf t r) (128 * h.val + l.val) := by
  by_cases h0 : t.val % 32 = 0
  · have e := congrFun (congrArg (fun z => z.2.2.1) (outsAt0_A m c t h0)) (ix4 0 h r l)
    have e' := out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r l h
    dsimp only at e
    rw [e, e']
    exact (qP_at (iblk m c 0 t) (iblk m c 1 t) (iblk m c 2 t) (iblk m c 3 t) (cols (iblk m c 4 t) 1024) h r l).trans (query_blk m c t 1024 h r l)
  · have e := congrFun (congrArg (fun z => z.2.2.1) (outsAt0_B m c t h0)) (ix4 0 h r l)
    have e' := out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r l h
    dsimp only at e
    rw [e, e']
    exact (qP_at (iblk m c 0 t) (iblk m c 1 t) (iblk m c 2 t) (iblk m c 3 t) (cols (iblk m c 4 t) 1024) h r l).trans (query_blk m c t 1024 h r l)

/-- Window 10's array after the run. -/
theorem arr_10 : (dats m 0 c).arrAt 10 cfg0.N = arr4 (queriesAt (m ((c : Thread nD τ).loc main_arg0)) (m ((c : Thread nD τ).loc main_arg1))) := by
  refine (dats m 0 c).arrAt_eq_of_covers 10 _ (by decide +kernel) fun t hf y => ?_
  have hi := idx10 t
  have ht : t.val < 64 := t.isLt
  have hb := bOf_val t
  blk_simp
  rw [after0_10]
  obtain ⟨h, r, l, rfl⟩ : ∃ (h : Fin 8) (r : Fin 256) (l : Fin 128), y = ix4 0 h r l :=
    ⟨y 1, y 2, y 3, by funext a; match a with | ⟨0, _⟩ => exact Subsingleton.elim (α := Fin 1) _ _ | ⟨1, _⟩ => rfl | ⟨2, _⟩ => rfl | ⟨3, _⟩ => rfl⟩
  have hn := nOf_val t r
  rw [after_10]
  unfold arr4
  congr 1
  · apply Fin.ext; blk_simp [hi]; (try simp); omega
  · apply Fin.ext; blk_simp [hi]; (try simp); omega
  · blk_simp [hi]

theorem after_11 (h : Fin 8) (r : Fin 256) (l : Fin 128) : (outsAt0 m c t.val t.isLt).2.2.2.1 (ix4 0 h r l) = keysAt (m ((c : Thread nD τ).loc main_arg0)) (m ((c : Thread nD τ).loc main_arg1)) (bOf t) (nOf t r) (128 * h.val + l.val) := by
  by_cases h0 : t.val % 32 = 0
  · have e := congrFun (congrArg (fun z => z.2.2.2.1) (outsAt0_A m c t h0)) (ix4 0 h r l)
    have e' := out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r l h
    dsimp only at e
    rw [e, e']
    exact (kbP_at (iblk m c 0 t) (iblk m c 1 t) (iblk m c 2 t) (iblk m c 3 t) (cols (iblk m c 4 t) 2048) h r l).trans (key_blk m c t 2048 h r l)
  · have e := congrFun (congrArg (fun z => z.2.2.2.1) (outsAt0_B m c t h0)) (ix4 0 h r l)
    have e' := out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r l h
    dsimp only at e
    rw [e, e']
    exact (kbP_at (iblk m c 0 t) (iblk m c 1 t) (iblk m c 2 t) (iblk m c 3 t) (cols (iblk m c 4 t) 2048) h r l).trans (key_blk m c t 2048 h r l)

/-- Window 11's array after the run. -/
theorem arr_11 : (dats m 0 c).arrAt 11 cfg0.N = arr4 (keysAt (m ((c : Thread nD τ).loc main_arg0)) (m ((c : Thread nD τ).loc main_arg1))) := by
  refine (dats m 0 c).arrAt_eq_of_covers 11 _ (by decide +kernel) fun t hf y => ?_
  have hi := idx11 t
  have ht : t.val < 64 := t.isLt
  have hb := bOf_val t
  blk_simp
  rw [after0_11]
  obtain ⟨h, r, l, rfl⟩ : ∃ (h : Fin 8) (r : Fin 256) (l : Fin 128), y = ix4 0 h r l :=
    ⟨y 1, y 2, y 3, by funext a; match a with | ⟨0, _⟩ => exact Subsingleton.elim (α := Fin 1) _ _ | ⟨1, _⟩ => rfl | ⟨2, _⟩ => rfl | ⟨3, _⟩ => rfl⟩
  have hn := nOf_val t r
  rw [after_11]
  unfold arr4
  congr 1
  · apply Fin.ext; blk_simp [hi]; (try simp); omega
  · apply Fin.ext; blk_simp [hi]; (try simp); omega
  · blk_simp [hi]

theorem after_12 (h : Fin 8) (r : Fin 128) (l : Fin 256) : (outsAt0 m c t.val t.isLt).2.2.2.2.1 (ix5 0 h 0 r l) = valuesAt (m ((c : Thread nD τ).loc main_arg0)) (m ((c : Thread nD τ).loc main_arg1)) (bOf t) (nOf t l) (128 * h.val + r.val) := by
  by_cases h0 : t.val % 32 = 0
  · have e := congrFun (congrArg (fun z => z.2.2.2.2.1) (outsAt0_A m c t h0)) (ix5 0 h 0 r l)
    have e' := out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r l h
    dsimp only at e
    rw [e, e']
    exact (vtP_at (iblk m c 0 t) (cols (iblk m c 4 t) 3072) h r l).trans ((mm_at (iblk m c 0 t) (cols (iblk m c 4 t) 3072) l _).trans (sum_blk m c t 3072 l _))
  · have e := congrFun (congrArg (fun z => z.2.2.2.2.1) (outsAt0_B m c t h0)) (ix5 0 h 0 r l)
    have e' := out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r l h
    dsimp only at e
    rw [e, e']
    exact (vtP_at (iblk m c 0 t) (cols (iblk m c 4 t) 3072) h r l).trans ((mm_at (iblk m c 0 t) (cols (iblk m c 4 t) 3072) l _).trans (sum_blk m c t 3072 l _))

/-- Window 12's array after the run. -/
theorem arr_12 : (dats m 0 c).arrAt 12 cfg0.N = arr5 (valuesAt (m ((c : Thread nD τ).loc main_arg0)) (m ((c : Thread nD τ).loc main_arg1))) := by
  refine (dats m 0 c).arrAt_eq_of_covers 12 _ (by decide +kernel) fun t hf y => ?_
  have hi := idx12 t
  have ht : t.val < 64 := t.isLt
  have hb := bOf_val t
  blk_simp
  rw [after0_12]
  obtain ⟨h, l, r, rfl⟩ : ∃ (h : Fin 8) (r : Fin 128) (l : Fin 256), y = ix5 0 h 0 r l :=
    ⟨y 1, y 3, y 4, by funext a; match a with | ⟨0, _⟩ => exact Subsingleton.elim (α := Fin 1) _ _ | ⟨1, _⟩ => rfl | ⟨2, _⟩ => exact Subsingleton.elim (α := Fin 1) _ _ | ⟨3, _⟩ => rfl | ⟨4, _⟩ => rfl⟩
  have hn := nOf_val t r
  rw [after_12]
  unfold arr5
  congr 1
  · apply Fin.ext; blk_simp [hi]; (try simp); omega
  · apply Fin.ext; blk_simp [hi]; (try simp); omega
  · blk_simp [hi]

theorem after_13 (r : Fin 256) (j : Fin 1024) : (outsAt0 m c t.val t.isLt).2.2.2.2.2.1 (ix3 0 r j) = szaAt (m ((c : Thread nD τ).loc main_arg0)) (m ((c : Thread nD τ).loc main_arg1)) (bOf t) (nOf t r) j.val := by
  by_cases h0 : t.val % 32 = 0
  · have e := congrFun (congrArg (fun z => z.2.2.2.2.2.1) (outsAt0_A m c t h0)) (ix3 0 r j)
    have e' := out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (ix3 0 r j)
    dsimp only at e
    rw [e, e']
    exact (sza_at (iblk m c 0 t) (cols (iblk m c 4 t) 4096) r j).trans (congrArg (fun a : EReal => a * Ideal.logistic a) (sum_blk m c t 4096 r j))
  · have e := congrFun (congrArg (fun z => z.2.2.2.2.2.1) (outsAt0_B m c t h0)) (ix3 0 r j)
    have e' := out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) (ix3 0 r j)
    dsimp only at e
    rw [e, e']
    exact (sza_at (iblk m c 0 t) (cols (iblk m c 4 t) 4096) r j).trans (congrArg (fun a : EReal => a * Ideal.logistic a) (sum_blk m c t 4096 r j))

/-- Window 13's array after the run. -/
theorem arr_13 : (dats m 0 c).arrAt 13 cfg0.N = arr3 (szaAt (m ((c : Thread nD τ).loc main_arg0)) (m ((c : Thread nD τ).loc main_arg1))) := by
  refine (dats m 0 c).arrAt_eq_of_covers 13 _ (by decide +kernel) fun t hf y => ?_
  have hi := idx13 t
  have ht : t.val < 64 := t.isLt
  have hb := bOf_val t
  blk_simp
  rw [after0_13]
  obtain ⟨r, l, rfl⟩ : ∃ (r : Fin 256) (j : Fin 1024), y = ix3 0 r j :=
    ⟨y 1, y 2, by funext a; match a with | ⟨0, _⟩ => exact Subsingleton.elim (α := Fin 1) _ _ | ⟨1, _⟩ => rfl | ⟨2, _⟩ => rfl⟩
  have hn := nOf_val t r
  rw [after_13]
  unfold arr3
  congr 1
  · apply Fin.ext; blk_simp [hi]; (try simp); omega
  · apply Fin.ext; blk_simp [hi]; (try simp); omega
  · blk_simp [hi]

theorem after_14 (r : Fin 256) (j : Fin 1024) : (outsAt0 m c t.val t.isLt).2.2.2.2.2.2.1 (ix3 0 r j) = sgaAt (m ((c : Thread nD τ).loc main_arg0)) (m ((c : Thread nD τ).loc main_arg1)) (bOf t) (nOf t r) j.val := by
  by_cases h0 : t.val % 32 = 0
  · have e := congrFun (congrArg (fun z => z.2.2.2.2.2.2.1) (outsAt0_A m c t h0)) (ix3 0 r j)
    have e' := out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (ix3 0 r j)
    dsimp only at e
    rw [e, e']
    exact (sga_at (iblk m c 0 t) (cols (iblk m c 4 t) 6144) r j).trans (congrArg Ideal.logistic (sum_blk m c t 6144 r j))
  · have e := congrFun (congrArg (fun z => z.2.2.2.2.2.2.1) (outsAt0_B m c t h0)) (ix3 0 r j)
    have e' := out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) (ix3 0 r j)
    dsimp only at e
    rw [e, e']
    exact (sga_at (iblk m c 0 t) (cols (iblk m c 4 t) 6144) r j).trans (congrArg Ideal.logistic (sum_blk m c t 6144 r j))

/-- Window 14's array after the run. -/
theorem arr_14 : (dats m 0 c).arrAt 14 cfg0.N = arr3 (sgaAt (m ((c : Thread nD τ).loc main_arg0)) (m ((c : Thread nD τ).loc main_arg1))) := by
  refine (dats m 0 c).arrAt_eq_of_covers 14 _ (by decide +kernel) fun t hf y => ?_
  have hi := idx14 t
  have ht : t.val < 64 := t.isLt
  have hb := bOf_val t
  blk_simp
  rw [after0_14]
  obtain ⟨r, l, rfl⟩ : ∃ (r : Fin 256) (j : Fin 1024), y = ix3 0 r j :=
    ⟨y 1, y 2, by funext a; match a with | ⟨0, _⟩ => exact Subsingleton.elim (α := Fin 1) _ _ | ⟨1, _⟩ => rfl | ⟨2, _⟩ => rfl⟩
  have hn := nOf_val t r
  rw [after_14]
  unfold arr3
  congr 1
  · apply Fin.ext; blk_simp [hi]; (try simp); omega
  · apply Fin.ext; blk_simp [hi]; (try simp); omega
  · blk_simp [hi]

end Cert.Kernel3Ideal.Pro
-- ==== Proof.ProjPlain.lean ====
/-
  The projection's reference, stage by stage, and each stage at an index.
-/
module

public import proofs.«01_k».proof.Proof.Gen.Reference3Ideal.Run
public import proofs.«01_k».proof.Proof.ProjArr

@[expose] public section

set_option maxRecDepth 16384

noncomputable section

namespace Cert.Reference3Ideal.Plain

open Cert.Reference3Ideal Cert.Reference3Ideal.Gen Idealize.ShloMosaic Idealize.ShloMosaic.TcCoe Idealize.ShloMosaic.Tactic Idealize.SL.Sem
open Cert.Pro

/-- The projection of every row. -/
def dotR (x : FVec Ideal S2x8192x1024 .f32) (w : FVec Ideal S1024x7168 .f32) : FVec Ideal S2x8192x7168 .f32 :=
  Host.dotGeneral dot_S2x8192x1024_S1024x7168_S2x8192x7168_2_0_01_1_n_n none x w

/-- The angles. -/
def angR : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- An array of angles' functions over the heads. -/
def headsR (a : FVec Ideal S8192x32 .f32) : FVec Ideal S2x8192x16x32 .f32 :=
  broadcastInDim S2x8192x16x32 ![0, 1, 2, 3] bcast_S1x8192x1x32_S2x8192x16x32_0_1_2_3 (broadcastInDim S1x8192x1x32 ![1, 3] bcast_S8192x32_S1x8192x1x32_1_3 a)

/-- A row of heads turned. -/
def turnR (z : FVec Ideal S2x8192x1024 .f32) : FVec Ideal S2x8192x16x64 .f32 :=
  concatenate S2x8192x16x64 3
    [⟨S2x8192x16x32, (subf (mulf (extractStridedSlice S2x8192x16x32 ![0, 0, 0, 0] (shapeCast _ z shapeCasts_S2x8192x1024_S2x8192x16x64) slices_S2x8192x16x64_S2x8192x16x32_0_0_0_0) (headsR (Host.cos angR)))
        (mulf (extractStridedSlice S2x8192x16x32 ![0, 0, 0, 32] (shapeCast _ z shapeCasts_S2x8192x1024_S2x8192x16x64) slices_S2x8192x16x64_S2x8192x16x32_0_0_0_32) (headsR (Host.sin angR))))⟩,
     ⟨S2x8192x16x32, (addf (mulf (extractStridedSlice S2x8192x16x32 ![0, 0, 0, 0] (shapeCast _ z shapeCasts_S2x8192x1024_S2x8192x16x64) slices_S2x8192x16x64_S2x8192x16x32_0_0_0_0) (headsR (Host.sin angR)))
        (mulf (extractStridedSlice S2x8192x16x32 ![0, 0, 0, 32] (shapeCast _ z shapeCasts_S2x8192x1024_S2x8192x16x64) slices_S2x8192x16x64_S2x8192x16x32_0_0_0_32) (headsR (Host.cos angR))))⟩]
    concatenates_S2x8192x16x32_S2x8192x16x32_S2x8192x16x64_d3

/-- The queries' part. -/
def partQ (d : FVec Ideal S2x8192x7168 .f32) : FVec Ideal S2x8192x1024 .f32 := extractStridedSlice S2x8192x1024 ![0, 0, 1024] d slices_S2x8192x7168_S2x8192x1024_0_0_1024
/-- The keys' part. -/
def partK (d : FVec Ideal S2x8192x7168 .f32) : FVec Ideal S2x8192x1024 .f32 := extractStridedSlice S2x8192x1024 ![0, 0, 2048] d slices_S2x8192x7168_S2x8192x1024_0_0_2048
/-- The values' part. -/
def partV (d : FVec Ideal S2x8192x7168 .f32) : FVec Ideal S2x8192x1024 .f32 := extractStridedSlice S2x8192x1024 ![0, 0, 3072] d slices_S2x8192x7168_S2x8192x1024_0_0_3072
/-- The attention's gate's part. -/
def partZ (d : FVec Ideal S2x8192x7168 .f32) : FVec Ideal S2x8192x1024 .f32 := extractStridedSlice S2x8192x1024 ![0, 0, 4096] d slices_S2x8192x7168_S2x8192x1024_0_0_4096
/-- The branch's gate's part. -/
def partG (d : FVec Ideal S2x8192x7168 .f32) : FVec Ideal S2x8192x1024 .f32 := extractStridedSlice S2x8192x1024 ![0, 0, 6144] d slices_S2x8192x7168_S2x8192x1024_0_0_6144

/-- The logistic function as it is written out. -/
def sigR (z : FVec Ideal S2x8192x1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z)))

/-- Turned rows as rows. -/
def flatR (k : FVec Ideal S2x8192x16x64 .f32) : FVec Ideal S2x8192x1024 .f32 := shapeCast _ k shapeCasts_S2x8192x16x64_S2x8192x1024

/-- Turned rows by pairs of heads. -/
def pairR (k : FVec Ideal S2x8192x16x64 .f32) : FVec Ideal S2x8x8192x128 .f32 :=
  transpose S2x8x8192x128 [0, 2, 1, 3] (shapeCast _ k shapeCasts_S2x8192x16x64_S2x8192x8x128) transposes_S2x8192x8x128_S2x8x8192x128_0_2_1_3

/-- Turned rows scaled. -/
def scaleR (q : FVec Ideal S2x8192x16x64 .f32) : FVec Ideal S2x8192x16x64 .f32 :=
  mulf q (broadcastInDim S2x8192x16x64 ![] bcast_S_S2x8192x16x64 (constant S_ .f32 0x3E000000#32))

/-- Rows by pairs of heads and blocks, the positions last. -/
def blockR (v : FVec Ideal S2x8192x1024 .f32) : FVec Ideal S2x8x32x128x256 .f32 :=
  transpose S2x8x32x128x256 [0, 3, 1, 4, 2] (shapeCast _ v shapeCasts_S2x8192x1024_S2x32x256x8x128) transposes_S2x32x256x8x128_S2x8x32x128x256_0_3_1_4_2

section
variable (m : (ℓ : Loc nD τ sig) → Buf (Elt Ideal) ℓ) (c : Dev nD)

theorem res0 : Value.res_main_v88 m c = flatR (turnR (partK (dotR (m ((c.tc : Thread nD τ).loc main_arg0)) (m ((c.tc : Thread nD τ).loc main_arg1))))) := by
  unfold Value.res_main_v88 flatR turnR partK headsR angR dotR
  rfl

theorem res2 : Value.res_main_v83 m c = pairR (scaleR (turnR (partQ (dotR (m ((c.tc : Thread nD τ).loc main_arg0)) (m ((c.tc : Thread nD τ).loc main_arg1)))))) := by
  unfold Value.res_main_v83 pairR scaleR turnR partQ headsR angR dotR
  rfl

theorem res3 : Value.res_main_v89 m c = truncf .bf16 (pairR (turnR (partK (dotR (m ((c.tc : Thread nD τ).loc main_arg0)) (m ((c.tc : Thread nD τ).loc main_arg1)))))) bitsLt_bf16_f32 := by
  unfold Value.res_main_v89 pairR turnR partK headsR angR dotR
  rfl

end

theorem dotR_at (x : FVec Ideal S2x8192x1024 .f32) (w : FVec Ideal S1024x7168 .f32) (b : Fin 2) (n : Fin 8192) (j : Fin 7168) :
    dotR x w (ix3 b n j) = ∑ f : Fin 1024, x (ix3 b n f) * w (ix2 f j) := by
  pointwise [dotR]

theorem angR_at (n : Fin 8192) (i : Fin 32) : angR (ix2 n i) = ang n.val i.val := by
  pointwise [angR]
  rfl

theorem headsR_at (a : FVec Ideal S8192x32 .f32) (b : Fin 2) (n : Fin 8192) (h : Fin 16) (i : Fin 32) : headsR a (ix4 b n h i) = a (ix2 n i) := by
  pointwise [headsR]

theorem sigR_at (z : FVec Ideal S2x8192x1024 .f32) (b : Fin 2) (n : Fin 8192) (j : Fin 1024) : sigR z (ix3 b n j) = Ideal.logistic (z (ix3 b n j)) := by
  pointwise [sigR]
  rfl

theorem turnR_at (z : FVec Ideal S2x8192x1024 .f32) (b : Fin 2) (n : Fin 8192) (y : ℕ → EReal) (hz : ∀ j : Fin 1024, z (ix3 b n j) = y j.val) (h : Fin 16) (l : Fin 64) :
    turnR z (ix4 b n h l) = turn y n.val (64 * h.val + l.val) := by
  have hc : ∀ i : Fin 32, headsR (Host.cos angR) (ix4 b n h i) = Ideal.cos (ang n.val i.val) := fun i =>
    (headsR_at _ b n h i).trans (congrArg Ideal.cos (angR_at n i))
  have hs : ∀ i : Fin 32, headsR (Host.sin angR) (ix4 b n h i) = Ideal.sin (ang n.val i.val) := fun i =>
    (headsR_at _ b n h i).trans (congrArg Ideal.sin (angR_at n i))
  pointwise [turnR]
  have hl := l.isLt
  have hh := h.isLt
  unfold turn
  by_cases h0 : l.val < 32
  · have h1 : (64 * h.val + l.val) % 64 < 32 := by omega
    rw [dif_pos h0, if_pos h1, hz, hz, hc, hs]
    have e0 : h.val * 64 + l.val = 64 * h.val + l.val := by omega
    have e1 : h.val * 64 + (32 + l.val) = 64 * h.val + l.val + 32 := by omega
    have e2 : (64 * h.val + l.val) % 32 = l.val := by omega
    simp only [e0, e1, e2]
  · have h1 : ¬(64 * h.val + l.val) % 64 < 32 := by omega
    rw [dif_neg h0, if_neg h1, hz, hz, hc, hs]
    have e0 : h.val * 64 + (l.val - 32) = 64 * h.val + l.val - 32 := by omega
    have e1 : h.val * 64 + (32 + (l.val - 32)) = 64 * h.val + l.val := by omega
    have e2 : (64 * h.val + l.val) % 32 = l.val - 32 := by omega
    simp only [e0, e1, e2]

theorem flatR_at (k : FVec Ideal S2x8192x16x64 .f32) (b : Fin 2) (n : Fin 8192) (j : Fin 1024) :
    flatR k (ix3 b n j) = k (ix4 b n ⟨j.val / 64, by omega⟩ ⟨j.val % 64, Nat.mod_lt _ (by decide)⟩) := by
  pointwise [flatR]

theorem pairR_at (k : FVec Ideal S2x8192x16x64 .f32) (b : Fin 2) (h : Fin 8) (n : Fin 8192) (l : Fin 128) :
    pairR k (ix4 b h n l) = k (ix4 b n ⟨(128 * h.val + l.val) / 64, by omega⟩ ⟨(128 * h.val + l.val) % 64, Nat.mod_lt _ (by decide)⟩) := by
  pointwise [pairR]
  have hl := l.isLt
  have hh := h.isLt
  have e0 : h.val * 2 + l.val / 64 = (128 * h.val + l.val) / 64 := by omega
  have e1 : l.val % 64 = (128 * h.val + l.val) % 64 := by omega
  simp only [e0, e1]

theorem scaleR_at (q : FVec Ideal S2x8192x16x64 .f32) (b : Fin 2) (n : Fin 8192) (h : Fin 16) (l : Fin 64) :
    scaleR q (ix4 b n h l) = q (ix4 b n h l) * Ideal.ofBits .f32 0x3E000000#32 := by
  pointwise [scaleR]

theorem blockR_at (v : FVec Ideal S2x8192x1024 .f32) (b : Fin 2) (h : Fin 8) (u : Fin 32) (l : Fin 128) (r : Fin 256) :
    blockR v (ix5 b h u l r) = v (ix3 b ⟨256 * u.val + r.val, by omega⟩ ⟨128 * h.val + l.val, by omega⟩) := by
  pointwise [blockR]
  have e0 : u.val * 256 + r.val = 256 * u.val + r.val := by omega
  have e1 : h.val * 128 + l.val = 128 * h.val + l.val := by omega
  simp only [e0, e1]

/-- A cast keeps every element. -/
theorem trunc_at {s : Shape} (v : FVec Ideal s .f32) (y : s.Idx) : truncf .bf16 v bitsLt_bf16_f32 y = v y := rfl

section
variable (x : FVec Ideal S2x8192x1024 .f32) (w : FVec Ideal S1024x7168 .f32)

theorem partQ_at (b : Fin 2) (n : Fin 8192) (j : Fin 1024) : partQ (dotR x w) (ix3 b n j) = pr x w 1024 b n j.val := by
  have e : partQ (dotR x w) (ix3 b n j) = dotR x w (ix3 b n ⟨1024 + j.val, by omega⟩) := by
    pointwise [partQ]
  rw [e, dotR_at]
  unfold pr
  have hj := j.isLt
  have e1 : (1024 + j.val) % 7168 = 1024 + j.val := by omega
  simp only [e1]

theorem partK_at (b : Fin 2) (n : Fin 8192) (j : Fin 1024) : partK (dotR x w) (ix3 b n j) = pr x w 2048 b n j.val := by
  have e : partK (dotR x w) (ix3 b n j) = dotR x w (ix3 b n ⟨2048 + j.val, by omega⟩) := by
    pointwise [partK]
  rw [e, dotR_at]
  unfold pr
  have hj := j.isLt
  have e1 : (2048 + j.val) % 7168 = 2048 + j.val := by omega
  simp only [e1]

theorem partV_at (b : Fin 2) (n : Fin 8192) (j : Fin 1024) : partV (dotR x w) (ix3 b n j) = pr x w 3072 b n j.val := by
  have e : partV (dotR x w) (ix3 b n j) = dotR x w (ix3 b n ⟨3072 + j.val, by omega⟩) := by
    pointwise [partV]
  rw [e, dotR_at]
  unfold pr
  have hj := j.isLt
  have e1 : (3072 + j.val) % 7168 = 3072 + j.val := by omega
  simp only [e1]

theorem partZ_at (b : Fin 2) (n : Fin 8192) (j : Fin 1024) : partZ (dotR x w) (ix3 b n j) = pr x w 4096 b n j.val := by
  have e : partZ (dotR x w) (ix3 b n j) = dotR x w (ix3 b n ⟨4096 + j.val, by omega⟩) := by
    pointwise [partZ]
  rw [e, dotR_at]
  unfold pr
  have hj := j.isLt
  have e1 : (4096 + j.val) % 7168 = 4096 + j.val := by omega
  simp only [e1]

theorem partG_at (b : Fin 2) (n : Fin 8192) (j : Fin 1024) : partG (dotR x w) (ix3 b n j) = pr x w 6144 b n j.val := by
  have e : partG (dotR x w) (ix3 b n j) = dotR x w (ix3 b n ⟨6144 + j.val, by omega⟩) := by
    pointwise [partG]
  rw [e, dotR_at]
  unfold pr
  have hj := j.isLt
  have e1 : (6144 + j.val) % 7168 = 6144 + j.val := by omega
  simp only [e1]

theorem plain0 : flatR (turnR (partK (dotR x w))) = arr3 (keysAt x w) := by
  funext y
  obtain ⟨b, n, j, rfl⟩ : ∃ (b : Fin 2) (n : Fin 8192) (j : Fin 1024), y = ix3 b n j := ⟨y 0, y 1, y 2, by funext a; match a with | ⟨0, _⟩ => rfl | ⟨1, _⟩ => rfl | ⟨2, _⟩ => rfl⟩
  rw [flatR_at, turnR_at _ b n _ (partK_at x w b n)]
  have e : 64 * (j.val / 64) + j.val % 64 = j.val := by omega
  exact congrArg (fun i => turn (pr x w 2048 b n) n.val i) e

theorem plain1 : partV (dotR x w) = arr3 (valuesAt x w) := by
  funext y
  obtain ⟨b, n, j, rfl⟩ : ∃ (b : Fin 2) (n : Fin 8192) (j : Fin 1024), y = ix3 b n j := ⟨y 0, y 1, y 2, by funext a; match a with | ⟨0, _⟩ => rfl | ⟨1, _⟩ => rfl | ⟨2, _⟩ => rfl⟩
  exact partV_at x w b n j

theorem plain2 : pairR (scaleR (turnR (partQ (dotR x w)))) = arr4 (queriesAt x w) := by
  funext y
  obtain ⟨b, h, n, l, rfl⟩ : ∃ (b : Fin 2) (h : Fin 8) (n : Fin 8192) (l : Fin 128), y = ix4 b h n l := ⟨y 0, y 1, y 2, y 3, by funext a; match a with | ⟨0, _⟩ => rfl | ⟨1, _⟩ => rfl | ⟨2, _⟩ => rfl | ⟨3, _⟩ => rfl⟩
  rw [pairR_at, scaleR_at, turnR_at _ b n _ (partQ_at x w b n)]
  have e : 64 * ((128 * h.val + l.val) / 64) + (128 * h.val + l.val) % 64 = 128 * h.val + l.val := by omega
  exact congrArg (fun i => turn (pr x w 1024 b n) n.val i * Ideal.ofBits .f32 0x3E000000#32) e

theorem plain3 : truncf .bf16 (pairR (turnR (partK (dotR x w)))) bitsLt_bf16_f32 = arr4 (keysAt x w) := by
  funext y
  obtain ⟨b, h, n, l, rfl⟩ : ∃ (b : Fin 2) (h : Fin 8) (n : Fin 8192) (l : Fin 128), y = ix4 b h n l := ⟨y 0, y 1, y 2, y 3, by funext a; match a with | ⟨0, _⟩ => rfl | ⟨1, _⟩ => rfl | ⟨2, _⟩ => rfl | ⟨3, _⟩ => rfl⟩
  rw [trunc_at, pairR_at, turnR_at _ b n _ (partK_at x w b n)]
  have e : 64 * ((128 * h.val + l.val) / 64) + (128 * h.val + l.val) % 64 = 128 * h.val + l.val := by omega
  exact congrArg (fun i => turn (pr x w 2048 b n) n.val i) e

theorem plain4 : truncf .bf16 (blockR (partV (dotR x w))) bitsLt_bf16_f32 = arr5 (valuesAt x w) := by
  funext y
  obtain ⟨b, h, u, l, r, rfl⟩ : ∃ (b : Fin 2) (h : Fin 8) (u : Fin 32) (l : Fin 128) (r : Fin 256), y = ix5 b h u l r := ⟨y 0, y 1, y 2, y 3, y 4, by funext a; match a with | ⟨0, _⟩ => rfl | ⟨1, _⟩ => rfl | ⟨2, _⟩ => rfl | ⟨3, _⟩ => rfl | ⟨4, _⟩ => rfl⟩
  rw [trunc_at, blockR_at, partV_at]
  have hu := u.isLt
  have hr := r.isLt
  have e : (⟨256 * u.val + r.val, by omega⟩ : Fin 8192) = ⟨(256 * u.val + r.val) % 8192, Nat.mod_lt _ (by decide)⟩ := Fin.ext (Nat.mod_eq_of_lt (by omega)).symm
  exact congrArg (fun n => pr x w 3072 b n (128 * h.val + l.val)) e

theorem plain5 : truncf .bf16 (mulf (partZ (dotR x w)) (sigR (partZ (dotR x w)))) bitsLt_bf16_f32 = arr3 (szaAt x w) := by
  funext y
  obtain ⟨b, n, j, rfl⟩ : ∃ (b : Fin 2) (n : Fin 8192) (j : Fin 1024), y = ix3 b n j := ⟨y 0, y 1, y 2, by funext a; match a with | ⟨0, _⟩ => rfl | ⟨1, _⟩ => rfl | ⟨2, _⟩ => rfl⟩
  have e := partZ_at x w b n j
  rw [trunc_at]
  exact congrArg₂ (fun a b : EReal => a * b) e ((sigR_at _ b n j).trans (congrArg Ideal.logistic e))

theorem plain6 : truncf .bf16 (sigR (partG (dotR x w))) bitsLt_bf16_f32 = arr3 (sgaAt x w) := by
  funext y
  obtain ⟨b, n, j, rfl⟩ : ∃ (b : Fin 2) (n : Fin 8192) (j : Fin 1024), y = ix3 b n j := ⟨y 0, y 1, y 2, by funext a; match a with | ⟨0, _⟩ => rfl | ⟨1, _⟩ => rfl | ⟨2, _⟩ => rfl⟩
  rw [trunc_at]
  exact (sigR_at _ b n j).trans (congrArg Ideal.logistic (partG_at x w b n j))

end

end Cert.Reference3Ideal.Plain

end
-- ==== Proof.Tail.lean ====
/-
  The last rows of the pool's input: what the projection stores of them, and their array after the run.
-/
module

public import proofs.«01_k».proof.Proof.ProjArr
public import proofs.«01_k».proof.Proof.ProjPlain

@[expose] public section

set_option maxRecDepth 16384

noncomputable section

namespace Cert.Pro

open Idealize.ShloMosaic

/-- The last sixteen rows of the pool's input. -/
def arrT (x : (⟨3, ![2, 8192, 1024]⟩ : Shape).Idx → EReal) (w : (⟨2, ![1024, 7168]⟩ : Shape).Idx → EReal) : (⟨3, ![2, 16, 512]⟩ : Shape).Idx → EReal :=
  fun y => pr x w 0 (y 0) ⟨(8176 + (y 1).val) % 8192, Nat.mod_lt _ (by decide)⟩ (y 2).val

end Cert.Pro

namespace Cert.Kernel3Ideal.Pro

open Cert.Kernel3Ideal Cert.Kernel3Ideal.Gen Idealize.ShloMosaic Idealize.ShloMosaic.TcCoe Idealize.ShloMosaic.Tactic Idealize.SL.Sem
open Cert.Pro

/-- A row of the extended tile. -/
def rows (R : Vec Ideal S288x512 .f32) (p : ℕ) (j : Fin 512) : EReal := R (ix2 ⟨p % 288, Nat.mod_lt _ (by decide)⟩ j)

theorem at2 {n : ℕ} (v : View sig .tc .vmem S288x512 .f32) (f : BufTy.Contents (Elt Ideal) v.ty) (R : Vec Ideal S288x512 .f32) (hR : v.read (Elt Ideal) f = R) (o : ℕ)
    (inb : ∀ a, (![o, 0] : Fin 2 → ℕ) a + (![n, 512] : Fin 2 → ℕ) a ≤ S288x512.size a) (r : Fin n) (j : Fin 512) :
    View.readAt (Elt Ideal) v (Rect.unit (s := S288x512) ![o, 0] ![n, 512] inb).toLoadRect f (ix2 r j) = rows R (o + r.val) j := by
  rw [View.readAt_eq_ld, hR]
  have h : o + n ≤ 288 := inb 0
  have hr := r.isLt
  refine View.ld_unit_apply_of R _ _ inb (ix2 r j) _ ?_
  intro a
  match a with
  | ⟨0, _⟩ => show (o + r.val) % 288 = o + r.val; omega
  | ⟨1, _⟩ => exact (Nat.zero_add _).symm

/-- A block of 512 columns of the weights. -/
def cols5 (x4 : Vec Ideal S1024x7168 .bf16) (o : ℕ) : Vec Ideal S1024x512 .bf16 :=
  fun y => x4 (ix2 (y 0) ⟨(o + (y 1).val) % 7168, Nat.mod_lt _ (by decide)⟩)

theorem read_w5 (m : Memref sig .tc .vmem S1024x7168 .bf16) (hm : m.IsWhole) (x : Vec Ideal S1024x7168 .bf16) (o : ℕ) (ho : o + 512 ≤ 7168)
    (inb : ∀ a, (![0, o] : Fin 2 → ℕ) a + S1024x512.size a ≤ S1024x7168.size a) :
    View.readAt (Elt Ideal) m.view (Rect.unit (s := S1024x7168) ![0, o] S1024x512.size inb).toLoadRect (hm.unread x) = cols5 x o := by
  rw [View.readAt_eq_ld, hm.read_unread]
  funext y
  unfold cols5
  refine View.ld_unit_apply_of x _ _ inb y _ ?_
  have hy1 : (y 1).val < 512 := (y 1).isLt
  intro a
  match a with
  | ⟨0, _⟩ => show (y 0).val = 0 + (y 0).val; omega
  | ⟨1, _⟩ => show (o + (y 1).val) % 7168 = o + (y 1).val; omega

theorem pay5_at (x0 : Vec Ideal S1x256x1024 .f32) (w : Vec Ideal S1024x512 .bf16) (r : Fin 256) (j : Fin 512) : k0_pay5 x0 w (ix2 r j) = ∑ f : Fin 1024, x0 (ix3 0 r f) * w (ix2 f j) := by
  pointwise [k0_pay5, k0_pay3, k0_pay2]

theorem pay13_at (v : Vec Ideal S16x512 .f32) (r : Fin 16) (j : Fin 512) : k0_pay13 v (ix3 0 r j) = v (ix2 r j) := by
  pointwise [k0_pay13]

/-- A read of a whole window after its one store. -/
theorem read_tail (v : View sig .tc .vmem S1x16x512 .f32) (f : BufTy.Contents (Elt Ideal) v.ty) (p : Vec Ideal S1x16x512 .f32) (y : S1x16x512.Idx) :
    v.read (Elt Ideal) (v.writes (Elt Ideal) f [⟨Rect.unit (s := S1x16x512) ![0, 0, 0] S1x16x512.size inb_S1x16x512_S1x16x512_0_0_0, p⟩]) y = p y := by
  refine View.read_writes_cons_unit_of_mem (size := S1x16x512.size) _ _ _ _ _ _ (y : S1x16x512.Idx) rfl ?_
  intro a
  match a with
  | ⟨0, _⟩ => exact (Nat.zero_add _).symm
  | ⟨1, _⟩ => exact (Nat.zero_add _).symm
  | ⟨2, _⟩ => exact (Nat.zero_add _).symm

section

variable (c : Dev nD) (i : grid0.Coords) (arg2 : Memref sig .tc .vmem S1x256x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x7168 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x8x256x128 .f32) (harg12 : arg12.IsWhole) (arg13 : Memref sig .tc .vmem S1x8x256x128 .bf16) (harg13 : arg13.IsWhole) (arg14 : Memref sig .tc .vmem S1x8x1x128x256 .bf16) (harg14 : arg14.IsWhole) (arg15 : Memref sig .tc .vmem S1x256x1024 .bf16) (harg15 : arg15.IsWhole) (arg16 : Memref sig .tc .vmem S1x256x1024 .bf16) (harg16 : arg16.IsWhole) (arg17 : Memref sig .tc .vmem S1x256x1024 .f32) (harg17 : arg17.IsWhole) (arg18 : Memref sig .tc .vmem S1x16x512 .f32) (harg18 : arg18.IsWhole) (arg19 : Memref sig .tc .vmem S288x512 .f32) (harg19 : arg19.IsWhole) (arg20 : Memref sig .tc .vmem S3x288x512 .f32) (harg20 : arg20.IsWhole)
variable (x0 : Vec Ideal S1x256x1024 .f32) (x1 : Vec Ideal S256x128 .f32) (x2 : Vec Ideal S256x128 .f32) (x3 : Vec Ideal S256x128 .f32) (x4 : Vec Ideal S1024x7168 .bf16) (x5 : Vec Ideal S4x128x128 .bf16) (x6 : Vec Ideal S1x512 .f32) (x7 : Vec Ideal S512x1024 .bf16) (xs0 : Vec Ideal S288x512 .f32)

section

variable (hc0 : cond0_0 i)

/-- The store of the last rows, case A. -/
theorem run_A_16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.2.2.2.1 =
    [⟨Rect.unit (s := S1x16x512) ![0, 0, 0] S1x16x512.size inb_S1x16x512_S1x16x512_0_0_0,
      k0_pay13 (View.readAt (Elt Ideal) arg19.view (Rect.unit (s := S288x512) ![272, 0] S16x512.size inb_S288x512_S16x512_272_0).toLoadRect (arg19.view.writes (Elt Ideal) arg19.view.junk (kernelRun0_A.sl.HS0_2 (F := Ideal) c arg2 harg2 arg6 harg6 x0 x4)))⟩] := by
  unfold kernelRun0_A; rfl

/-- The last rows at an index, case A. -/
theorem out_A_16 (r : Fin 16) (j : Fin 512) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r j) = ∑ f : Fin 1024, x0 (ix3 0 ⟨240 + r.val, by omega⟩ f) * cols5 x4 0 (ix2 f j) := by
  unfold out0_A_16
  rw [run_A_16]
  refine (read_tail _ _ _ _).trans ((pay13_at _ r j).trans ?_)
  refine (at2 arg19.view _ _ rfl 272 inb_S288x512_S16x512_272_0 r j).trans ?_
  unfold kernelRun0_A.sl.HS0_2 rows
  rw [read_x, read_w5 _ _ _ 0 (by decide)]
  refine (View.read_writes_cons_unit_of_mem (s := S288x512) (off' := ![32, 0]) (size := S256x512.size) arg19.view _ inb_S288x512_S256x512_32_0 _ _ _ (ix2 ⟨240 + r.val, by omega⟩ j : S256x512.Idx) rfl ?_).trans (pay5_at _ _ _ j)
  intro a
  match a with
  | ⟨0, _⟩ => show (272 + r.val) % 288 = 32 + (240 + r.val); omega
  | ⟨1, _⟩ => exact (Nat.zero_add _).symm

end

section

variable (hc0 : ¬cond0_0 i)

/-- The store of the last rows, case B. -/
theorem run_B_16 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.2.2.2.2.1 =
    [⟨Rect.unit (s := S1x16x512) ![0, 0, 0] S1x16x512.size inb_S1x16x512_S1x16x512_0_0_0,
      k0_pay13 (View.readAt (Elt Ideal) arg19.view (Rect.unit (s := S288x512) ![272, 0] S16x512.size inb_S288x512_S16x512_272_0).toLoadRect (arg19.view.writes (Elt Ideal) arg19.view.junk (kernelRun0_B.sl.HS0_1 (F := Ideal) c arg2 harg2 arg6 harg6 x0 x4)))⟩] := by
  unfold kernelRun0_B; rfl

/-- The last rows at an index, case B. -/
theorem out_B_16 (r : Fin 16) (j : Fin 512) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r j) = ∑ f : Fin 1024, x0 (ix3 0 ⟨240 + r.val, by omega⟩ f) * cols5 x4 0 (ix2 f j) := by
  unfold out0_B_16
  rw [run_B_16]
  refine (read_tail _ _ _ _).trans ((pay13_at _ r j).trans ?_)
  refine (at2 arg19.view _ _ rfl 272 inb_S288x512_S16x512_272_0 r j).trans ?_
  unfold kernelRun0_B.sl.HS0_1 rows
  rw [read_x, read_w5 _ _ _ 0 (by decide)]
  refine (View.read_writes_cons_unit_of_mem (s := S288x512) (off' := ![32, 0]) (size := S256x512.size) arg19.view _ inb_S288x512_S256x512_32_0 _ _ _ (ix2 ⟨240 + r.val, by omega⟩ j : S256x512.Idx) rfl ?_).trans (pay5_at _ _ _ j)
  intro a
  match a with
  | ⟨0, _⟩ => show (272 + r.val) % 288 = 32 + (240 + r.val); omega
  | ⟨1, _⟩ => exact (Nat.zero_add _).symm

end

end

section

variable (m : (ℓ : Loc nD τ sig) → Buf (Elt Ideal) ℓ) (c : Dev nD) (t : Fin cfg0.N)

theorem idx16 : ∀ t : Fin cfg0.N, win0_16.index t = ![t.val / 32, 0, 0] :=
  (by decide +kernel : ∀ t : Fin grid0.N, win0_16.index t = ![t.val / 32, 0, 0])

/-- The last rows are written back after a batch element's last tile. -/
theorem flush16 : ∀ t : Fin cfg0.N, (cfg0.win 16).flush t = true → t.val % 32 = 31 := by
  decide +kernel

/-- A point's product with a pool column at an index. -/
theorem sum_blk5 (r : Fin 256) (j : Fin 512) : dot (fun f => iblk m c 0 t (ix3 0 r f)) (fun f => cols5 (iblk m c 4 t) 0 (ix2 f j)) = pr (m ((c : Thread nD τ).loc main_arg0)) (m ((c : Thread nD τ).loc main_arg1)) 0 (bOf t) (nOf t r) j.val := by
  have h := sum_blk m c t 0 r ⟨j.val, by omega⟩
  exact h

set_option maxHeartbeats 1000000 in
theorem after_16 (r : Fin 16) (j : Fin 512) : (outsAt0 m c t.val t.isLt).2.2.2.2.2.2.2.2.1 (ix3 0 r j) = pr (m ((c : Thread nD τ).loc main_arg0)) (m ((c : Thread nD τ).loc main_arg1)) 0 (bOf t) (nOf t ⟨240 + r.val, by omega⟩) j.val := by
  by_cases h0 : t.val % 32 = 0
  · have e := congrFun (congrArg (fun z => z.2.2.2.2.2.2.2.2.1) (outsAt0_A m c t h0)) (ix3 0 r j)
    have e' := out_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r j
    dsimp only at e
    rw [e, e']
    exact sum_blk5 m c t ⟨240 + r.val, by omega⟩ j
  · have e := congrFun (congrArg (fun z => z.2.2.2.2.2.2.2.2.1) (outsAt0_B m c t h0)) (ix3 0 r j)
    have e' := out_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r j
    dsimp only at e
    rw [e, e']
    exact sum_blk5 m c t ⟨240 + r.val, by omega⟩ j

/-- Window 16's array after the run. -/
theorem arr_16 : (dats m 0 c).arrAt 16 cfg0.N = arrT (m ((c : Thread nD τ).loc main_arg0)) (m ((c : Thread nD τ).loc main_arg1)) := by
  refine (dats m 0 c).arrAt_eq_of_covers 16 _ (by decide +kernel) fun t hf y => ?_
  have hi := idx16 t
  have ht : t.val < 64 := t.isLt
  have hl := flush16 t hf
  have hb := bOf_val t
  blk_simp
  rw [after0_16]
  obtain ⟨r, l, rfl⟩ : ∃ (r : Fin 16) (j : Fin 512), y = ix3 0 r j :=
    ⟨y 1, y 2, by funext a; match a with | ⟨0, _⟩ => exact Subsingleton.elim (α := Fin 1) _ _ | ⟨1, _⟩ => rfl | ⟨2, _⟩ => rfl⟩
  have hn : (nOf t ⟨240 + r.val, by omega⟩).val = 256 * (t.val % 32) + (240 + r.val) := nOf_val t _
  rw [after_16]
  unfold arrT
  congr 1
  · apply Fin.ext; blk_simp [hi]; (try simp); omega
  · apply Fin.ext; blk_simp [hi]; (try simp); omega
  · blk_simp [hi]

end

end Cert.Kernel3Ideal.Pro

namespace Cert.Reference3Ideal.Plain

open Cert.Reference3Ideal Cert.Reference3Ideal.Gen Idealize.ShloMosaic Idealize.ShloMosaic.TcCoe Idealize.ShloMosaic.Tactic Idealize.SL.Sem
open Cert.Pro

/-- The reference's last rows. -/
theorem plain7 (x : FVec Ideal S2x8192x1024 .f32) (w : FVec Ideal S1024x7168 .f32) :
    extractStridedSlice S2x16x512 ![0, 8176, 0] (extractStridedSlice S2x8192x512 ![0, 0, 0] (dotR x w) slices_S2x8192x7168_S2x8192x512_0_0_0) slices_S2x8192x512_S2x16x512_0_8176_0 = arrT x w := by
  funext y
  obtain ⟨b, n, j, rfl⟩ : ∃ (b : Fin 2) (n : Fin 16) (j : Fin 512), y = ix3 b n j := ⟨y 0, y 1, y 2, by funext a; match a with | ⟨0, _⟩ => rfl | ⟨1, _⟩ => rfl | ⟨2, _⟩ => rfl⟩
  have e : extractStridedSlice S2x16x512 ![0, 8176, 0] (extractStridedSlice S2x8192x512 ![0, 0, 0] (dotR x w) slices_S2x8192x7168_S2x8192x512_0_0_0) slices_S2x8192x512_S2x16x512_0_8176_0 (ix3 b n j)
      = dotR x w (ix3 b ⟨8176 + n.val, by omega⟩ ⟨j.val, by omega⟩) := by
    pointwise
  rw [e, dotR_at]
  unfold arrT pr
  refine Finset.sum_congr rfl fun f _ => ?_
  refine congrArg₂ (fun a b : EReal => a * b) (congrArg x ?_) (congrArg w ?_)
  · funext a
    match a with
    | ⟨0, _⟩ => rfl
    | ⟨1, _⟩ => exact Fin.ext (Nat.mod_eq_of_lt (show 8176 + n.val < 8192 by omega)).symm
    | ⟨2, _⟩ => rfl
  · funext a
    match a with
    | ⟨0, _⟩ => rfl
    | ⟨1, _⟩ => exact Fin.ext (show j.val = (0 + j.val) % 7168 by omega)

end Cert.Reference3Ideal.Plain

end
-- ==== Proof.PoolTile.lean ====
/-
  The pooled branch's tile: the scratch rows a point reads, through the writes before them.
-/
module

public import proofs.«01_k».proof.Proof.Gen.Kernel4Ideal.Frame.Runs
public import Idealize.ShloMosaic.Lib.Pointwise
public import Idealize.ShloMosaic.Lib.Pipeline.ValueKit
public import Idealize.ShloMosaic.Lib.WritesUnit

@[expose] public section

set_option maxRecDepth 16384

noncomputable section

namespace Cert.Kernel4Ideal.Pool

open Cert.Kernel4Ideal Cert.Kernel4Ideal.Gen Idealize.ShloMosaic Idealize.ShloMosaic.TcCoe Idealize.ShloMosaic.Tactic Idealize.SL.Sem

section

variable {F : FTy → Type} [FloatOps F]

/-- The input tile times a block of the weights. -/
def mm (x0 : Vec F S1x256x1024 .f32) (w : Vec F S1024x1024 .bf16) : FVec F S256x1024 .f32 :=
  matmul dot_S256x1024_S1024x1024_S256x1024_1_0_0_1_n_n none (k0_pay2 x0) (shapeCast S1024x1024 w shapeCasts_S1024x1024_S1024x1024 : FVec F S1024x1024 .bf16)
    (constant S256x1024 .f32 0x00000000#32)

/-- The columns of a block of the weights. -/
def cols (x4 : Vec F S1024x7168 .bf16) (o : ℕ) : Vec F S1024x1024 .bf16 :=
  fun y => x4 (ix2 (y 0) ⟨(o + (y 1).val) % 7168, Nat.mod_lt _ (by decide)⟩)

/-- The load of a block of the weights. -/
theorem read_w (m : Memref sig .tc .vmem S1024x7168 .bf16) (hm : m.IsWhole) (x : Vec F S1024x7168 .bf16) (o : ℕ) (ho : o + 1024 ≤ 7168)
    (inb : ∀ a, (![0, o] : Fin 2 → ℕ) a + S1024x1024.size a ≤ S1024x7168.size a) :
    View.readAt (Elt F) m.view (Rect.unit (s := S1024x7168) ![0, o] S1024x1024.size inb).toLoadRect (hm.unread x) = cols x o := by
  rw [View.readAt_eq_ld, hm.read_unread]
  funext y
  unfold cols
  refine View.ld_unit_apply_of x _ _ inb y _ ?_
  have hy1 : (y 1).val < 1024 := (y 1).isLt
  intro a
  match a with
  | ⟨0, _⟩ => show (y 0).val = 0 + (y 0).val; omega
  | ⟨1, _⟩ => show (o + (y 1).val) % 7168 = o + (y 1).val; omega

/-- The load of the input tile. -/
theorem read_x (m : Memref sig .tc .vmem S1x256x1024 .f32) (hm : m.IsWhole) (x : Vec F S1x256x1024 .f32)
    (inb : ∀ a, (![0, 0, 0] : Fin 3 → ℕ) a + S1x256x1024.size a ≤ S1x256x1024.size a) :
    View.readAt (Elt F) m.view (Rect.unit (s := S1x256x1024) ![0, 0, 0] S1x256x1024.size inb).toLoadRect (hm.unread x) = x := by
  rw [View.readAt_eq_ld, hm.read_unread]
  funext y
  refine View.ld_unit_apply_of x _ _ inb y _ ?_
  intro a
  match a with
  | ⟨0, _⟩ => exact (Nat.zero_add _).symm
  | ⟨1, _⟩ => exact (Nat.zero_add _).symm
  | ⟨2, _⟩ => exact (Nat.zero_add _).symm

/-- A window stored whole. -/
theorem read_whole {e : EltTy} (v : View sig .tc .vmem S1x256x1024 e) (f : BufTy.Contents (Elt F) v.ty) (p : Vec F S1x256x1024 e) (y : S1x256x1024.Idx) :
    v.read (Elt F) (v.writes (Elt F) f [⟨Rect.unit (s := S1x256x1024) ![0, 0, 0] S1x256x1024.size inb_S1x256x1024_S1x256x1024_0_0_0, p⟩]) y = p y := by
  refine View.read_writes_cons_unit_of_mem (size := S1x256x1024.size) _ _ _ _ _ _ (y : S1x256x1024.Idx) rfl ?_
  intro a
  match a with
  | ⟨0, _⟩ => exact (Nat.zero_add _).symm
  | ⟨1, _⟩ => exact (Nat.zero_add _).symm
  | ⟨2, _⟩ => exact (Nat.zero_add _).symm

end

/-- A row of the carried scratch, the row number taken in range. -/
def rows (R : Vec Ideal S288x512 .f32) (p : ℕ) (j : Fin 512) : EReal := R (ix2 ⟨p % 288, Nat.mod_lt _ (by decide)⟩ j)

/-- The sum of two consecutive rows, then of four, eight and sixteen. -/
def a2 (E : ℕ → Fin 512 → EReal) (p : ℕ) (j : Fin 512) : EReal := E p j + E (p - 1) j
def a4 (E : ℕ → Fin 512 → EReal) (p : ℕ) (j : Fin 512) : EReal := a2 E p j + a2 E (p - 2) j
def a8 (E : ℕ → Fin 512 → EReal) (p : ℕ) (j : Fin 512) : EReal := a4 E p j + a4 E (p - 4) j
def a16 (E : ℕ → Fin 512 → EReal) (p : ℕ) (j : Fin 512) : EReal := a8 E p j + a8 E (p - 8) j

theorem at2 {n : ℕ} (v : View sig .tc .vmem S288x512 .f32) (f : BufTy.Contents (Elt Ideal) v.ty) (R : Vec Ideal S288x512 .f32) (hR : v.read (Elt Ideal) f = R) (o : ℕ)
    (inb : ∀ a, (![o, 0] : Fin 2 → ℕ) a + (![n, 512] : Fin 2 → ℕ) a ≤ S288x512.size a) (r : Fin n) (j : Fin 512) :
    View.readAt (Elt Ideal) v (Rect.unit (s := S288x512) ![o, 0] ![n, 512] inb).toLoadRect f (ix2 r j) = rows R (o + r.val) j := by
  rw [View.readAt_eq_ld, hR]
  have h : o + n ≤ 288 := inb 0
  have hr := r.isLt
  refine View.ld_unit_apply_of R _ _ inb (ix2 r j) _ ?_
  intro a
  match a with
  | ⟨0, _⟩ => show (o + r.val) % 288 = o + r.val; omega
  | ⟨1, _⟩ => exact (Nat.zero_add _).symm

theorem at3 {n m : ℕ} (v : View sig .tc .vmem S3x288x512 .f32) (f : BufTy.Contents (Elt Ideal) v.ty) (g o q : ℕ)
    (inb : ∀ a, (![g, o, q] : Fin 3 → ℕ) a + (![1, n, m] : Fin 3 → ℕ) a ≤ S3x288x512.size a) (r : Fin n) (l : Fin m) (i : S3x288x512.Idx)
    (h0 : (i 0).val = g) (h1 : (i 1).val = o + r.val) (h2 : (i 2).val = q + l.val) :
    View.readAt (Elt Ideal) v (Rect.unit (s := S3x288x512) ![g, o, q] ![1, n, m] inb).toLoadRect f (ix3 0 r l) = v.read (Elt Ideal) f i := by
  rw [View.readAt_eq_ld]
  refine View.ld_unit_apply_of (v.read (Elt Ideal) f) _ _ inb (ix3 0 r l) i ?_
  intro a
  match a with
  | ⟨0, _⟩ => exact h0
  | ⟨1, _⟩ => exact h1
  | ⟨2, _⟩ => exact h2

theorem hit3 {n m : ℕ} (v : View sig .tc .vmem S3x288x512 .f32) (f : BufTy.Contents (Elt Ideal) v.ty) (g o q : ℕ)
    (inb : ∀ a, (![g, o, q] : Fin 3 → ℕ) a + (![1, n, m] : Fin 3 → ℕ) a ≤ S3x288x512.size a) (w : (⟨3, ![1, n, m]⟩ : Shape).Idx → EReal) (L : List (View.Piece (Elt Ideal) S3x288x512 .f32))
    (r : Fin n) (l : Fin m) (i : S3x288x512.Idx) (h0 : (i 0).val = g) (h1 : (i 1).val = o + r.val) (h2 : (i 2).val = q + l.val) :
    v.read (Elt Ideal) (v.writes (Elt Ideal) f ((⟨Rect.unit (s := S3x288x512) ![g, o, q] ![1, n, m] inb, w⟩ : View.Piece (Elt Ideal) S3x288x512 .f32) :: L)) i = w (ix3 0 r l) := by
  refine View.read_writes_cons_unit_of_mem (s := S3x288x512) (off' := ![g, o, q]) (size := ![1, n, m]) v f inb w L i (ix3 0 r l : (⟨3, ![1, n, m]⟩ : Shape).Idx) rfl ?_
  intro a
  match a with
  | ⟨0, _⟩ => exact h0
  | ⟨1, _⟩ => exact h1
  | ⟨2, _⟩ => exact h2

theorem miss3 {n m : ℕ} (v : View sig .tc .vmem S3x288x512 .f32) (f : BufTy.Contents (Elt Ideal) v.ty) (g o q : ℕ)
    (inb : ∀ a, (![g, o, q] : Fin 3 → ℕ) a + (![1, n, m] : Fin 3 → ℕ) a ≤ S3x288x512.size a) (w : (⟨3, ![1, n, m]⟩ : Shape).Idx → EReal) (L : List (View.Piece (Elt Ideal) S3x288x512 .f32))
    (i : S3x288x512.Idx) (h0 : (i 0).val < g) :
    v.read (Elt Ideal) (v.writes (Elt Ideal) f ((⟨Rect.unit (s := S3x288x512) ![g, o, q] ![1, n, m] inb, w⟩ : View.Piece (Elt Ideal) S3x288x512 .f32) :: L)) i = v.read (Elt Ideal) (v.writes (Elt Ideal) f L) i :=
  View.read_writes_cons_unit_of_not_mem (s := S3x288x512) (off' := ![g, o, q]) (size := ![1, n, m]) v f inb w L i rfl 0 (Or.inl h0)

/-- The stores of the partial sums, the last first. -/
def l1 (p : Vec Ideal S1x280x512 .f32) : List (View.Piece (Elt Ideal) S3x288x512 .f32) :=
  [⟨Rect.unit (s := S3x288x512) ![0, 8, 0] S1x280x512.size inb_S3x288x512_S1x280x512_0_8_0, p⟩]
def l2 (p : Vec Ideal S1x280x512 .f32) (q : Vec Ideal S1x272x384 .f32) : List (View.Piece (Elt Ideal) S3x288x512 .f32) :=
  ⟨Rect.unit (s := S3x288x512) ![1, 16, 128] S1x272x384.size inb_S3x288x512_S1x272x384_1_16_128, q⟩ :: l1 p
def l3 (p : Vec Ideal S1x280x512 .f32) (q : Vec Ideal S1x272x384 .f32) (s : Vec Ideal S1x264x256 .f32) : List (View.Piece (Elt Ideal) S3x288x512 .f32) :=
  ⟨Rect.unit (s := S3x288x512) ![2, 24, 256] S1x264x256.size inb_S3x288x512_S1x264x256_2_24_256, s⟩ :: l2 p q

theorem w1 (v : View sig .tc .vmem S3x288x512 .f32) (f : BufTy.Contents (Elt Ideal) v.ty) (E : ℕ → Fin 512 → EReal) (p : Vec Ideal S1x280x512 .f32)
    (hp : ∀ (r : Fin 280) (j : Fin 512), p (ix3 0 r j) = a2 E (8 + r.val) j) (k : Fin 288) (j : Fin 512) (hk : 8 ≤ k.val) :
    v.read (Elt Ideal) (v.writes (Elt Ideal) f (l1 p)) (ix3 0 k j) = a2 E k.val j := by
  have hk' := k.isLt
  refine (hit3 v f 0 8 0 _ p [] (⟨k.val - 8, by omega⟩ : Fin 280) j (ix3 0 k j) rfl (by show k.val = 8 + (k.val - 8); omega) (Nat.zero_add _).symm).trans ((hp _ j).trans ?_)
  show a2 E (8 + (k.val - 8)) j = _
  rw [Nat.add_sub_cancel' hk]

theorem w2 (v : View sig .tc .vmem S3x288x512 .f32) (f : BufTy.Contents (Elt Ideal) v.ty) (E : ℕ → Fin 512 → EReal) (p : Vec Ideal S1x280x512 .f32) (q : Vec Ideal S1x272x384 .f32)
    (hq : ∀ (r : Fin 272) (l : Fin 384), q (ix3 0 r l) = a4 E (16 + r.val) ⟨128 + l.val, by omega⟩) (k : Fin 288) (j : Fin 512) (hk : 16 ≤ k.val) (hj : 128 ≤ j.val) :
    v.read (Elt Ideal) (v.writes (Elt Ideal) f (l2 p q)) (ix3 1 k j) = a4 E k.val j := by
  have hk' := k.isLt
  have hj' := j.isLt
  refine (hit3 v f 1 16 128 _ q _ (⟨k.val - 16, by omega⟩ : Fin 272) (⟨j.val - 128, by omega⟩ : Fin 384) (ix3 1 k j) rfl (by show k.val = 16 + (k.val - 16); omega) (by show j.val = 128 + (j.val - 128); omega)).trans ((hq _ _).trans ?_)
  have ej : (⟨128 + (j.val - 128), by omega⟩ : Fin 512) = j := Fin.ext (Nat.add_sub_cancel' hj)
  show a4 E (16 + (k.val - 16)) ⟨128 + (j.val - 128), by omega⟩ = _
  rw [Nat.add_sub_cancel' hk, ej]

theorem w3 (v : View sig .tc .vmem S3x288x512 .f32) (f : BufTy.Contents (Elt Ideal) v.ty) (E : ℕ → Fin 512 → EReal) (p : Vec Ideal S1x280x512 .f32) (q : Vec Ideal S1x272x384 .f32) (s : Vec Ideal S1x264x256 .f32)
    (hs : ∀ (r : Fin 264) (l : Fin 256), s (ix3 0 r l) = a8 E (24 + r.val) ⟨256 + l.val, by omega⟩) (k : Fin 288) (j : Fin 512) (hk : 24 ≤ k.val) (hj : 256 ≤ j.val) :
    v.read (Elt Ideal) (v.writes (Elt Ideal) f (l3 p q s)) (ix3 2 k j) = a8 E k.val j := by
  have hk' := k.isLt
  have hj' := j.isLt
  refine (hit3 v f 2 24 256 _ s _ (⟨k.val - 24, by omega⟩ : Fin 264) (⟨j.val - 256, by omega⟩ : Fin 256) (ix3 2 k j) rfl (by show k.val = 24 + (k.val - 24); omega) (by show j.val = 256 + (j.val - 256); omega)).trans ((hs _ _).trans ?_)
  have ej : (⟨256 + (j.val - 256), by omega⟩ : Fin 512) = j := Fin.ext (Nat.add_sub_cancel' hj)
  show a8 E (24 + (k.val - 24)) ⟨256 + (j.val - 256), by omega⟩ = _
  rw [Nat.add_sub_cancel' hk, ej]

theorem pay6_at (a b : Vec Ideal S280x512 .f32) (r : Fin 280) (j : Fin 512) : k0_pay6 a b (ix3 0 r j) = a (ix2 r j) + b (ix2 r j) := by
  pointwise [k0_pay6]

theorem pay7_at (a b : Vec Ideal S1x272x384 .f32) (r : Fin 272) (j : Fin 384) : k0_pay7 a b (ix3 0 r j) = a (ix3 0 r j) + b (ix3 0 r j) := by
  pointwise [k0_pay7]

theorem pay8_at (a b : Vec Ideal S1x264x256 .f32) (r : Fin 264) (j : Fin 256) : k0_pay8 a b (ix3 0 r j) = a (ix3 0 r j) + b (ix3 0 r j) := by
  pointwise [k0_pay8]

theorem pay9_at (a b : Vec Ideal S1x256x128 .f32) (r : Fin 256) (j : Fin 128) : k0_pay9 a b (ix2 r j) = a (ix3 0 r j) + b (ix3 0 r j) := by
  pointwise [k0_pay9]

theorem pay10_at (a : Vec Ideal S1x256x128 .f32) (r : Fin 256) (j : Fin 128) : k0_pay10 a (ix2 r j) = a (ix3 0 r j) := by
  pointwise [k0_pay10]

theorem pay11_at (a : Vec Ideal S1x256x128 .f32) (r : Fin 256) (j : Fin 128) : k0_pay11 a (ix2 r j) = a (ix3 0 r j) := by
  pointwise [k0_pay11]

theorem pay12_at (a : Vec Ideal S1x256x128 .f32) (r : Fin 256) (j : Fin 128) : k0_pay12 a (ix2 r j) = a (ix3 0 r j) := by
  pointwise [k0_pay12]

theorem pay5_at (x0 : Vec Ideal S1x256x1024 .f32) (w : Vec Ideal S1024x512 .bf16) (r : Fin 256) (j : Fin 512) : k0_pay5 x0 w (ix2 r j) = ∑ f : Fin 1024, x0 (ix3 0 r f) * w (ix2 f j) := by
  pointwise [k0_pay5, k0_pay3, k0_pay2]

theorem pay3_at (x0 : Vec Ideal S1x256x1024 .f32) (w : Vec Ideal S1024x512 .bf16) (r : Fin 256) (j : Fin 512) : k0_pay3 x0 w (ix2 r j) = ∑ f : Fin 1024, x0 (ix3 0 r f) * w (ix2 f j) := by
  pointwise [k0_pay3, k0_pay2]

/-- The number of positions a window of width `w` covers at position `n`. -/
def cnt (n w : BitVec 32) : EReal := FloatOps.sitofp (F := Ideal) .f32 (IntOp.minsi (IntOp.addi n 1#32) w)

/-- A group's pooled row: the window's mean less the row itself, mixed and scaled. -/
def mix (n w : BitVec 32) (s u wm : Fin 128 → EReal) (ps : EReal) : EReal := (∑ x : Fin 128, (Ideal.div (s x) (cnt n w) - u x) * wm x) * ps

theorem pay16_at (T : BitVec 32) (v5 : FVec Ideal S256x512 .f32) (s : FVec Ideal S256x128 .f32) (wm : Vec Ideal S1x128x128 .bf16) (ps : Vec Ideal S1x128 .f32) (r : Fin 256) (l : Fin 128) :
    k0_pay16 T v5 s wm ps (ix2 r l) = mix (IntOp.addi (Scalar.muli T 256#32) (BitVec.ofNat 32 r.val)) 2#32 (fun x => s (ix2 r x)) (fun x => v5 (ix2 r ⟨x.val, by omega⟩)) (fun x => wm (ix3 0 x l)) (ps (ix2 0 l)) := by
  pointwise [k0_pay16, k0_pay15]
  rfl

theorem pay17_at (T : BitVec 32) (v5 : FVec Ideal S256x512 .f32) (s : FVec Ideal S256x128 .f32) (wm : Vec Ideal S1x128x128 .bf16) (ps : Vec Ideal S1x128 .f32) (r : Fin 256) (l : Fin 128) :
    k0_pay17 T v5 s wm ps (ix2 r l) = mix (IntOp.addi (Scalar.muli T 256#32) (BitVec.ofNat 32 r.val)) 4#32 (fun x => s (ix2 r x)) (fun x => v5 (ix2 r ⟨128 + x.val, by omega⟩)) (fun x => wm (ix3 0 x l)) (ps (ix2 0 l)) := by
  pointwise [k0_pay17, k0_pay15]
  rfl

/-- The four groups' pooled rows, side by side. -/
def poolV (n : BitVec 32) (E : ℕ → Fin 512 → EReal) (p : ℕ) (U : Fin 512 → EReal) (M : (⟨3, ![4, 128, 128]⟩ : Shape).Idx → EReal) (P : Fin 512 → EReal) (f : Fin 512) : EReal :=
  if h : f.val < 128 then mix n 2#32 (fun x => a2 E p ⟨x.val, by omega⟩) (fun x => U ⟨x.val, by omega⟩) (fun x => M (ix3 0 x ⟨f.val, h⟩)) (P f)
  else if h : f.val - 128 < 128 then mix n 4#32 (fun x => a4 E p ⟨128 + x.val, by omega⟩) (fun x => U ⟨128 + x.val, by omega⟩) (fun x => M (ix3 1 x ⟨f.val - 128, h⟩)) (P f)
  else if h : f.val - 128 - 128 < 128 then mix n 8#32 (fun x => a8 E p ⟨256 + x.val, by omega⟩) (fun x => U ⟨256 + x.val, by omega⟩) (fun x => M (ix3 2 x ⟨f.val - 128 - 128, h⟩)) (P f)
  else mix n 16#32 (fun x => a16 E p ⟨384 + x.val, by omega⟩) (fun x => U ⟨384 + x.val, by omega⟩) (fun x => M (ix3 3 x ⟨f.val - 128 - 128 - 128, by omega⟩)) (P f)

/-- The branch's row before its gate. -/
def branch (pool z : Fin 512 → EReal) (wb : Fin 512 → EReal) : EReal := ∑ f : Fin 512, (pool f * (z f * Ideal.logistic (z f))) * wb f

theorem pay19_at (T : BitVec 32) (x0 : Vec Ideal S1x256x1024 .f32) (w0 : Vec Ideal S1024x512 .bf16) (s38 s40 s42 s44 : FVec Ideal S256x128 .f32)
    (m0 : Vec Ideal S1x128x128 .bf16) (p0 : Vec Ideal S1x128 .f32) (m1 : Vec Ideal S1x128x128 .bf16) (p1 : Vec Ideal S1x128 .f32) (m2 : Vec Ideal S1x128x128 .bf16) (p2 : Vec Ideal S1x128 .f32)
    (m3 : Vec Ideal S1x128x128 .bf16) (p3 : Vec Ideal S1x128 .f32) (wz : Vec Ideal S1024x512 .bf16) (wb : Vec Ideal S512x1024 .bf16)
    (E : ℕ → Fin 512 → EReal) (M : (⟨3, ![4, 128, 128]⟩ : Shape).Idx → EReal) (P : Fin 512 → EReal)
    (h40 : ∀ (r : Fin 256) (l : Fin 128), s40 (ix2 r l) = a2 E (32 + r.val) ⟨l.val, by omega⟩) (h42 : ∀ (r : Fin 256) (l : Fin 128), s42 (ix2 r l) = a4 E (32 + r.val) ⟨128 + l.val, by omega⟩)
    (h44 : ∀ (r : Fin 256) (l : Fin 128), s44 (ix2 r l) = a8 E (32 + r.val) ⟨256 + l.val, by omega⟩) (h38 : ∀ (r : Fin 256) (l : Fin 128), s38 (ix2 r l) = a16 E (32 + r.val) ⟨384 + l.val, by omega⟩)
    (hm0 : ∀ x l : Fin 128, m0 (ix3 0 x l) = M (ix3 0 x l)) (hm1 : ∀ x l : Fin 128, m1 (ix3 0 x l) = M (ix3 1 x l)) (hm2 : ∀ x l : Fin 128, m2 (ix3 0 x l) = M (ix3 2 x l)) (hm3 : ∀ x l : Fin 128, m3 (ix3 0 x l) = M (ix3 3 x l))
    (hp0 : ∀ l : Fin 128, p0 (ix2 0 l) = P ⟨l.val, by omega⟩) (hp1 : ∀ l : Fin 128, p1 (ix2 0 l) = P ⟨128 + l.val, by omega⟩) (hp2 : ∀ l : Fin 128, p2 (ix2 0 l) = P ⟨256 + l.val, by omega⟩) (hp3 : ∀ l : Fin 128, p3 (ix2 0 l) = P ⟨384 + l.val, by omega⟩)
    (r : Fin 256) (j : Fin 1024) :
    k0_pay19 (k0_pay2 x0) (k0_pay3 x0 w0) s38 s44 (k0_pay15 T) (k0_pay16 T (k0_pay3 x0 w0) s40 m0 p0) (k0_pay17 T (k0_pay3 x0 w0) s42 m1 p1) (k0_pay18 T) m2 p2 m3 p3 wz wb (ix2 r j)
      = branch (poolV (IntOp.addi (Scalar.muli T 256#32) (BitVec.ofNat 32 r.val)) E (32 + r.val) (fun f => ∑ x : Fin 1024, x0 (ix3 0 r x) * w0 (ix2 x f)) M P) (fun f => ∑ x : Fin 1024, x0 (ix3 0 r x) * wz (ix2 x f)) (fun f => wb (ix2 f j)) := by
  pointwise [k0_pay19, k0_pay18, k0_pay15, k0_pay2]
  unfold branch
  refine Finset.sum_congr rfl fun f _ => ?_
  refine congrArg (fun a : EReal => a * wb (ix2 f j)) (congrArg₂ (fun a b : EReal => a * b) ?_ rfl)
  unfold poolV
  have hf := f.isLt
  split
  · rename_i h
    rw [pay16_at, hp0]
    simp only [h40, hm0, pay3_at]
  · split
    · rename_i h
      rw [pay17_at, hp1]
      have e : (⟨128 + (f.val - 128), by omega⟩ : Fin 512) = f := Fin.ext (by show 128 + (f.val - 128) = f.val; omega)
      simp only [h42, hm1, pay3_at, e]
    · split
      · rename_i h
        rw [hp2]
        have e : (⟨256 + (f.val - 128 - 128), by omega⟩ : Fin 512) = f := Fin.ext (by show 256 + (f.val - 128 - 128) = f.val; omega)
        simp only [h44, hm2, pay3_at, e]
        rfl
      · rename_i h
        rw [hp3]
        have e : (⟨384 + (f.val - 128 - 128 - 128), by omega⟩ : Fin 512) = f := Fin.ext (by show 384 + (f.val - 128 - 128 - 128) = f.val; omega)
        simp only [h38, hm3, pay3_at, e]
        rfl

theorem pay20_at (x0 : Vec Ideal S1x256x1024 .f32) (v : FVec Ideal S256x1024 .f32) (w : Vec Ideal S1024x1024 .bf16) (r : Fin 256) (j : Fin 1024) :
    k0_pay20 (k0_pay2 x0) v w (ix3 0 r j) = Ideal.logistic (∑ f : Fin 1024, x0 (ix3 0 r f) * w (ix2 f j)) * v (ix2 r j) := by
  pointwise [k0_pay20, k0_pay2]

/-- The load of a group's mixing weights. -/
theorem read_m (m : Memref sig .tc .vmem S4x128x128 .bf16) (hm : m.IsWhole) (x : Vec Ideal S4x128x128 .bf16) (g : Fin 4)
    (inb : ∀ a, (![g.val, 0, 0] : Fin 3 → ℕ) a + S1x128x128.size a ≤ S4x128x128.size a) (i l : Fin 128) :
    View.readAt (Elt Ideal) m.view (Rect.unit (s := S4x128x128) ![g.val, 0, 0] S1x128x128.size inb).toLoadRect (hm.unread x) (ix3 0 i l) = x (ix3 g i l) := by
  rw [View.readAt_eq_ld, hm.read_unread]
  refine View.ld_unit_apply_of x _ _ inb (ix3 0 i l) _ ?_
  intro a
  match a with
  | ⟨0, _⟩ => rfl
  | ⟨1, _⟩ => exact (Nat.zero_add _).symm
  | ⟨2, _⟩ => exact (Nat.zero_add _).symm

/-- The load of a group's scales. -/
theorem read_p (m : Memref sig .tc .vmem S1x512 .f32) (hm : m.IsWhole) (x : Vec Ideal S1x512 .f32) (o : ℕ) (ho : o + 128 ≤ 512)
    (inb : ∀ a, (![0, o] : Fin 2 → ℕ) a + S1x128.size a ≤ S1x512.size a) (l : Fin 128) :
    View.readAt (Elt Ideal) m.view (Rect.unit (s := S1x512) ![0, o] S1x128.size inb).toLoadRect (hm.unread x) (ix2 0 l) = x (ix2 0 ⟨o + l.val, by omega⟩) := by
  rw [View.readAt_eq_ld, hm.read_unread]
  refine View.ld_unit_apply_of x _ _ inb (ix2 0 l) _ ?_
  intro a
  match a with
  | ⟨0, _⟩ => rfl
  | ⟨1, _⟩ => rfl

/-- The load of the branch's weights. -/
theorem read_b (m : Memref sig .tc .vmem S512x1024 .bf16) (hm : m.IsWhole) (x : Vec Ideal S512x1024 .bf16)
    (inb : ∀ a, (![0, 0] : Fin 2 → ℕ) a + S512x1024.size a ≤ S512x1024.size a) :
    View.readAt (Elt Ideal) m.view (Rect.unit (s := S512x1024) ![0, 0] S512x1024.size inb).toLoadRect (hm.unread x) = x := by
  rw [View.readAt_eq_ld, hm.read_unread]
  funext y
  refine View.ld_unit_apply_of x _ _ inb y _ ?_
  intro a
  match a with
  | ⟨0, _⟩ => exact (Nat.zero_add _).symm
  | ⟨1, _⟩ => exact (Nat.zero_add _).symm

/-- Half a block of the weights. -/
def cols5 (x4 : Vec Ideal S1024x7168 .bf16) (o : ℕ) : Vec Ideal S1024x512 .bf16 :=
  fun y => x4 (ix2 (y 0) ⟨(o + (y 1).val) % 7168, Nat.mod_lt _ (by decide)⟩)

theorem read_w5 (m : Memref sig .tc .vmem S1024x7168 .bf16) (hm : m.IsWhole) (x : Vec Ideal S1024x7168 .bf16) (o : ℕ) (ho : o + 512 ≤ 7168)
    (inb : ∀ a, (![0, o] : Fin 2 → ℕ) a + S1024x512.size a ≤ S1024x7168.size a) :
    View.readAt (Elt Ideal) m.view (Rect.unit (s := S1024x7168) ![0, o] S1024x512.size inb).toLoadRect (hm.unread x) = cols5 x o := by
  rw [View.readAt_eq_ld, hm.read_unread]
  funext y
  unfold cols5
  refine View.ld_unit_apply_of x _ _ inb y _ ?_
  have hy1 : (y 1).val < 512 := (y 1).isLt
  intro a
  match a with
  | ⟨0, _⟩ => show (y 0).val = 0 + (y 0).val; omega
  | ⟨1, _⟩ => show (o + (y 1).val) % 7168 = o + (y 1).val; omega

end Cert.Kernel4Ideal.Pool
-- ==== Proof.PoolRun.lean ====
/-
  The pooled branch's run at a grid point: what its output window holds at an index.
-/
module

public import proofs.«01_k».proof.Proof.PoolTile
public import proofs.«01_k».proof.Proof.Gen.Kernel4Ideal.Frame

@[expose] public section

set_option maxRecDepth 16384

noncomputable section

namespace Cert.Kernel4Ideal.Pool

open Cert.Kernel4Ideal Cert.Kernel4Ideal.Gen Idealize.ShloMosaic Idealize.ShloMosaic.TcCoe Idealize.ShloMosaic.Tactic Idealize.SL.Sem

variable (c : Dev nD) (i : grid0.Coords) (arg2 : Memref sig .tc .vmem S1x256x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x7168 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x8x256x128 .f32) (harg12 : arg12.IsWhole) (arg13 : Memref sig .tc .vmem S1x8x256x128 .bf16) (harg13 : arg13.IsWhole) (arg14 : Memref sig .tc .vmem S1x8x1x128x256 .bf16) (harg14 : arg14.IsWhole) (arg15 : Memref sig .tc .vmem S1x256x1024 .bf16) (harg15 : arg15.IsWhole) (arg16 : Memref sig .tc .vmem S1x256x1024 .bf16) (harg16 : arg16.IsWhole) (arg17 : Memref sig .tc .vmem S1x256x1024 .f32) (harg17 : arg17.IsWhole) (arg18 : Memref sig .tc .vmem S1x16x512 .f32) (harg18 : arg18.IsWhole) (arg19 : Memref sig .tc .vmem S288x512 .f32) (harg19 : arg19.IsWhole) (arg20 : Memref sig .tc .vmem S3x288x512 .f32) (harg20 : arg20.IsWhole)
variable (x0 : Vec Ideal S1x256x1024 .f32) (x1 : Vec Ideal S256x128 .f32) (x2 : Vec Ideal S256x128 .f32) (x3 : Vec Ideal S256x128 .f32) (x4 : Vec Ideal S1024x7168 .bf16) (x5 : Vec Ideal S4x128x128 .bf16) (x6 : Vec Ideal S1x512 .f32) (x7 : Vec Ideal S512x1024 .bf16) (xs0 : Vec Ideal S288x512 .f32)

theorem pay4_at (p : Fin 32) (j : Fin 512) : k0_pay4 (F := Ideal) (ix2 p j) = 0 := by
  show Ideal.ofBits .f32 0x00000000#32 = 0
  exact Ideal.ofBits_zero_f32

theorem pay14_at (v : Vec Ideal S32x512 .f32) (p : Fin 32) (j : Fin 512) : k0_pay14 v (ix2 p j) = v (ix2 p j) := by
  pointwise [k0_pay14]

theorem pay19_of (T : BitVec 32) (x0 X : Vec Ideal S1x256x1024 .f32) (hX : X = x0) (w0 W0 : Vec Ideal S1024x512 .bf16) (hW : W0 = w0) (s38 s40 s42 s44 : FVec Ideal S256x128 .f32)
    (m0 : Vec Ideal S1x128x128 .bf16) (p0 : Vec Ideal S1x128 .f32) (m1 : Vec Ideal S1x128x128 .bf16) (p1 : Vec Ideal S1x128 .f32) (m2 : Vec Ideal S1x128x128 .bf16) (p2 : Vec Ideal S1x128 .f32)
    (m3 : Vec Ideal S1x128x128 .bf16) (p3 : Vec Ideal S1x128 .f32) (wz WZ : Vec Ideal S1024x512 .bf16) (hZ : WZ = wz) (wb WB : Vec Ideal S512x1024 .bf16) (hB : WB = wb)
    (E : ℕ → Fin 512 → EReal) (M : (⟨3, ![4, 128, 128]⟩ : Shape).Idx → EReal) (P : Fin 512 → EReal)
    (h40 : ∀ (r : Fin 256) (l : Fin 128), s40 (ix2 r l) = a2 E (32 + r.val) ⟨l.val, by omega⟩) (h42 : ∀ (r : Fin 256) (l : Fin 128), s42 (ix2 r l) = a4 E (32 + r.val) ⟨128 + l.val, by omega⟩)
    (h44 : ∀ (r : Fin 256) (l : Fin 128), s44 (ix2 r l) = a8 E (32 + r.val) ⟨256 + l.val, by omega⟩) (h38 : ∀ (r : Fin 256) (l : Fin 128), s38 (ix2 r l) = a16 E (32 + r.val) ⟨384 + l.val, by omega⟩)
    (hm0 : ∀ x l : Fin 128, m0 (ix3 0 x l) = M (ix3 0 x l)) (hm1 : ∀ x l : Fin 128, m1 (ix3 0 x l) = M (ix3 1 x l)) (hm2 : ∀ x l : Fin 128, m2 (ix3 0 x l) = M (ix3 2 x l)) (hm3 : ∀ x l : Fin 128, m3 (ix3 0 x l) = M (ix3 3 x l))
    (hp0 : ∀ l : Fin 128, p0 (ix2 0 l) = P ⟨0 + l.val, by omega⟩) (hp1 : ∀ l : Fin 128, p1 (ix2 0 l) = P ⟨128 + l.val, by omega⟩) (hp2 : ∀ l : Fin 128, p2 (ix2 0 l) = P ⟨256 + l.val, by omega⟩) (hp3 : ∀ l : Fin 128, p3 (ix2 0 l) = P ⟨384 + l.val, by omega⟩)
    (r : Fin 256) (j : Fin 1024) :
    k0_pay19 (k0_pay2 X) (k0_pay3 X W0) s38 s44 (k0_pay15 T) (k0_pay16 T (k0_pay3 X W0) s40 m0 p0) (k0_pay17 T (k0_pay3 X W0) s42 m1 p1) (k0_pay18 T) m2 p2 m3 p3 WZ WB (ix2 r j)
      = branch (poolV (IntOp.addi (Scalar.muli T 256#32) (BitVec.ofNat 32 r.val)) E (32 + r.val) (fun f => ∑ x : Fin 1024, x0 (ix3 0 r x) * w0 (ix2 x f)) M P) (fun f => ∑ x : Fin 1024, x0 (ix3 0 r x) * wz (ix2 x f)) (fun f => wb (ix2 f j)) := by
  subst hX hW hZ hB
  exact pay19_at T X W0 s38 s40 s42 s44 m0 p0 m1 p1 m2 p2 m3 p3 WZ WB E M P h40 h42 h44 h38 hm0 hm1 hm2 hm3
    (fun l => (hp0 l).trans (congrArg P (Fin.ext (Nat.zero_add _)))) hp1 hp2 hp3 r j

/-- The carried scratch after the tile's rows are stored, case A. -/
def extA (c : Dev nD) (arg2 : Memref sig .tc .vmem S1x256x1024 .f32) (harg2 : arg2.IsWhole) (arg6 : Memref sig .tc .vmem S1024x7168 .bf16) (harg6 : arg6.IsWhole) (arg19 : Memref sig .tc .vmem S288x512 .f32) (x0 : Vec Ideal S1x256x1024 .f32) (x4 : Vec Ideal S1024x7168 .bf16) : Vec Ideal S288x512 .f32 :=
  arg19.view.read (Elt Ideal) (arg19.view.writes (Elt Ideal) arg19.view.junk (kernelRun0_A.sl.HS0_2 (F := Ideal) c arg2 harg2 arg6 harg6 x0 x4))

theorem p6_A : ∃ p, kernelRun0_A.sl.HS1_1 (F := Ideal) c arg2 harg2 arg6 harg6 arg19 x0 x4 = l1 p ∧ ∀ (r : Fin 280) (j : Fin 512), p (ix3 0 r j) = a2 (rows (extA c arg2 harg2 arg6 harg6 arg19 x0 x4)) (8 + r.val) j := by
  refine ⟨_, rfl, fun r j => (pay6_at _ _ r j).trans (congrArg₂ (fun a b : EReal => a + b) (at2 arg19.view _ _ rfl 8 _ r j) ((at2 arg19.view _ _ rfl 7 _ r j).trans ?_))⟩
  show _ = rows (extA c arg2 harg2 arg6 harg6 arg19 x0 x4) (8 + r.val - 1) j
  rw [show 8 + r.val - 1 = 7 + r.val by omega]
  rfl

theorem p7_A : ∃ p q, kernelRun0_A.sl.HS1_2 (F := Ideal) c arg2 harg2 arg6 harg6 arg19 arg20 x0 x4 = l2 p q ∧ kernelRun0_A.sl.HS1_1 (F := Ideal) c arg2 harg2 arg6 harg6 arg19 x0 x4 = l1 p ∧ (∀ (r : Fin 280) (j : Fin 512), p (ix3 0 r j) = a2 (rows (extA c arg2 harg2 arg6 harg6 arg19 x0 x4)) (8 + r.val) j)
    ∧ ∀ (r : Fin 272) (l : Fin 384), q (ix3 0 r l) = a4 (rows (extA c arg2 harg2 arg6 harg6 arg19 x0 x4)) (16 + r.val) ⟨128 + l.val, by omega⟩ := by
  obtain ⟨p, e, hp⟩ := p6_A c arg2 harg2 arg6 harg6 arg19 x0 x4
  refine ⟨p, k0_pay7 (kernelRun0_A.sl.v18 c arg2 harg2 arg6 harg6 arg19 arg20 x0 x4) (kernelRun0_A.sl.v20 c arg2 harg2 arg6 harg6 arg19 arg20 x0 x4), ?_, e, hp, fun r l => (pay7_at _ _ r l).trans (congrArg₂ (fun a b : EReal => a + b) ?_ ?_)⟩
  · show _ :: kernelRun0_A.sl.HS1_1 (F := Ideal) c arg2 harg2 arg6 harg6 arg19 x0 x4 = _
    rw [e]; rfl
  · refine (at3 arg20.view _ 0 16 128 _ r l (ix3 0 ⟨16 + r.val, by omega⟩ ⟨128 + l.val, by omega⟩) rfl rfl rfl).trans ?_
    rw [e]
    exact w1 arg20.view _ _ p hp _ _ (by show 8 ≤ 16 + r.val; omega)
  · refine (at3 arg20.view _ 0 14 128 _ r l (ix3 0 ⟨14 + r.val, by omega⟩ ⟨128 + l.val, by omega⟩) rfl rfl rfl).trans ?_
    rw [e]
    refine (w1 arg20.view _ _ p hp _ _ (by show 8 ≤ 14 + r.val; omega)).trans ?_
    show a2 _ (14 + r.val) _ = a2 _ (16 + r.val - 2) _
    rw [show 16 + r.val - 2 = 14 + r.val by omega]

theorem p8_A : ∃ p q s, kernelRun0_A.sl.HS1_3 (F := Ideal) c arg2 harg2 arg6 harg6 arg19 arg20 x0 x4 = l3 p q s ∧ (∀ (r : Fin 280) (j : Fin 512), p (ix3 0 r j) = a2 (rows (extA c arg2 harg2 arg6 harg6 arg19 x0 x4)) (8 + r.val) j)
    ∧ (∀ (r : Fin 272) (l : Fin 384), q (ix3 0 r l) = a4 (rows (extA c arg2 harg2 arg6 harg6 arg19 x0 x4)) (16 + r.val) ⟨128 + l.val, by omega⟩)
    ∧ ∀ (r : Fin 264) (l : Fin 256), s (ix3 0 r l) = a8 (rows (extA c arg2 harg2 arg6 harg6 arg19 x0 x4)) (24 + r.val) ⟨256 + l.val, by omega⟩ := by
  obtain ⟨p, q, e, -, hp, hq⟩ := p7_A c arg2 harg2 arg6 harg6 arg19 arg20 x0 x4
  refine ⟨p, q, k0_pay8 (kernelRun0_A.sl.v26 c arg2 harg2 arg6 harg6 arg19 arg20 x0 x4) (kernelRun0_A.sl.v28 c arg2 harg2 arg6 harg6 arg19 arg20 x0 x4), ?_, hp, hq, fun r l => (pay8_at _ _ r l).trans (congrArg₂ (fun a b : EReal => a + b) ?_ ?_)⟩
  · show _ :: kernelRun0_A.sl.HS1_2 (F := Ideal) c arg2 harg2 arg6 harg6 arg19 arg20 x0 x4 = _
    rw [e]; rfl
  · refine (at3 arg20.view _ 1 24 256 _ r l (ix3 1 ⟨24 + r.val, by omega⟩ ⟨256 + l.val, by omega⟩) rfl rfl rfl).trans ?_
    rw [e]
    exact w2 arg20.view _ _ p q hq _ _ (by show 16 ≤ 24 + r.val; omega) (by show 128 ≤ 256 + l.val; omega)
  · refine (at3 arg20.view _ 1 20 256 _ r l (ix3 1 ⟨20 + r.val, by omega⟩ ⟨256 + l.val, by omega⟩) rfl rfl rfl).trans ?_
    rw [e]
    refine (w2 arg20.view _ _ p q hq _ _ (by show 16 ≤ 20 + r.val; omega) (by show 128 ≤ 256 + l.val; omega)).trans ?_
    show a4 _ (20 + r.val) _ = a4 _ (24 + r.val - 4) _
    rw [show 24 + r.val - 4 = 20 + r.val by omega]

theorem s40_A (r : Fin 256) (l : Fin 128) : kernelRun0_A.sl.r_3 (F := Ideal) c arg2 harg2 arg6 harg6 arg19 arg20 x0 x4 (ix2 r l) = a2 (rows (extA c arg2 harg2 arg6 harg6 arg19 x0 x4)) (32 + r.val) ⟨l.val, by omega⟩ := by
  obtain ⟨p, q, s, e, hp, hq, hs⟩ := p8_A c arg2 harg2 arg6 harg6 arg19 arg20 x0 x4
  refine (pay10_at _ r l).trans ?_
  refine (at3 arg20.view _ 0 32 0 _ r l (ix3 0 ⟨32 + r.val, by omega⟩ ⟨l.val, by omega⟩) rfl rfl (Nat.zero_add _).symm).trans ?_
  rw [e]
  refine (miss3 arg20.view _ 2 24 256 _ s _ _ Nat.zero_lt_two).trans ((miss3 arg20.view _ 1 16 128 _ q _ _ Nat.zero_lt_one).trans ?_)
  exact w1 arg20.view _ _ p hp _ _ (by show 8 ≤ 32 + r.val; omega)

theorem s42_A (r : Fin 256) (l : Fin 128) : kernelRun0_A.sl.r_4 (F := Ideal) c arg2 harg2 arg6 harg6 arg19 arg20 x0 x4 (ix2 r l) = a4 (rows (extA c arg2 harg2 arg6 harg6 arg19 x0 x4)) (32 + r.val) ⟨128 + l.val, by omega⟩ := by
  obtain ⟨p, q, s, e, hp, hq, hs⟩ := p8_A c arg2 harg2 arg6 harg6 arg19 arg20 x0 x4
  refine (pay11_at _ r l).trans ?_
  refine (at3 arg20.view _ 1 32 128 _ r l (ix3 1 ⟨32 + r.val, by omega⟩ ⟨128 + l.val, by omega⟩) rfl rfl rfl).trans ?_
  rw [e]
  refine (miss3 arg20.view _ 2 24 256 _ s _ _ Nat.one_lt_two).trans ?_
  exact w2 arg20.view _ _ p q hq _ _ (by show 16 ≤ 32 + r.val; omega) (by show 128 ≤ 128 + l.val; omega)

theorem s44_A (r : Fin 256) (l : Fin 128) : kernelRun0_A.sl.r_5 (F := Ideal) c arg2 harg2 arg6 harg6 arg19 arg20 x0 x4 (ix2 r l) = a8 (rows (extA c arg2 harg2 arg6 harg6 arg19 x0 x4)) (32 + r.val) ⟨256 + l.val, by omega⟩ := by
  obtain ⟨p, q, s, e, hp, hq, hs⟩ := p8_A c arg2 harg2 arg6 harg6 arg19 arg20 x0 x4
  refine (pay12_at _ r l).trans ?_
  refine (at3 arg20.view _ 2 32 256 _ r l (ix3 2 ⟨32 + r.val, by omega⟩ ⟨256 + l.val, by omega⟩) rfl rfl rfl).trans ?_
  rw [e]
  exact w3 arg20.view _ _ p q s hs _ _ (by show 24 ≤ 32 + r.val; omega) (by show 256 ≤ 256 + l.val; omega)

theorem s38_A (r : Fin 256) (l : Fin 128) : kernelRun0_A.sl.r_2 (F := Ideal) c arg2 harg2 arg6 harg6 arg19 arg20 x0 x4 (ix2 r l) = a16 (rows (extA c arg2 harg2 arg6 harg6 arg19 x0 x4)) (32 + r.val) ⟨384 + l.val, by omega⟩ := by
  obtain ⟨p, q, s, e, hp, hq, hs⟩ := p8_A c arg2 harg2 arg6 harg6 arg19 arg20 x0 x4
  refine (pay9_at _ _ r l).trans (congrArg₂ (fun a b : EReal => a + b) ?_ ?_)
  · refine (at3 arg20.view _ 2 32 384 _ r l (ix3 2 ⟨32 + r.val, by omega⟩ ⟨384 + l.val, by omega⟩) rfl rfl rfl).trans ?_
    rw [e]
    exact w3 arg20.view _ _ p q s hs _ _ (by show 24 ≤ 32 + r.val; omega) (by show 256 ≤ 384 + l.val; omega)
  · refine (at3 arg20.view _ 2 24 384 _ r l (ix3 2 ⟨24 + r.val, by omega⟩ ⟨384 + l.val, by omega⟩) rfl rfl rfl).trans ?_
    rw [e]
    refine (w3 arg20.view _ _ p q s hs _ _ (by show 24 ≤ 24 + r.val; omega) (by show 256 ≤ 384 + l.val; omega)).trans ?_
    show a8 _ (24 + r.val) _ = a8 _ (32 + r.val - 8) _
    rw [show 32 + r.val - 8 = 24 + r.val by omega]

/-- A stored row of the tile, case A. -/
theorem new_A (r : Fin 256) (j : Fin 512) : rows (extA c arg2 harg2 arg6 harg6 arg19 x0 x4) (32 + r.val) j = ∑ f : Fin 1024, x0 (ix3 0 r f) * cols5 x4 0 (ix2 f j) := by
  unfold extA kernelRun0_A.sl.HS0_2 rows
  rw [read_x, read_w5 _ _ _ 0 (by decide)]
  refine (View.read_writes_cons_unit_of_mem (s := S288x512) (off' := ![32, 0]) (size := S256x512.size) arg19.view _ inb_S288x512_S256x512_32_0 _ _ _ (ix2 r j : S256x512.Idx) rfl ?_).trans (pay5_at _ _ r j)
  have hr := r.isLt
  intro a
  match a with
  | ⟨0, _⟩ => exact Nat.mod_eq_of_lt (show 32 + r.val < 288 by omega)
  | ⟨1, _⟩ => exact (Nat.zero_add _).symm

/-- A carried row, case A. -/
theorem old_A (p : Fin 32) (j : Fin 512) : rows (extA c arg2 harg2 arg6 harg6 arg19 x0 x4) p.val j = 0 := by
  unfold extA kernelRun0_A.sl.HS0_2 rows
  have hp := p.isLt
  refine (View.read_writes_cons_unit_of_not_mem (s := S288x512) (off' := ![32, 0]) (size := S256x512.size) arg19.view _ inb_S288x512_S256x512_32_0 _ _ _ rfl 0 (Or.inl (show p.val % 288 < 32 by omega))).trans ?_
  refine (View.read_writes_cons_unit_of_mem (s := S288x512) (off' := ![0, 0]) (size := S32x512.size) arg19.view _ inb_S288x512_S32x512_0_0 _ _ _ (ix2 p j : S32x512.Idx) rfl ?_).trans (pay4_at p j)
  intro a
  match a with
  | ⟨0, _⟩ => exact (Nat.mod_eq_of_lt (show p.val < 288 by omega)).trans (Nat.zero_add _).symm
  | ⟨1, _⟩ => exact (Nat.zero_add _).symm

section

variable (hc0 : cond0_0 i)

/-- The branch before its gate at an index, case A. -/
theorem r11_A (r : Fin 256) (j : Fin 1024) : kernelRun0_A.sl.r_11 (F := Ideal) c i arg2 harg2 arg6 harg6 arg7 harg7 arg8 harg8 arg9 harg9 arg19 arg20 x0 x4 x5 x6 x7 (ix2 r j) =
      branch (poolV (IntOp.addi (Scalar.muli (BitVec.ofNat 32 (i 1).val) 256#32) (BitVec.ofNat 32 r.val)) (rows (extA c arg2 harg2 arg6 harg6 arg19 x0 x4)) (32 + r.val)
          (fun f => ∑ x : Fin 1024, x0 (ix3 0 r x) * cols5 x4 0 (ix2 x f)) x5 (fun f => x6 (ix2 0 f)))
        (fun f => ∑ x : Fin 1024, x0 (ix3 0 r x) * cols5 x4 512 (ix2 x f)) (fun f => x7 (ix2 f j)) := by
  exact pay19_of (BitVec.ofNat 32 (i 1).val) x0 _ (read_x arg2 harg2 x0 _) (cols5 x4 0) _ (read_w5 arg6 harg6 x4 0 (by decide) _) (kernelRun0_A.sl.r_2 (F := Ideal) c arg2 harg2 arg6 harg6 arg19 arg20 x0 x4) (kernelRun0_A.sl.r_3 (F := Ideal) c arg2 harg2 arg6 harg6 arg19 arg20 x0 x4) (kernelRun0_A.sl.r_4 (F := Ideal) c arg2 harg2 arg6 harg6 arg19 arg20 x0 x4) (kernelRun0_A.sl.r_5 (F := Ideal) c arg2 harg2 arg6 harg6 arg19 arg20 x0 x4)
    _ _ _ _ _ _ _ _ (cols5 x4 512) _ (read_w5 arg6 harg6 x4 512 (by decide) inb_S1024x7168_S1024x512_0_512) x7 _ (read_b arg9 harg9 x7 inb_S512x1024_S512x1024_0_0) (rows (extA c arg2 harg2 arg6 harg6 arg19 x0 x4)) x5 (fun f => x6 (ix2 0 f))
    (s40_A c arg2 harg2 arg6 harg6 arg19 arg20 x0 x4) (s42_A c arg2 harg2 arg6 harg6 arg19 arg20 x0 x4) (s44_A c arg2 harg2 arg6 harg6 arg19 arg20 x0 x4) (s38_A c arg2 harg2 arg6 harg6 arg19 arg20 x0 x4)
    (read_m arg7 harg7 x5 0 inb_S4x128x128_S1x128x128_0_0_0) (read_m arg7 harg7 x5 1 inb_S4x128x128_S1x128x128_1_0_0) (read_m arg7 harg7 x5 2 inb_S4x128x128_S1x128x128_2_0_0) (read_m arg7 harg7 x5 3 inb_S4x128x128_S1x128x128_3_0_0)
    (read_p arg8 harg8 x6 0 (by decide) inb_S1x512_S1x128_0_0) (read_p arg8 harg8 x6 128 (by decide) inb_S1x512_S1x128_0_128) (read_p arg8 harg8 x6 256 (by decide) inb_S1x512_S1x128_0_256) (read_p arg8 harg8 x6 384 (by decide) inb_S1x512_S1x128_0_384) r j

/-- The store of the branch, case A. -/
theorem run_A_15 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.2.2.1 =
      [⟨Rect.unit (s := S1x256x1024) ![0, 0, 0] S1x256x1024.size inb_S1x256x1024_S1x256x1024_0_0_0,
        k0_pay20 (k0_pay2 (View.readAt (Elt Ideal) arg2.view (Rect.unit (s := S1x256x1024) ![0, 0, 0] S1x256x1024.size inb_S1x256x1024_S1x256x1024_0_0_0).toLoadRect (harg2.unread x0)))
          (kernelRun0_A.sl.r_11 c i arg2 harg2 arg6 harg6 arg7 harg7 arg8 harg8 arg9 harg9 arg19 arg20 x0 x4 x5 x6 x7)
          (View.readAt (Elt Ideal) arg6.view (Rect.unit (s := S1024x7168) ![0, 5120] S1024x1024.size inb_S1024x7168_S1024x1024_0_5120).toLoadRect (harg6.unread x4))⟩] := by
  unfold kernelRun0_A; rfl

/-- The branch at an index, case A. -/
theorem out_A_15 (r : Fin 256) (j : Fin 1024) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r j)
    = Ideal.logistic (∑ f : Fin 1024, x0 (ix3 0 r f) * cols x4 5120 (ix2 f j))
      * branch (poolV (IntOp.addi (Scalar.muli (BitVec.ofNat 32 (i 1).val) 256#32) (BitVec.ofNat 32 r.val)) (rows (extA c arg2 harg2 arg6 harg6 arg19 x0 x4)) (32 + r.val)
          (fun f => ∑ x : Fin 1024, x0 (ix3 0 r x) * cols5 x4 0 (ix2 x f)) x5 (fun f => x6 (ix2 0 f)))
        (fun f => ∑ x : Fin 1024, x0 (ix3 0 r x) * cols5 x4 512 (ix2 x f)) (fun f => x7 (ix2 f j)) := by
  unfold out0_A_15
  rw [run_A_15, read_x, read_w _ _ _ 5120 (by decide)]
  refine (read_whole _ _ _ _).trans ((pay20_at _ _ _ r j).trans (congrArg₂ (fun a b : EReal => a * b) rfl ?_))
  exact r11_A c i arg2 harg2 arg6 harg6 arg7 harg7 arg8 harg8 arg9 harg9 arg19 arg20 x0 x4 x5 x6 x7 r j

/-- The carried scratch afterwards: the tile's last rows, case A. -/
theorem sout_A (p : Fin 32) (j : Fin 512) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix2 ⟨p.val, by omega⟩ j)
    = ∑ f : Fin 1024, x0 (ix3 0 ⟨224 + p.val, by omega⟩ f) * cols5 x4 0 (ix2 f j) := by
  unfold sout0_A_0
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.2.2.2.2.1 =
      ⟨Rect.unit (s := S288x512) ![0, 0] S32x512.size inb_S288x512_S32x512_0_0, kernelRun0_A.sl.r_6 (F := Ideal) c arg2 harg2 arg6 harg6 arg19 x0 x4⟩ :: kernelRun0_A.sl.HS0_2 (F := Ideal) c arg2 harg2 arg6 harg6 x0 x4 := by
    unfold kernelRun0_A; rfl
  rw [e]
  have hp := p.isLt
  refine (View.read_writes_cons_unit_of_mem (s := S288x512) (off' := ![0, 0]) (size := S32x512.size) _ _ inb_S288x512_S32x512_0_0 _ _ _ (ix2 p j : S32x512.Idx) rfl ?_).trans ?_
  · intro a
    match a with
    | ⟨0, _⟩ => exact (Nat.zero_add _).symm
    | ⟨1, _⟩ => exact (Nat.zero_add _).symm
  unfold kernelRun0_A.sl.r_6
  refine (pay14_at _ p j).trans ?_
  refine (at2 arg19.view _ _ rfl 256 inb_S288x512_S32x512_256_0 p j).trans ?_
  unfold kernelRun0_A.sl.HS0_2 rows
  rw [read_x, read_w5 _ _ _ 0 (by decide)]
  refine (View.read_writes_cons_unit_of_mem (s := S288x512) (off' := ![32, 0]) (size := S256x512.size) arg19.view _ inb_S288x512_S256x512_32_0 _ _ _ (ix2 ⟨224 + p.val, by omega⟩ j : S256x512.Idx) rfl ?_).trans (pay5_at _ _ _ j)
  intro a
  match a with
  | ⟨0, _⟩ => show (256 + p.val) % 288 = 32 + (224 + p.val); omega
  | ⟨1, _⟩ => exact (Nat.zero_add _).symm

end

/-- The carried scratch after the tile's rows are stored, case B. -/
def extB (c : Dev nD) (arg2 : Memref sig .tc .vmem S1x256x1024 .f32) (harg2 : arg2.IsWhole) (arg6 : Memref sig .tc .vmem S1024x7168 .bf16) (harg6 : arg6.IsWhole) (arg19 : Memref sig .tc .vmem S288x512 .f32) (harg19 : arg19.IsWhole) (x0 : Vec Ideal S1x256x1024 .f32) (x4 : Vec Ideal S1024x7168 .bf16) (xs0 : Vec Ideal S288x512 .f32) : Vec Ideal S288x512 .f32 :=
  arg19.view.read (Elt Ideal) (arg19.view.writes (Elt Ideal) (harg19.unread xs0) (kernelRun0_B.sl.HS0_1 (F := Ideal) c arg2 harg2 arg6 harg6 x0 x4))

theorem p6_B : ∃ p, kernelRun0_B.sl.HS1_1 (F := Ideal) c arg2 harg2 arg6 harg6 arg19 harg19 x0 x4 xs0 = l1 p ∧ ∀ (r : Fin 280) (j : Fin 512), p (ix3 0 r j) = a2 (rows (extB c arg2 harg2 arg6 harg6 arg19 harg19 x0 x4 xs0)) (8 + r.val) j := by
  refine ⟨_, rfl, fun r j => (pay6_at _ _ r j).trans (congrArg₂ (fun a b : EReal => a + b) (at2 arg19.view _ _ rfl 8 _ r j) ((at2 arg19.view _ _ rfl 7 _ r j).trans ?_))⟩
  show _ = rows (extB c arg2 harg2 arg6 harg6 arg19 harg19 x0 x4 xs0) (8 + r.val - 1) j
  rw [show 8 + r.val - 1 = 7 + r.val by omega]
  rfl

theorem p7_B : ∃ p q, kernelRun0_B.sl.HS1_2 (F := Ideal) c arg2 harg2 arg6 harg6 arg19 harg19 arg20 x0 x4 xs0 = l2 p q ∧ kernelRun0_B.sl.HS1_1 (F := Ideal) c arg2 harg2 arg6 harg6 arg19 harg19 x0 x4 xs0 = l1 p ∧ (∀ (r : Fin 280) (j : Fin 512), p (ix3 0 r j) = a2 (rows (extB c arg2 harg2 arg6 harg6 arg19 harg19 x0 x4 xs0)) (8 + r.val) j)
    ∧ ∀ (r : Fin 272) (l : Fin 384), q (ix3 0 r l) = a4 (rows (extB c arg2 harg2 arg6 harg6 arg19 harg19 x0 x4 xs0)) (16 + r.val) ⟨128 + l.val, by omega⟩ := by
  obtain ⟨p, e, hp⟩ := p6_B c arg2 harg2 arg6 harg6 arg19 harg19 x0 x4 xs0
  refine ⟨p, k0_pay7 (kernelRun0_B.sl.v18 c arg2 harg2 arg6 harg6 arg19 harg19 arg20 x0 x4 xs0) (kernelRun0_B.sl.v20 c arg2 harg2 arg6 harg6 arg19 harg19 arg20 x0 x4 xs0), ?_, e, hp, fun r l => (pay7_at _ _ r l).trans (congrArg₂ (fun a b : EReal => a + b) ?_ ?_)⟩
  · show _ :: kernelRun0_B.sl.HS1_1 (F := Ideal) c arg2 harg2 arg6 harg6 arg19 harg19 x0 x4 xs0 = _
    rw [e]; rfl
  · refine (at3 arg20.view _ 0 16 128 _ r l (ix3 0 ⟨16 + r.val, by omega⟩ ⟨128 + l.val, by omega⟩) rfl rfl rfl).trans ?_
    rw [e]
    exact w1 arg20.view _ _ p hp _ _ (by show 8 ≤ 16 + r.val; omega)
  · refine (at3 arg20.view _ 0 14 128 _ r l (ix3 0 ⟨14 + r.val, by omega⟩ ⟨128 + l.val, by omega⟩) rfl rfl rfl).trans ?_
    rw [e]
    refine (w1 arg20.view _ _ p hp _ _ (by show 8 ≤ 14 + r.val; omega)).trans ?_
    show a2 _ (14 + r.val) _ = a2 _ (16 + r.val - 2) _
    rw [show 16 + r.val - 2 = 14 + r.val by omega]

theorem p8_B : ∃ p q s, kernelRun0_B.sl.HS1_3 (F := Ideal) c arg2 harg2 arg6 harg6 arg19 harg19 arg20 x0 x4 xs0 = l3 p q s ∧ (∀ (r : Fin 280) (j : Fin 512), p (ix3 0 r j) = a2 (rows (extB c arg2 harg2 arg6 harg6 arg19 harg19 x0 x4 xs0)) (8 + r.val) j)
    ∧ (∀ (r : Fin 272) (l : Fin 384), q (ix3 0 r l) = a4 (rows (extB c arg2 harg2 arg6 harg6 arg19 harg19 x0 x4 xs0)) (16 + r.val) ⟨128 + l.val, by omega⟩)
    ∧ ∀ (r : Fin 264) (l : Fin 256), s (ix3 0 r l) = a8 (rows (extB c arg2 harg2 arg6 harg6 arg19 harg19 x0 x4 xs0)) (24 + r.val) ⟨256 + l.val, by omega⟩ := by
  obtain ⟨p, q, e, -, hp, hq⟩ := p7_B c arg2 harg2 arg6 harg6 arg19 harg19 arg20 x0 x4 xs0
  refine ⟨p, q, k0_pay8 (kernelRun0_B.sl.v26 c arg2 harg2 arg6 harg6 arg19 harg19 arg20 x0 x4 xs0) (kernelRun0_B.sl.v28 c arg2 harg2 arg6 harg6 arg19 harg19 arg20 x0 x4 xs0), ?_, hp, hq, fun r l => (pay8_at _ _ r l).trans (congrArg₂ (fun a b : EReal => a + b) ?_ ?_)⟩
  · show _ :: kernelRun0_B.sl.HS1_2 (F := Ideal) c arg2 harg2 arg6 harg6 arg19 harg19 arg20 x0 x4 xs0 = _
    rw [e]; rfl
  · refine (at3 arg20.view _ 1 24 256 _ r l (ix3 1 ⟨24 + r.val, by omega⟩ ⟨256 + l.val, by omega⟩) rfl rfl rfl).trans ?_
    rw [e]
    exact w2 arg20.view _ _ p q hq _ _ (by show 16 ≤ 24 + r.val; omega) (by show 128 ≤ 256 + l.val; omega)
  · refine (at3 arg20.view _ 1 20 256 _ r l (ix3 1 ⟨20 + r.val, by omega⟩ ⟨256 + l.val, by omega⟩) rfl rfl rfl).trans ?_
    rw [e]
    refine (w2 arg20.view _ _ p q hq _ _ (by show 16 ≤ 20 + r.val; omega) (by show 128 ≤ 256 + l.val; omega)).trans ?_
    show a4 _ (20 + r.val) _ = a4 _ (24 + r.val - 4) _
    rw [show 24 + r.val - 4 = 20 + r.val by omega]

theorem s40_B (r : Fin 256) (l : Fin 128) : kernelRun0_B.sl.r_3 (F := Ideal) c arg2 harg2 arg6 harg6 arg19 harg19 arg20 x0 x4 xs0 (ix2 r l) = a2 (rows (extB c arg2 harg2 arg6 harg6 arg19 harg19 x0 x4 xs0)) (32 + r.val) ⟨l.val, by omega⟩ := by
  obtain ⟨p, q, s, e, hp, hq, hs⟩ := p8_B c arg2 harg2 arg6 harg6 arg19 harg19 arg20 x0 x4 xs0
  refine (pay10_at _ r l).trans ?_
  refine (at3 arg20.view _ 0 32 0 _ r l (ix3 0 ⟨32 + r.val, by omega⟩ ⟨l.val, by omega⟩) rfl rfl (Nat.zero_add _).symm).trans ?_
  rw [e]
  refine (miss3 arg20.view _ 2 24 256 _ s _ _ Nat.zero_lt_two).trans ((miss3 arg20.view _ 1 16 128 _ q _ _ Nat.zero_lt_one).trans ?_)
  exact w1 arg20.view _ _ p hp _ _ (by show 8 ≤ 32 + r.val; omega)

theorem s42_B (r : Fin 256) (l : Fin 128) : kernelRun0_B.sl.r_4 (F := Ideal) c arg2 harg2 arg6 harg6 arg19 harg19 arg20 x0 x4 xs0 (ix2 r l) = a4 (rows (extB c arg2 harg2 arg6 harg6 arg19 harg19 x0 x4 xs0)) (32 + r.val) ⟨128 + l.val, by omega⟩ := by
  obtain ⟨p, q, s, e, hp, hq, hs⟩ := p8_B c arg2 harg2 arg6 harg6 arg19 harg19 arg20 x0 x4 xs0
  refine (pay11_at _ r l).trans ?_
  refine (at3 arg20.view _ 1 32 128 _ r l (ix3 1 ⟨32 + r.val, by omega⟩ ⟨128 + l.val, by omega⟩) rfl rfl rfl).trans ?_
  rw [e]
  refine (miss3 arg20.view _ 2 24 256 _ s _ _ Nat.one_lt_two).trans ?_
  exact w2 arg20.view _ _ p q hq _ _ (by show 16 ≤ 32 + r.val; omega) (by show 128 ≤ 128 + l.val; omega)

theorem s44_B (r : Fin 256) (l : Fin 128) : kernelRun0_B.sl.r_5 (F := Ideal) c arg2 harg2 arg6 harg6 arg19 harg19 arg20 x0 x4 xs0 (ix2 r l) = a8 (rows (extB c arg2 harg2 arg6 harg6 arg19 harg19 x0 x4 xs0)) (32 + r.val) ⟨256 + l.val, by omega⟩ := by
  obtain ⟨p, q, s, e, hp, hq, hs⟩ := p8_B c arg2 harg2 arg6 harg6 arg19 harg19 arg20 x0 x4 xs0
  refine (pay12_at _ r l).trans ?_
  refine (at3 arg20.view _ 2 32 256 _ r l (ix3 2 ⟨32 + r.val, by omega⟩ ⟨256 + l.val, by omega⟩) rfl rfl rfl).trans ?_
  rw [e]
  exact w3 arg20.view _ _ p q s hs _ _ (by show 24 ≤ 32 + r.val; omega) (by show 256 ≤ 256 + l.val; omega)

theorem s38_B (r : Fin 256) (l : Fin 128) : kernelRun0_B.sl.r_2 (F := Ideal) c arg2 harg2 arg6 harg6 arg19 harg19 arg20 x0 x4 xs0 (ix2 r l) = a16 (rows (extB c arg2 harg2 arg6 harg6 arg19 harg19 x0 x4 xs0)) (32 + r.val) ⟨384 + l.val, by omega⟩ := by
  obtain ⟨p, q, s, e, hp, hq, hs⟩ := p8_B c arg2 harg2 arg6 harg6 arg19 harg19 arg20 x0 x4 xs0
  refine (pay9_at _ _ r l).trans (congrArg₂ (fun a b : EReal => a + b) ?_ ?_)
  · refine (at3 arg20.view _ 2 32 384 _ r l (ix3 2 ⟨32 + r.val, by omega⟩ ⟨384 + l.val, by omega⟩) rfl rfl rfl).trans ?_
    rw [e]
    exact w3 arg20.view _ _ p q s hs _ _ (by show 24 ≤ 32 + r.val; omega) (by show 256 ≤ 384 + l.val; omega)
  · refine (at3 arg20.view _ 2 24 384 _ r l (ix3 2 ⟨24 + r.val, by omega⟩ ⟨384 + l.val, by omega⟩) rfl rfl rfl).trans ?_
    rw [e]
    refine (w3 arg20.view _ _ p q s hs _ _ (by show 24 ≤ 24 + r.val; omega) (by show 256 ≤ 384 + l.val; omega)).trans ?_
    show a8 _ (24 + r.val) _ = a8 _ (32 + r.val - 8) _
    rw [show 32 + r.val - 8 = 24 + r.val by omega]

/-- A stored row of the tile, case B. -/
theorem new_B (r : Fin 256) (j : Fin 512) : rows (extB c arg2 harg2 arg6 harg6 arg19 harg19 x0 x4 xs0) (32 + r.val) j = ∑ f : Fin 1024, x0 (ix3 0 r f) * cols5 x4 0 (ix2 f j) := by
  unfold extB kernelRun0_B.sl.HS0_1 rows
  rw [read_x, read_w5 _ _ _ 0 (by decide)]
  refine (View.read_writes_cons_unit_of_mem (s := S288x512) (off' := ![32, 0]) (size := S256x512.size) arg19.view _ inb_S288x512_S256x512_32_0 _ _ _ (ix2 r j : S256x512.Idx) rfl ?_).trans (pay5_at _ _ r j)
  have hr := r.isLt
  intro a
  match a with
  | ⟨0, _⟩ => exact Nat.mod_eq_of_lt (show 32 + r.val < 288 by omega)
  | ⟨1, _⟩ => exact (Nat.zero_add _).symm

/-- A carried row, case B. -/
theorem old_B (p : Fin 32) (j : Fin 512) : rows (extB c arg2 harg2 arg6 harg6 arg19 harg19 x0 x4 xs0) p.val j = xs0 (ix2 ⟨p.val, by omega⟩ j) := by
  unfold extB kernelRun0_B.sl.HS0_1 rows
  have hp := p.isLt
  refine (View.read_writes_cons_unit_of_not_mem (s := S288x512) (off' := ![32, 0]) (size := S256x512.size) arg19.view _ inb_S288x512_S256x512_32_0 _ _ _ rfl 0 (Or.inl (show p.val % 288 < 32 by omega))).trans ?_
  show arg19.view.read (Elt Ideal) (harg19.unread xs0) _ = _
  rw [harg19.read_unread]
  exact congrArg (fun z : Fin 288 => xs0 (ix2 z j)) (Fin.ext (Nat.mod_eq_of_lt (show p.val < 288 by omega)))

section

variable (hc0 : ¬cond0_0 i)

/-- The branch before its gate at an index, case B. -/
theorem r11_B (r : Fin 256) (j : Fin 1024) : kernelRun0_B.sl.r_11 (F := Ideal) c i arg2 harg2 arg6 harg6 arg7 harg7 arg8 harg8 arg9 harg9 arg19 harg19 arg20 x0 x4 x5 x6 x7 xs0 (ix2 r j) =
      branch (poolV (IntOp.addi (Scalar.muli (BitVec.ofNat 32 (i 1).val) 256#32) (BitVec.ofNat 32 r.val)) (rows (extB c arg2 harg2 arg6 harg6 arg19 harg19 x0 x4 xs0)) (32 + r.val)
          (fun f => ∑ x : Fin 1024, x0 (ix3 0 r x) * cols5 x4 0 (ix2 x f)) x5 (fun f => x6 (ix2 0 f)))
        (fun f => ∑ x : Fin 1024, x0 (ix3 0 r x) * cols5 x4 512 (ix2 x f)) (fun f => x7 (ix2 f j)) := by
  exact pay19_of (BitVec.ofNat 32 (i 1).val) x0 _ (read_x arg2 harg2 x0 _) (cols5 x4 0) _ (read_w5 arg6 harg6 x4 0 (by decide) _) (kernelRun0_B.sl.r_2 (F := Ideal) c arg2 harg2 arg6 harg6 arg19 harg19 arg20 x0 x4 xs0) (kernelRun0_B.sl.r_3 (F := Ideal) c arg2 harg2 arg6 harg6 arg19 harg19 arg20 x0 x4 xs0) (kernelRun0_B.sl.r_4 (F := Ideal) c arg2 harg2 arg6 harg6 arg19 harg19 arg20 x0 x4 xs0) (kernelRun0_B.sl.r_5 (F := Ideal) c arg2 harg2 arg6 harg6 arg19 harg19 arg20 x0 x4 xs0)
    _ _ _ _ _ _ _ _ (cols5 x4 512) _ (read_w5 arg6 harg6 x4 512 (by decide) inb_S1024x7168_S1024x512_0_512) x7 _ (read_b arg9 harg9 x7 inb_S512x1024_S512x1024_0_0) (rows (extB c arg2 harg2 arg6 harg6 arg19 harg19 x0 x4 xs0)) x5 (fun f => x6 (ix2 0 f))
    (s40_B c arg2 harg2 arg6 harg6 arg19 harg19 arg20 x0 x4 xs0) (s42_B c arg2 harg2 arg6 harg6 arg19 harg19 arg20 x0 x4 xs0) (s44_B c arg2 harg2 arg6 harg6 arg19 harg19 arg20 x0 x4 xs0) (s38_B c arg2 harg2 arg6 harg6 arg19 harg19 arg20 x0 x4 xs0)
    (read_m arg7 harg7 x5 0 inb_S4x128x128_S1x128x128_0_0_0) (read_m arg7 harg7 x5 1 inb_S4x128x128_S1x128x128_1_0_0) (read_m arg7 harg7 x5 2 inb_S4x128x128_S1x128x128_2_0_0) (read_m arg7 harg7 x5 3 inb_S4x128x128_S1x128x128_3_0_0)
    (read_p arg8 harg8 x6 0 (by decide) inb_S1x512_S1x128_0_0) (read_p arg8 harg8 x6 128 (by decide) inb_S1x512_S1x128_0_128) (read_p arg8 harg8 x6 256 (by decide) inb_S1x512_S1x128_0_256) (read_p arg8 harg8 x6 384 (by decide) inb_S1x512_S1x128_0_384) r j

/-- The store of the branch, case B. -/
theorem run_B_15 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.2.2.2.1 =
      [⟨Rect.unit (s := S1x256x1024) ![0, 0, 0] S1x256x1024.size inb_S1x256x1024_S1x256x1024_0_0_0,
        k0_pay20 (k0_pay2 (View.readAt (Elt Ideal) arg2.view (Rect.unit (s := S1x256x1024) ![0, 0, 0] S1x256x1024.size inb_S1x256x1024_S1x256x1024_0_0_0).toLoadRect (harg2.unread x0)))
          (kernelRun0_B.sl.r_11 c i arg2 harg2 arg6 harg6 arg7 harg7 arg8 harg8 arg9 harg9 arg19 harg19 arg20 x0 x4 x5 x6 x7 xs0)
          (View.readAt (Elt Ideal) arg6.view (Rect.unit (s := S1024x7168) ![0, 5120] S1024x1024.size inb_S1024x7168_S1024x1024_0_5120).toLoadRect (harg6.unread x4))⟩] := by
  unfold kernelRun0_B; rfl

/-- The branch at an index, case B. -/
theorem out_B_15 (r : Fin 256) (j : Fin 1024) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r j)
    = Ideal.logistic (∑ f : Fin 1024, x0 (ix3 0 r f) * cols x4 5120 (ix2 f j))
      * branch (poolV (IntOp.addi (Scalar.muli (BitVec.ofNat 32 (i 1).val) 256#32) (BitVec.ofNat 32 r.val)) (rows (extB c arg2 harg2 arg6 harg6 arg19 harg19 x0 x4 xs0)) (32 + r.val)
          (fun f => ∑ x : Fin 1024, x0 (ix3 0 r x) * cols5 x4 0 (ix2 x f)) x5 (fun f => x6 (ix2 0 f)))
        (fun f => ∑ x : Fin 1024, x0 (ix3 0 r x) * cols5 x4 512 (ix2 x f)) (fun f => x7 (ix2 f j)) := by
  unfold out0_B_15
  rw [run_B_15, read_x, read_w _ _ _ 5120 (by decide)]
  refine (read_whole _ _ _ _).trans ((pay20_at _ _ _ r j).trans (congrArg₂ (fun a b : EReal => a * b) rfl ?_))
  exact r11_B c i arg2 harg2 arg6 harg6 arg7 harg7 arg8 harg8 arg9 harg9 arg19 harg19 arg20 x0 x4 x5 x6 x7 xs0 r j

/-- The carried scratch afterwards: the tile's last rows, case B. -/
theorem sout_B (p : Fin 32) (j : Fin 512) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix2 ⟨p.val, by omega⟩ j)
    = ∑ f : Fin 1024, x0 (ix3 0 ⟨224 + p.val, by omega⟩ f) * cols5 x4 0 (ix2 f j) := by
  unfold sout0_B_0
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0).2.2.2.2.2.2.2.2.2.1 =
      ⟨Rect.unit (s := S288x512) ![0, 0] S32x512.size inb_S288x512_S32x512_0_0, kernelRun0_B.sl.r_6 (F := Ideal) c arg2 harg2 arg6 harg6 arg19 x0 x4⟩ :: kernelRun0_B.sl.HS0_1 (F := Ideal) c arg2 harg2 arg6 harg6 x0 x4 := by
    unfold kernelRun0_B; rfl
  rw [e]
  have hp := p.isLt
  refine (View.read_writes_cons_unit_of_mem (s := S288x512) (off' := ![0, 0]) (size := S32x512.size) _ _ inb_S288x512_S32x512_0_0 _ _ _ (ix2 p j : S32x512.Idx) rfl ?_).trans ?_
  · intro a
    match a with
    | ⟨0, _⟩ => exact (Nat.zero_add _).symm
    | ⟨1, _⟩ => exact (Nat.zero_add _).symm
  unfold kernelRun0_B.sl.r_6
  refine (pay14_at _ p j).trans ?_
  refine (at2 arg19.view _ _ rfl 256 inb_S288x512_S32x512_256_0 p j).trans ?_
  unfold kernelRun0_B.sl.HS0_1 rows
  rw [read_x, read_w5 _ _ _ 0 (by decide)]
  refine (View.read_writes_cons_unit_of_mem (s := S288x512) (off' := ![32, 0]) (size := S256x512.size) arg19.view _ inb_S288x512_S256x512_32_0 _ _ _ (ix2 ⟨224 + p.val, by omega⟩ j : S256x512.Idx) rfl ?_).trans (pay5_at _ _ _ j)
  intro a
  match a with
  | ⟨0, _⟩ => show (256 + p.val) % 288 = 32 + (224 + p.val); omega
  | ⟨1, _⟩ => exact (Nat.zero_add _).symm

end

end Cert.Kernel4Ideal.Pool
-- ==== Proof.PoolArr.lean ====
/-
  The pooled branch's output array after the run.
-/
module

public import proofs.«01_k».proof.Proof.PoolRun
public import proofs.«01_k».proof.Proof.Gen.Kernel4Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Pool

open Idealize.ShloMosaic Cert.Kernel4Ideal.Pool

variable (x : (⟨3, ![2, 8192, 1024]⟩ : Shape).Idx → EReal) (w : (⟨2, ![1024, 7168]⟩ : Shape).Idx → EReal)

/-- The projection at a batch element, a position and column `o + j`. -/
def prj (o : ℕ) (b : Fin 2) (n : Fin 8192) (j : ℕ) : EReal := ∑ f : Fin 1024, x (ix3 b n f) * w (ix2 f ⟨(o + j) % 7168, Nat.mod_lt _ (by decide)⟩)

/-- The pool's input with thirty-two rows of zeros before it. -/
def hist (b : Fin 2) (p : ℕ) (j : Fin 512) : EReal := if p < 32 then 0 else prj x w 0 b ⟨(p - 32) % 8192, Nat.mod_lt _ (by decide)⟩ j.val

/-- The branch at a batch element, a position and a feature. -/
def mpAt (M : (⟨3, ![4, 128, 128]⟩ : Shape).Idx → EReal) (P : (⟨1, ![512]⟩ : Shape).Idx → EReal) (B : (⟨2, ![512, 1024]⟩ : Shape).Idx → EReal) (b : Fin 2) (n : Fin 8192) (j : Fin 1024) : EReal :=
  Ideal.logistic (prj x w 5120 b n j.val) * branch (poolV (BitVec.ofNat 32 n.val) (hist x w b) (n.val + 32) (fun f => prj x w 0 b n f.val) M (fun f => P (ix1 f)))
    (fun f => prj x w 512 b n f.val) (fun f => B (ix2 f j))

/-- The branch as an array. -/
def arrP (M : (⟨3, ![4, 128, 128]⟩ : Shape).Idx → EReal) (P : (⟨1, ![512]⟩ : Shape).Idx → EReal) (B : (⟨2, ![512, 1024]⟩ : Shape).Idx → EReal) : (⟨3, ![2, 8192, 1024]⟩ : Shape).Idx → EReal :=
  fun y => mpAt x w M P B (y 0) (y 1) (y 2)

/-- The sums at a row read the fifteen rows before it alone. -/
theorem poolV_congr (n n' : BitVec 32) (hn : n = n') (E H : ℕ → Fin 512 → EReal) (p q : ℕ) (hp : 15 ≤ p) (hq : 15 ≤ q) (h : ∀ (i : ℕ) (j : Fin 512), i ≤ 15 → E (p - i) j = H (q - i) j)
    (U U' : Fin 512 → EReal) (hU : ∀ f, U f = U' f) (M : (⟨3, ![4, 128, 128]⟩ : Shape).Idx → EReal) (P : Fin 512 → EReal) : poolV n E p U M P = poolV n' H q U' M P := by
  have k2 : ∀ (i : ℕ) (j : Fin 512), i ≤ 14 → a2 E (p - i) j = a2 H (q - i) j := fun i j hi => by
    unfold a2
    rw [h i j (by omega), Nat.sub_sub, Nat.sub_sub, h (i + 1) j (by omega)]
  have k4 : ∀ (i : ℕ) (j : Fin 512), i ≤ 12 → a4 E (p - i) j = a4 H (q - i) j := fun i j hi => by
    unfold a4
    rw [k2 i j (by omega), Nat.sub_sub, Nat.sub_sub, k2 (i + 2) j (by omega)]
  have k8 : ∀ (i : ℕ) (j : Fin 512), i ≤ 8 → a8 E (p - i) j = a8 H (q - i) j := fun i j hi => by
    unfold a8
    rw [k4 i j (by omega), Nat.sub_sub, Nat.sub_sub, k4 (i + 4) j (by omega)]
  have k16 : ∀ j : Fin 512, a16 E p j = a16 H q j := fun j => by
    have e0 := k8 0 j (by omega)
    rw [Nat.sub_zero, Nat.sub_zero] at e0
    unfold a16
    rw [e0, k8 8 j (by omega)]
  have z2 : a2 E p = a2 H q := funext fun j => by simpa using k2 0 j (by omega)
  have z4 : a4 E p = a4 H q := funext fun j => by simpa using k4 0 j (by omega)
  have z8 : a8 E p = a8 H q := funext fun j => by simpa using k8 0 j (by omega)
  have z16 : a16 E p = a16 H q := funext k16
  have eU : U = U' := funext hU
  subst hn eU
  funext f
  unfold poolV
  rw [z2, z4, z8, z16]

end Cert.Pool

namespace Cert.Kernel4Ideal.Pool

open Cert.Kernel4Ideal Cert.Kernel4Ideal.Gen Idealize.ShloMosaic Idealize.ShloMosaic.TcCoe Idealize.ShloMosaic.Tactic Idealize.SL.Sem
open Cert.Pool

variable (m : (ℓ : Loc nD τ sig) → Buf (Elt Ideal) ℓ) (c : Dev nD) (t : Fin cfg0.N)

theorem V_w (f : Fin 1024) (j : Fin 7168) : V m c main_v33 (ix2 f j) = m ((c : Thread nD τ).loc main_arg1) (ix2 f j) := by
  unfold V
  after_reads_at

theorem V_x : V m c main_arg0 = m ((c : Thread nD τ).loc main_arg0) := by
  unfold V
  funext y
  after_reads_at

theorem V_m (g : Fin 4) (i l : Fin 128) : V m c main_v34 (ix3 g i l) = m ((c : Thread nD τ).loc main_arg2) (ix3 g i l) := by
  unfold V
  after_reads_at

theorem V_p (f : Fin 512) : V m c main_v35 (ix2 0 f) = m ((c : Thread nD τ).loc main_arg3) (ix1 f) := by
  unfold V
  after_reads_at

theorem V_b (f : Fin 512) (j : Fin 1024) : V m c main_v36 (ix2 f j) = m ((c : Thread nD τ).loc main_arg4) (ix2 f j) := by
  unfold V
  after_reads_at

theorem idx0 : ∀ t : Fin cfg0.N, win0_0.index t = ![t.val / 32, t.val % 32, 0] :=
  (by decide +kernel : ∀ t : Fin grid0.N, win0_0.index t = ![t.val / 32, t.val % 32, 0])

theorem idx4 : ∀ t : Fin cfg0.N, win0_4.index t = ![0, 0] :=
  (by decide +kernel : ∀ t : Fin grid0.N, win0_4.index t = ![0, 0])

theorem idx5 : ∀ t : Fin cfg0.N, win0_5.index t = ![0, 0, 0] :=
  (by decide +kernel : ∀ t : Fin grid0.N, win0_5.index t = ![0, 0, 0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx15 : ∀ t : Fin cfg0.N, win0_15.index t = ![t.val / 32, t.val % 32, 0] :=
  (by decide +kernel : ∀ t : Fin grid0.N, win0_15.index t = ![t.val / 32, t.val % 32, 0])

/-- The batch element of a point. -/
def bOf (t : Fin cfg0.N) : Fin 2 := ⟨t.val / 32 % 2, Nat.mod_lt _ (by decide)⟩

theorem bOf_val (t : Fin cfg0.N) : (bOf t).val = t.val / 32 := by
  have h : t.val < 64 := t.isLt
  exact Nat.mod_eq_of_lt (by omega)

/-- The position of a point's row `r`. -/
def nOf (t : Fin cfg0.N) (r : Fin 256) : Fin 8192 := ⟨(256 * (t.val % 32) + r.val) % 8192, Nat.mod_lt _ (by decide)⟩

theorem nOf_val (t : Fin cfg0.N) (r : Fin 256) : (nOf t r).val = 256 * (t.val % 32) + r.val :=
  Nat.mod_eq_of_lt (by omega)

theorem blk_x (r : Fin 256) (f : Fin 1024) : iblk m c 0 t (ix3 0 r f) = V m c main_arg0 (ix3 (bOf t) (nOf t r) f) := by
  have h1 := nOf_val t r
  have h2 := bOf_val t
  have h3 := idx0 t
  blk_ext [iblk, h3, h1, h2]

theorem blk_w (f : Fin 1024) (j : Fin 7168) : iblk m c 4 t (ix2 f j) = V m c main_v33 (ix2 f j) := by
  have h3 := idx4 t
  blk_ext [iblk, h3]

theorem blk_m : iblk m c 5 t = m ((c : Thread nD τ).loc main_arg2) := by
  have h3 := idx5 t
  funext y
  obtain ⟨g, i, l, rfl⟩ : ∃ (g : Fin 4) (i l : Fin 128), y = ix3 g i l := ⟨y 0, y 1, y 2, by funext a; match a with | ⟨0, _⟩ => rfl | ⟨1, _⟩ => rfl | ⟨2, _⟩ => rfl⟩
  refine Eq.trans ?_ (V_m m c g i l)
  blk_ext [iblk, h3]

theorem blk_p (f : Fin 512) : iblk m c 6 t (ix2 0 f) = m ((c : Thread nD τ).loc main_arg3) (ix1 f) := by
  have h3 := idx6 t
  refine Eq.trans ?_ (V_p m c f)
  blk_ext [iblk, h3]

theorem blk_b (f : Fin 512) (j : Fin 1024) : iblk m c 7 t (ix2 f j) = m ((c : Thread nD τ).loc main_arg4) (ix2 f j) := by
  have h3 := idx7 t
  refine Eq.trans ?_ (V_b m c f j)
  blk_ext [iblk, h3]

theorem blk_x' (r : Fin 256) (f : Fin 1024) : iblk m c 0 t (ix3 0 r f) = m ((c : Thread nD τ).loc main_arg0) (ix3 (bOf t) (nOf t r) f) := (blk_x m c t r f).trans (congrFun (V_x m c) _)

theorem blk_w' (f : Fin 1024) (j : Fin 7168) : iblk m c 4 t (ix2 f j) = m ((c : Thread nD τ).loc main_arg1) (ix2 f j) := (blk_w m c t f j).trans (V_w m c f j)

section

variable (X : Vec Ideal S1x256x1024 .f32) (W : Vec Ideal S1024x7168 .bf16) (x : (⟨3, ![2, 8192, 1024]⟩ : Shape).Idx → EReal) (w : (⟨2, ![1024, 7168]⟩ : Shape).Idx → EReal)
variable (hX : ∀ (r : Fin 256) (f : Fin 1024), X (ix3 0 r f) = x (ix3 (bOf t) (nOf t r) f)) (hW : ∀ (f : Fin 1024) (j : Fin 7168), W (ix2 f j) = w (ix2 f j))

include hX hW

theorem prj_of (o : ℕ) (r : Fin 256) (j : Fin 1024) : ∑ f : Fin 1024, X (ix3 0 r f) * cols W o (ix2 f j) = prj x w o (bOf t) (nOf t r) j.val := by
  unfold prj
  refine Finset.sum_congr rfl fun f _ => ?_
  exact congrArg₂ (fun a b : EReal => a * b) (hX r f) (hW f ⟨(o + j.val) % 7168, Nat.mod_lt _ (by decide)⟩)

theorem prj_of5 (o : ℕ) (r : Fin 256) (j : Fin 512) : ∑ f : Fin 1024, X (ix3 0 r f) * cols5 W o (ix2 f j) = prj x w o (bOf t) (nOf t r) j.val := by
  unfold prj
  refine Finset.sum_congr rfl fun f _ => ?_
  exact congrArg₂ (fun a b : EReal => a * b) (hX r f) (hW f ⟨(o + j.val) % 7168, Nat.mod_lt _ (by decide)⟩)

end

theorem coord1 : ∀ t : Fin cfg0.N, (grid0.coords t 1).val = t.val % 32 :=
  (by decide +kernel : ∀ t : Fin grid0.N, (grid0.coords t 1).val = t.val % 32)

/-- A stored row of a point's tile, of the padded input. -/
theorem hist_new (x : (⟨3, ![2, 8192, 1024]⟩ : Shape).Idx → EReal) (w : (⟨2, ![1024, 7168]⟩ : Shape).Idx → EReal) (r : Fin 256) (j : Fin 512) : prj x w 0 (bOf t) (nOf t r) j.val = hist x w (bOf t) (256 * (t.val % 32) + (32 + r.val)) j := by
  unfold hist
  rw [if_neg (by omega)]
  refine congrArg (fun z => prj _ _ 0 (bOf t) z j.val) (Fin.ext ?_)
  have hr := r.isLt
  show (256 * (t.val % 32) + r.val) % 8192 = (256 * (t.val % 32) + (32 + r.val) - 32) % 8192
  rw [show 256 * (t.val % 32) + (32 + r.val) - 32 = 256 * (t.val % 32) + r.val by omega]

/-- What a point leaves in the carried scratch's first rows. -/
theorem left_at (p : Fin 32) (j : Fin 512) : (outsAt0 m c t.val t.isLt).2.2.2.2.2.2.2.2.2 (ix2 ⟨p.val, by omega⟩ j)
    = prj (m ((c : Thread nD τ).loc main_arg0)) (m ((c : Thread nD τ).loc main_arg1)) 0 (bOf t) (nOf t ⟨224 + p.val, by omega⟩) j.val := by
  by_cases h0 : t.val % 32 = 0
  · have e := congrFun (congrArg (fun z => z.2.2.2.2.2.2.2.2.2) (outsAt0_A m c t h0)) (ix2 ⟨p.val, by omega⟩ j)
    have e' := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) p j
    dsimp only at e
    rw [e, e']
    exact prj_of5 t (iblk m c 0 t) (iblk m c 4 t) _ _ (blk_x' m c t) (blk_w' m c t) 0 _ j
  · have e := congrFun (congrArg (fun z => z.2.2.2.2.2.2.2.2.2) (outsAt0_B m c t h0)) (ix2 ⟨p.val, by omega⟩ j)
    have e' := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) p j
    dsimp only at e
    rw [e, e']
    exact prj_of5 t (iblk m c 0 t) (iblk m c 4 t) _ _ (blk_x' m c t) (blk_w' m c t) 0 _ j

/-- The branch of a point from its rows. -/
theorem fin_of (X : Vec Ideal S1x256x1024 .f32) (W : Vec Ideal S1024x7168 .bf16) (x5 : Vec Ideal S4x128x128 .bf16) (x6 : Vec Ideal S1x512 .f32) (x7 : Vec Ideal S512x1024 .bf16)
    (x : (⟨3, ![2, 8192, 1024]⟩ : Shape).Idx → EReal) (w : (⟨2, ![1024, 7168]⟩ : Shape).Idx → EReal) (M : (⟨3, ![4, 128, 128]⟩ : Shape).Idx → EReal) (P : (⟨1, ![512]⟩ : Shape).Idx → EReal) (B : (⟨2, ![512, 1024]⟩ : Shape).Idx → EReal)
    (hX : ∀ (r : Fin 256) (f : Fin 1024), X (ix3 0 r f) = x (ix3 (bOf t) (nOf t r) f)) (hW : ∀ (f : Fin 1024) (j : Fin 7168), W (ix2 f j) = w (ix2 f j))
    (h5 : x5 = M) (h6 : ∀ f : Fin 512, x6 (ix2 0 f) = P (ix1 f)) (h7 : ∀ (f : Fin 512) (j : Fin 1024), x7 (ix2 f j) = B (ix2 f j))
    (E : ℕ → Fin 512 → EReal) (hE : ∀ (p : ℕ) (k : Fin 512), 17 ≤ p → p < 288 → E p k = hist x w (bOf t) (256 * (t.val % 32) + p) k) (r : Fin 256) (j : Fin 1024) :
    Ideal.logistic (∑ f : Fin 1024, X (ix3 0 r f) * cols W 5120 (ix2 f j))
      * branch (poolV (IntOp.addi (Scalar.muli (BitVec.ofNat 32 (grid0.coords t 1).val) 256#32) (BitVec.ofNat 32 r.val)) E (32 + r.val)
          (fun f => ∑ x : Fin 1024, X (ix3 0 r x) * cols5 W 0 (ix2 x f)) x5 (fun f => x6 (ix2 0 f)))
        (fun f => ∑ x : Fin 1024, X (ix3 0 r x) * cols5 W 512 (ix2 x f)) (fun f => x7 (ix2 f j))
    = mpAt x w M P B (bOf t) (nOf t r) j := by
  have hn := nOf_val t r
  have hr := r.isLt
  have eN : IntOp.addi (Scalar.muli (BitVec.ofNat 32 (grid0.coords t 1).val) 256#32) (BitVec.ofNat 32 r.val) = BitVec.ofNat 32 (nOf t r).val := by
    rw [coord1, hn]
    show BitVec.ofNat 32 (t.val % 32) * BitVec.ofNat 32 256 + BitVec.ofNat 32 r.val = _
    rw [← BitVec.ofNat_mul, ← BitVec.ofNat_add, Nat.mul_comm]
  have eV := poolV_congr _ _ eN E (hist x w (bOf t)) (32 + r.val) ((nOf t r).val + 32) (by omega) (by omega)
    (fun i k hi => by
      rw [hE _ k (by omega) (by omega), hn]
      exact congrArg (fun z => hist x w (bOf t) z k) (by omega))
    (fun f => ∑ x : Fin 1024, X (ix3 0 r x) * cols5 W 0 (ix2 x f)) (fun f : Fin 512 => prj x w 0 (bOf t) (nOf t r) f.val) (fun f => prj_of5 t X W x w hX hW 0 r f)
    M (fun f => P (ix1 f))
  subst h5
  unfold mpAt
  refine congrArg₂ (fun a b : EReal => a * b) (congrArg Ideal.logistic (prj_of t X W x w hX hW 5120 r j)) ?_
  rw [show (fun f : Fin 512 => x6 (ix2 0 f)) = fun f => P (ix1 f) from funext h6, show (fun f : Fin 512 => x7 (ix2 f j)) = fun f => B (ix2 f j) from funext fun f => h7 f j, eV]
  exact congrArg (fun z => branch _ z _) (funext fun f => prj_of5 t X W x w hX hW 512 r f)

theorem after_15 (r : Fin 256) (j : Fin 1024) : (outsAt0 m c t.val t.isLt).2.2.2.2.2.2.2.1 (ix3 0 r j)
    = mpAt (m ((c : Thread nD τ).loc main_arg0)) (m ((c : Thread nD τ).loc main_arg1)) (m ((c : Thread nD τ).loc main_arg2)) (m ((c : Thread nD τ).loc main_arg3)) (m ((c : Thread nD τ).loc main_arg4)) (bOf t) (nOf t r) j := by
  by_cases h0 : t.val % 32 = 0
  · have e := congrFun (congrArg (fun z => z.2.2.2.2.2.2.2.1) (outsAt0_A m c t h0)) (ix3 0 r j)
    have e' := out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r j
    dsimp only at e
    rw [e, e']
    refine fin_of t (iblk m c 0 t) (iblk m c 4 t) (iblk m c 5 t) (iblk m c 6 t) (iblk m c 7 t) _ _ _ _ _ (blk_x' m c t) (blk_w' m c t) (blk_m m c t) (blk_p m c t) (blk_b m c t) _ (fun p k h1 h2 => ?_) r j
    by_cases hp : p < 32
    · have ho := old_A c (ms0_0 t) (hs0_0 t) (ms0_4 t) (hs0_4 t) scM0_0 (iblk m c 0 t) (iblk m c 4 t) ⟨p, hp⟩ k
      refine ho.trans ?_
      unfold hist
      rw [if_pos (by omega)]
    · have ho := new_A c (ms0_0 t) (hs0_0 t) (ms0_4 t) (hs0_4 t) scM0_0 (iblk m c 0 t) (iblk m c 4 t) ⟨p - 32, by omega⟩ k
      dsimp only at ho
      rw [show 32 + (p - 32) = p by omega] at ho
      refine ho.trans ((prj_of5 t (iblk m c 0 t) (iblk m c 4 t) _ _ (blk_x' m c t) (blk_w' m c t) 0 _ k).trans ((hist_new t _ _ _ k).trans ?_))
      exact congrArg (fun z => hist _ _ (bOf t) z k) (by show 256 * (t.val % 32) + (32 + (p - 32)) = _; omega)
  · have e := congrFun (congrArg (fun z => z.2.2.2.2.2.2.2.1) (outsAt0_B m c t h0)) (ix3 0 r j)
    have e' := out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2.2 (fun h => h0 ((hcond0_0 t).mp h)) r j
    dsimp only at e
    rw [e, e']
    refine fin_of t (iblk m c 0 t) (iblk m c 4 t) (iblk m c 5 t) (iblk m c 6 t) (iblk m c 7 t) _ _ _ _ _ (blk_x' m c t) (blk_w' m c t) (blk_m m c t) (blk_p m c t) (blk_b m c t) _ (fun p k h1 h2 => ?_) r j
    by_cases hp : p < 32
    · have ho := old_B c (ms0_0 t) (hs0_0 t) (ms0_4 t) (hs0_4 t) scM0_0 (Memref.isWhole_whole _) (iblk m c 0 t) (iblk m c 4 t) (outsAt0 m c (t.val - 1) (Nat.lt_of_le_of_lt (Nat.sub_le _ _) t.isLt)).2.2.2.2.2.2.2.2.2 ⟨p, hp⟩ k
      have ht : t.val < 64 := t.isLt
      refine ho.trans ((left_at m c ⟨t.val - 1, Nat.lt_of_le_of_lt (Nat.sub_le _ _) t.isLt⟩ ⟨p, hp⟩ k).trans ((hist_new _ _ _ _ k).trans ?_))
      have eb : bOf ⟨t.val - 1, Nat.lt_of_le_of_lt (Nat.sub_le _ _) t.isLt⟩ = bOf t := Fin.ext (by show (t.val - 1) / 32 % 2 = t.val / 32 % 2; omega)
      rw [eb]
      exact congrArg (fun z => hist _ _ (bOf t) z k) (by show 256 * ((t.val - 1) % 32) + (32 + (224 + p)) = _; omega)
    · have ho := new_B c (ms0_0 t) (hs0_0 t) (ms0_4 t) (hs0_4 t) scM0_0 (Memref.isWhole_whole _) (iblk m c 0 t) (iblk m c 4 t) (outsAt0 m c (t.val - 1) (Nat.lt_of_le_of_lt (Nat.sub_le _ _) t.isLt)).2.2.2.2.2.2.2.2.2 ⟨p - 32, by omega⟩ k
      dsimp only at ho
      rw [show 32 + (p - 32) = p by omega] at ho
      refine ho.trans ((prj_of5 t (iblk m c 0 t) (iblk m c 4 t) _ _ (blk_x' m c t) (blk_w' m c t) 0 _ k).trans ((hist_new t _ _ _ k).trans ?_))
      exact congrArg (fun z => hist _ _ (bOf t) z k) (by show 256 * (t.val % 32) + (32 + (p - 32)) = _; omega)

/-- Window 15's array after the run. -/
theorem arr_15 : (dats m 0 c).arrAt 15 cfg0.N = arrP (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  have hi := idx15 t
  have ht : t.val < 64 := t.isLt
  have hb := bOf_val t
  blk_simp
  rw [after0_15]
  obtain ⟨r, l, rfl⟩ : ∃ (r : Fin 256) (j : Fin 1024), y = ix3 0 r j :=
    ⟨y 1, y 2, by funext a; match a with | ⟨0, _⟩ => exact Subsingleton.elim (α := Fin 1) _ _ | ⟨1, _⟩ => rfl | ⟨2, _⟩ => rfl⟩
  have hn := nOf_val t r
  rw [after_15]
  unfold arrP
  congr 1
  · apply Fin.ext; blk_simp [hi]; (try simp); omega
  · apply Fin.ext; blk_simp [hi]; (try simp); omega
  · apply Fin.ext; blk_simp [hi]

end Cert.Kernel4Ideal.Pool
-- ==== Proof.Cum.lean ====
/-
  A running sum along the middle axis, as a sum of the rows before, and differences of two of them.
-/
module

public import proofs.«01_k».proof.Proof.PoolTile
public import Idealize.ShloMosaic.Lib.Pointwise

@[expose] public section

set_option maxRecDepth 16384

noncomputable section

namespace Cert.Pool

open Idealize.ShloMosaic Cert.Kernel4Ideal.Pool

theorem foldl_add {ι : Type} (f : EReal → ι → EReal) (g : ι → EReal) (hf : ∀ v n, f v n = v + g n) (l : List ι) (v : EReal) : l.foldl f v = v + (l.map g).sum := by
  induction l generalizing v with
  | nil => simp
  | cons n l ih => rw [List.foldl_cons, ih, hf, List.map_cons, List.sum_cons, add_assoc]

theorem window_sum (X : ℕ → EReal) (M j : ℕ) (hj : j ≤ M) : ∑ n ∈ Finset.range (M + 1), (if M ≤ j + n then X (j + n - M) else 0) = ∑ i ∈ Finset.range (j + 1), X i := by
  obtain ⟨d, rfl⟩ := Nat.exists_eq_add_of_le' hj
  rw [show d + j + 1 = d + (j + 1) by omega, Finset.sum_range_add, Finset.sum_eq_zero, zero_add]
  · refine Finset.sum_congr rfl fun i _ => ?_
    rw [if_pos (by omega), show j + (d + i) - (d + j) = i by omega]
  · intro i hi
    have := Finset.mem_range.mp hi
    rw [if_neg (by omega)]

theorem numel_mid (R : ℕ) : (⟨3, ![1, R, 1]⟩ : Shape).numel = R := by
  simp [Shape.numel, Fin.prod_univ_three]

/-- The running sum. -/
theorem cum3 {A R M C : ℕ} (hR : M + 1 = R) (x : (⟨3, ![A, R, C]⟩ : Shape).Idx → EReal) (X : ℕ → EReal) (a : Fin A) (c : Fin C) (hx : ∀ i : Fin R, x (ix3 a i c) = X i.val)
    (u : Shape) (init : u.Idx → EReal) (hu : 0 < u.numel) (hinit : init (Shape.Idx.first hu) = 0)
    (h : (⟨3, ![A, R, C]⟩ : Shape).ReduceWindows (![1, R, 1] : Fin 3 → ℕ) ![1, 1, 1] ![0, M, 0] ![0, 0, 0] (⟨3, ![A, R, C]⟩ : Shape)) (j : Fin R) :
    Host.reduceWindow (fun p q : EReal => p + q) ![1, R, 1] ![1, 1, 1] ![0, M, 0] ![0, 0, 0] x init h hu (ix3 a j c) = ∑ i ∈ Finset.range (j.val + 1), X i := by
  subst hR
  have hj := j.isLt
  have ha := a.isLt
  have hc := c.isLt
  unfold Host.reduceWindow
  refine (foldl_add _ (fun n => if M ≤ j.val + n.val then X (j.val + n.val - M) else 0) (fun v n => congrArg (fun z : EReal => v + z) ?_) _ _).trans ?_
  · have hn : n.val < M + 1 := lt_of_lt_of_eq n.isLt (numel_mid (M + 1))
    have hs : (⟨3, ![1, M + 1, 1]⟩ : Shape).rowMajor.symm n = ix3 (0 : Fin 1) ⟨n.val, hn⟩ (0 : Fin 1) :=
      ((⟨3, ![1, M + 1, 1]⟩ : Shape).rowMajor.symm_apply_eq).2 (Fin.ext (by
        rw [Shape.rowMajor_val_three]
        show n.val = (0 * (M + 1) + n.val) * 1 + 0
        omega))
    have hw0 : ((⟨3, ![1, M + 1, 1]⟩ : Shape).rowMajor.symm n 0).val = 0 := by rw [hs]; rfl
    have hw1 : ((⟨3, ![1, M + 1, 1]⟩ : Shape).rowMajor.symm n 1).val = n.val := by rw [hs]; rfl
    have hw2 : ((⟨3, ![1, M + 1, 1]⟩ : Shape).rowMajor.symm n 2).val = 0 := by rw [hs]; rfl
    dsimp only
    split
    · next hin =>
      have h0 := hin 1
      change M ≤ j.val * 1 + ((⟨3, ![1, M + 1, 1]⟩ : Shape).rowMajor.symm n 1).val
        ∧ j.val * 1 + ((⟨3, ![1, M + 1, 1]⟩ : Shape).rowMajor.symm n 1).val - M < M + 1 at h0
      rw [hw1] at h0
      rw [if_pos (by omega)]
      refine (congrArg x (funext fun b => Fin.ext ?_)).trans (hx ⟨j.val + n.val - M, by omega⟩)
      match b with
      | ⟨0, _⟩ =>
        show a.val * 1 + ((⟨3, ![1, M + 1, 1]⟩ : Shape).rowMajor.symm n 0).val - 0 = a.val
        rw [hw0]; omega
      | ⟨1, _⟩ =>
        show j.val * 1 + ((⟨3, ![1, M + 1, 1]⟩ : Shape).rowMajor.symm n 1).val - M = j.val + n.val - M
        rw [hw1, Nat.mul_one]
      | ⟨2, _⟩ =>
        show c.val * 1 + ((⟨3, ![1, M + 1, 1]⟩ : Shape).rowMajor.symm n 2).val - 0 = c.val
        rw [hw2]; omega
    · next hin =>
      rw [if_neg fun hle => hin fun b => by
        match b with
        | ⟨0, _⟩ =>
          show 0 ≤ a.val * 1 + ((⟨3, ![1, M + 1, 1]⟩ : Shape).rowMajor.symm n 0).val ∧ a.val * 1 + ((⟨3, ![1, M + 1, 1]⟩ : Shape).rowMajor.symm n 0).val - 0 < A
          rw [hw0]; omega
        | ⟨1, _⟩ =>
          show M ≤ j.val * 1 + ((⟨3, ![1, M + 1, 1]⟩ : Shape).rowMajor.symm n 1).val ∧ j.val * 1 + ((⟨3, ![1, M + 1, 1]⟩ : Shape).rowMajor.symm n 1).val - M < M + 1
          rw [hw1]; omega
        | ⟨2, _⟩ =>
          show 0 ≤ c.val * 1 + ((⟨3, ![1, M + 1, 1]⟩ : Shape).rowMajor.symm n 2).val ∧ c.val * 1 + ((⟨3, ![1, M + 1, 1]⟩ : Shape).rowMajor.symm n 2).val - 0 < C
          rw [hw2]; omega]
      exact hinit
  · have e : ∀ N : ℕ, N = M + 1 → ((List.finRange N).map fun n : Fin N => if M ≤ j.val + n.val then X (j.val + n.val - M) else 0).sum = ∑ i ∈ Finset.range (j.val + 1), X i := by
      intro N hN
      subst hN
      rw [← Fin.sum_univ_def, Fin.sum_univ_eq_sum_range (fun n => if M ≤ j.val + n then X (j.val + n - M) else 0), window_sum X M j.val (by omega)]
    refine (congrArg (fun z : EReal => init (Shape.Idx.first hu) + z) (e _ (numel_mid (M + 1)))).trans ?_
    show init _ + _ = _
    rw [hinit, zero_add]

/-- The host's running sum. -/
theorem cumAdd {A R M C : ℕ} (hR : M + 1 = R) (x : FVec Ideal (⟨3, ![A, R, C]⟩ : Shape) .f32) (X : ℕ → EReal) (a : Fin A) (c : Fin C) (hx : ∀ i : Fin R, x (ix3 a i c) = X i.val)
    (init : FVec Ideal (⟨0, ![]⟩ : Shape) .f32) (hu : 0 < (⟨0, ![]⟩ : Shape).numel) (hinit : init (Shape.Idx.first hu) = 0)
    (h : (⟨3, ![A, R, C]⟩ : Shape).ReduceWindows (![1, R, 1] : Fin 3 → ℕ) ![1, 1, 1] ![0, M, 0] ![0, 0, 0] (⟨3, ![A, R, C]⟩ : Shape)) (j : Fin R) :
    Host.reduceWindowAdd ![1, R, 1] ![1, 1, 1] ![0, M, 0] ![0, 0, 0] x init h hu (ix3 a j c) = ∑ i ∈ Finset.range (j.val + 1), X i :=
  cum3 hR x X a c hx (⟨0, ![]⟩ : Shape) (fun _ => init (Shape.Idx.first hu)) hu hinit h j

variable (E : ℕ → Fin 512 → EReal) (hE : ∀ p j, E p j = ((E p j).toReal : EReal)) (j : Fin 512)

/-- The sum of the rows before. -/
def pre (k : ℕ) : EReal := ∑ i ∈ Finset.range k, E (i + 17) j

def preR (k : ℕ) : ℝ := ∑ i ∈ Finset.range k, (E (i + 17) j).toReal

include hE

theorem pre_real (k : ℕ) : pre E j k = (preR E j k : EReal) := by
  unfold pre preR
  induction k with
  | zero => simp
  | succ k ih => rw [Finset.sum_range_succ, Finset.sum_range_succ, EReal.coe_add, ih, ← hE]

theorem two (k : ℕ) : a2 E (k + 18) j = ((preR E j (k + 2) - preR E j k : ℝ) : EReal) := by
  unfold a2
  rw [hE (k + 18) j, show k + 18 - 1 = k + 17 by omega, hE (k + 17) j, ← EReal.coe_add]
  refine congrArg _ ?_
  unfold preR
  rw [Finset.sum_range_succ, Finset.sum_range_succ, show k + 1 + 17 = k + 18 by omega]
  ring

theorem four (k : ℕ) : a4 E (k + 20) j = ((preR E j (k + 4) - preR E j k : ℝ) : EReal) := by
  unfold a4
  rw [show k + 20 - 2 = k + 18 by omega, show k + 20 = k + 2 + 18 by omega, two E hE j, two E hE j, ← EReal.coe_add, show k + 2 + 2 = k + 4 by omega]
  exact congrArg _ (by ring)

theorem eight (k : ℕ) : a8 E (k + 24) j = ((preR E j (k + 8) - preR E j k : ℝ) : EReal) := by
  unfold a8
  rw [show k + 24 - 4 = k + 20 by omega, show k + 24 = k + 4 + 20 by omega, four E hE j, four E hE j, ← EReal.coe_add, show k + 4 + 4 = k + 8 by omega]
  exact congrArg _ (by ring)

theorem sixteen (k : ℕ) : a16 E (k + 32) j = ((preR E j (k + 16) - preR E j k : ℝ) : EReal) := by
  unfold a16
  rw [show k + 32 - 8 = k + 24 by omega, show k + 32 = k + 8 + 24 by omega, eight E hE j, eight E hE j, ← EReal.coe_add, show k + 8 + 8 = k + 16 by omega]
  exact congrArg _ (by ring)

theorem diff (k k' : ℕ) : pre E j k - pre E j k' = ((preR E j k - preR E j k' : ℝ) : EReal) := by
  rw [pre_real E hE, pre_real E hE, EReal.coe_sub]

end Cert.Pool

end
-- ==== Proof.PoolPlain.lean ====
/-
  The pool reference, stage by stage, and each stage at an index.
-/
module

public import proofs.«01_k».proof.Proof.Gen.Reference4Ideal.Run
public import proofs.«01_k».proof.Proof.PoolArr
public import proofs.«01_k».proof.Proof.Cum

@[expose] public section

set_option maxRecDepth 16384

noncomputable section

namespace Cert.Reference4Ideal.Pool

open Cert.Reference4Ideal Cert.Reference4Ideal.Gen Idealize.ShloMosaic Idealize.ShloMosaic.TcCoe Idealize.ShloMosaic.Tactic Idealize.SL.Sem
open Cert.Kernel4Ideal.Pool (a2 a4 a8 a16 cnt mix poolV branch)
open Cert.Pool

/-- The projection. -/
def projR (x : FVec Ideal S2x8192x1024 .f32) (w : FVec Ideal S1024x7168 .f32) : FVec Ideal S2x8192x7168 .f32 := Host.dotGeneral dot_S2x8192x1024_S1024x7168_S2x8192x7168_2_0_01_1_n_n none x w

/-- The pool's input. -/
def inR (D : FVec Ideal S2x8192x7168 .f32) : FVec Ideal S2x8192x512 .f32 := extractStridedSlice S2x8192x512 ![0, 0, 0] D slices_S2x8192x7168_S2x8192x512_0_0_0

/-- The pool's input with fifteen rows of zeros before it. -/
def padR (u : FVec Ideal S2x8192x512 .f32) : FVec Ideal S2x8207x512 .f32 := (concatenate S2x8207x512 1 [⟨S2x15x512, (broadcastInDim S2x15x512 ![] bcast_S_S2x15x512 (constant S_ .f32 0x00000000#32))⟩, ⟨S2x8192x512, u⟩] concatenates_S2x15x512_S2x8192x512_S2x8207x512_d1)

/-- The running sums. -/
def sumsR (u : FVec Ideal S2x8192x512 .f32) : FVec Ideal S2x8208x512 .f32 := (concatenate S2x8208x512 1 [⟨S2x1x512, (broadcastInDim S2x1x512 ![] bcast_S_S2x1x512 (constant S_ .f32 0x00000000#32))⟩, ⟨S2x8207x512, (Host.reduceWindowAdd ![1, 8207, 1] ![1, 1, 1] ![0, 8206, 0] ![0, 0, 0] (padR u) (broadcastInDim S_ ![] bcast_S_S_ (constant S_ .f32 0x00000000#32)) reduceWindows_S2x8207x512_S2x8207x512_w1s1p0_0_w8207s1p8206_0_w1s1p0_0 h_S_)⟩] concatenates_S2x1x512_S2x8207x512_S2x8208x512_d1)

/-- The means over 2 positions. -/
def mean0R (CS : FVec Ideal S2x8208x512 .f32) : FVec Ideal S2x8192x128 .f32 := ((Host.divf (subf (extractStridedSlice S2x8192x128 ![0, 16, 0] CS slices_S2x8208x512_S2x8192x128_0_16_0) (extractStridedSlice S2x8192x128 ![0, 14, 0] CS slices_S2x8208x512_S2x8192x128_0_14_0)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) : (⟨S2x8192x128, .f32⟩ : BufTy).Contents (Elt Ideal))

/-- The means over 4 positions. -/
def mean1R (CS : FVec Ideal S2x8208x512 .f32) : FVec Ideal S2x8192x128 .f32 := ((Host.divf (subf (extractStridedSlice S2x8192x128 ![0, 16, 128] CS slices_S2x8208x512_S2x8192x128_0_16_128) (extractStridedSlice S2x8192x128 ![0, 12, 128] CS slices_S2x8208x512_S2x8192x128_0_12_128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) : (⟨S2x8192x128, .f32⟩ : BufTy).Contents (Elt Ideal))

/-- The means over 8 positions. -/
def mean2R (CS : FVec Ideal S2x8208x512 .f32) : FVec Ideal S2x8192x128 .f32 := ((Host.divf (subf (extractStridedSlice S2x8192x128 ![0, 16, 256] CS slices_S2x8208x512_S2x8192x128_0_16_256) (extractStridedSlice S2x8192x128 ![0, 8, 256] CS slices_S2x8208x512_S2x8192x128_0_8_256)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) : (⟨S2x8192x128, .f32⟩ : BufTy).Contents (Elt Ideal))

/-- The means over 16 positions. -/
def mean3R (CS : FVec Ideal S2x8208x512 .f32) : FVec Ideal S2x8192x128 .f32 := ((Host.divf (subf (extractStridedSlice S2x8192x128 ![0, 16, 384] CS slices_S2x8208x512_S2x8192x128_0_16_384) (extractStridedSlice S2x8192x128 ![0, 0, 384] CS slices_S2x8208x512_S2x8192x128_0_0_384)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) : (⟨S2x8192x128, .f32⟩ : BufTy).Contents (Elt Ideal))

/-- The means less the input. -/
def diffR (M0 M1 M2 M3 : FVec Ideal S2x8192x128 .f32) (U : FVec Ideal S2x8192x512 .f32) : FVec Ideal S2x8192x512 .f32 := (subf ((concatenate S2x8192x512 2 [⟨S2x8192x128, M0⟩, ⟨S2x8192x128, M1⟩, ⟨S2x8192x128, M2⟩, ⟨S2x8192x128, M3⟩] concatenates_S2x8192x128_S2x8192x128_S2x8192x128_S2x8192x128_S2x8192x512_d2 : (⟨S2x8192x512, .f32⟩ : BufTy).Contents (Elt Ideal))) U)

/-- The groups mixed. -/
def mixR (wm : FVec Ideal S4x128x128 .f32) (d : FVec Ideal S2x8192x512 .f32) : FVec Ideal S2x8192x512 .f32 := (shapeCast _ (transpose S2x8192x4x128 [2, 3, 0, 1] (Host.dotGeneral dot_S4x128x128_S2x8192x4x128_S4x128x2x8192_1_3_2_01_0_2 none wm (shapeCast _ d shapeCasts_S2x8192x512_S2x8192x4x128)) transposes_S4x128x2x8192_S2x8192x4x128_2_3_0_1) shapeCasts_S2x8192x4x128_S2x8192x512)

/-- The branch. -/
def outR (D : FVec Ideal S2x8192x7168 .f32) (MX : FVec Ideal S2x8192x512 .f32) (P : FVec Ideal S512 .f32) (B : FVec Ideal S512x1024 .f32) : FVec Ideal S2x8192x1024 .f32 :=
  mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 5120] D slices_S2x8192x7168_S2x8192x1024_0_0_5120))))) (Host.dotGeneral dot_S2x8192x512_S512x1024_S2x8192x1024_2_0_01_1_n_n none (mulf (mulf MX (broadcastInDim S2x8192x512 ![0, 1, 2] bcast_S1x1x512_S2x8192x512_0_1_2 (broadcastInDim S1x1x512 ![2] bcast_S512_S1x1x512_2 P))) (mulf (extractStridedSlice S2x8192x512 ![0, 0, 512] D slices_S2x8192x7168_S2x8192x512_0_0_512) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (extractStridedSlice S2x8192x512 ![0, 0, 512] D slices_S2x8192x7168_S2x8192x512_0_0_512))))))) B)

/-- The reference's result is its stages in turn. -/
theorem res_eq (m : (ℓ : Loc nD τ sig) → Buf (Elt Ideal) ℓ) (c : Dev nD) :
    Value.res_main_v77 m c = outR (projR (m ((c.tc : Thread nD τ).loc main_arg0)) (m ((c.tc : Thread nD τ).loc main_arg1))) (mixR (m ((c.tc : Thread nD τ).loc main_arg2)) (diffR (mean0R (sumsR (inR (projR (m ((c.tc : Thread nD τ).loc main_arg0)) (m ((c.tc : Thread nD τ).loc main_arg1)))))) (mean1R (sumsR (inR (projR (m ((c.tc : Thread nD τ).loc main_arg0)) (m ((c.tc : Thread nD τ).loc main_arg1)))))) (mean2R (sumsR (inR (projR (m ((c.tc : Thread nD τ).loc main_arg0)) (m ((c.tc : Thread nD τ).loc main_arg1)))))) (mean3R (sumsR (inR (projR (m ((c.tc : Thread nD τ).loc main_arg0)) (m ((c.tc : Thread nD τ).loc main_arg1)))))) (inR (projR (m ((c.tc : Thread nD τ).loc main_arg0)) (m ((c.tc : Thread nD τ).loc main_arg1)))))) (m ((c.tc : Thread nD τ).loc main_arg3)) (m ((c.tc : Thread nD τ).loc main_arg4)) := by
  unfold Value.res_main_v77 outR mixR diffR mean0R mean1R mean2R mean3R sumsR padR inR projR
  rfl

theorem inR_at (x : FVec Ideal S2x8192x1024 .f32) (w : FVec Ideal S1024x7168 .f32) (b : Fin 2) (n : Fin 8192) (j : Fin 512) : inR (projR x w) (ix3 b n j) = prj x w 0 b n j.val := by
  unfold prj
  pointwise [inR, projR]
  refine Finset.sum_congr rfl fun f _ => congrArg (fun z : Fin 7168 => x (ix3 b n f) * w (ix2 f z)) (Fin.ext ?_)
  have hj := j.isLt
  exact (Nat.mod_eq_of_lt (show j.val < 7168 by omega)).symm

theorem mean0R_at (S : FVec Ideal S2x8208x512 .f32) (b : Fin 2) (n : Fin 8192) (l : Fin 128) : mean0R S (ix3 b n l)
    = Ideal.div (S (ix3 b ⟨16 + n.val, by omega⟩ ⟨0 + l.val, by omega⟩) - S (ix3 b ⟨14 + n.val, by omega⟩ ⟨0 + l.val, by omega⟩)) (cnt (BitVec.ofNat 32 n.val) 2#32) := by
  pointwise [mean0R]
  rfl

theorem mean1R_at (S : FVec Ideal S2x8208x512 .f32) (b : Fin 2) (n : Fin 8192) (l : Fin 128) : mean1R S (ix3 b n l)
    = Ideal.div (S (ix3 b ⟨16 + n.val, by omega⟩ ⟨128 + l.val, by omega⟩) - S (ix3 b ⟨12 + n.val, by omega⟩ ⟨128 + l.val, by omega⟩)) (cnt (BitVec.ofNat 32 n.val) 4#32) := by
  pointwise [mean1R]
  rfl

theorem mean2R_at (S : FVec Ideal S2x8208x512 .f32) (b : Fin 2) (n : Fin 8192) (l : Fin 128) : mean2R S (ix3 b n l)
    = Ideal.div (S (ix3 b ⟨16 + n.val, by omega⟩ ⟨256 + l.val, by omega⟩) - S (ix3 b ⟨8 + n.val, by omega⟩ ⟨256 + l.val, by omega⟩)) (cnt (BitVec.ofNat 32 n.val) 8#32) := by
  pointwise [mean2R]
  rfl

theorem mean3R_at (S : FVec Ideal S2x8208x512 .f32) (b : Fin 2) (n : Fin 8192) (l : Fin 128) : mean3R S (ix3 b n l)
    = Ideal.div (S (ix3 b ⟨16 + n.val, by omega⟩ ⟨384 + l.val, by omega⟩) - S (ix3 b ⟨0 + n.val, by omega⟩ ⟨384 + l.val, by omega⟩)) (cnt (BitVec.ofNat 32 n.val) 16#32) := by
  pointwise [mean3R]
  rfl

theorem diffR_at (M0 M1 M2 M3 : FVec Ideal S2x8192x128 .f32) (U : FVec Ideal S2x8192x512 .f32) (b : Fin 2) (n : Fin 8192) (f : Fin 512) : diffR M0 M1 M2 M3 U (ix3 b n f)
    = (if h : f.val < 128 then M0 (ix3 b n ⟨f.val, h⟩) else if h : f.val - 128 < 128 then M1 (ix3 b n ⟨f.val - 128, h⟩) else if h : f.val - 128 - 128 < 128 then M2 (ix3 b n ⟨f.val - 128 - 128, h⟩) else M3 (ix3 b n ⟨f.val - 128 - 128 - 128, by omega⟩)) - U (ix3 b n f) := by
  pointwise [diffR]

theorem mixR_at (wm : FVec Ideal S4x128x128 .f32) (d : FVec Ideal S2x8192x512 .f32) (b : Fin 2) (n : Fin 8192) (f : Fin 512) : mixR wm d (ix3 b n f)
    = ∑ x : Fin 128, wm (ix3 ⟨f.val / 128, by omega⟩ x ⟨f.val % 128, by omega⟩) * d (ix3 b n ⟨128 * (f.val / 128) + x.val, by omega⟩) := by
  pointwise [mixR]
  refine Finset.sum_congr rfl fun x _ => congrArg (fun z : Fin 512 => wm (ix3 ⟨f.val / 128, by omega⟩ x ⟨f.val % 128, by omega⟩) * d (ix3 b n z)) (Fin.ext ?_)
  show f.val / 128 * 128 + x.val = 128 * (f.val / 128) + x.val
  omega

theorem outR_at (x : FVec Ideal S2x8192x1024 .f32) (w : FVec Ideal S1024x7168 .f32) (MX : FVec Ideal S2x8192x512 .f32) (P : FVec Ideal S512 .f32) (B : FVec Ideal S512x1024 .f32) (b : Fin 2) (n : Fin 8192) (j : Fin 1024) :
    outR (projR x w) MX P B (ix3 b n j) = Ideal.logistic (prj x w 5120 b n j.val) * branch (fun f => MX (ix3 b n f) * P (ix1 f)) (fun f => prj x w 512 b n f.val) (fun f => B (ix2 f j)) := by
  have e1 : prj x w 5120 b n j.val = ∑ f : Fin 1024, x (ix3 b n f) * w (ix2 f ⟨5120 + j.val, by omega⟩) := by
    unfold prj
    exact Finset.sum_congr rfl fun f _ => congrArg (fun z : Fin 7168 => x (ix3 b n f) * w (ix2 f z)) (Fin.ext (Nat.mod_eq_of_lt (by omega)))
  have e2 : (fun f : Fin 512 => prj x w 512 b n f.val) = fun y => ∑ f : Fin 1024, x (ix3 b n f) * w (ix2 f ⟨512 + y.val, by omega⟩) := by
    unfold prj
    exact funext fun y => Finset.sum_congr rfl fun f _ => congrArg (fun z : Fin 7168 => x (ix3 b n f) * w (ix2 f z)) (Fin.ext (Nat.mod_eq_of_lt (by omega)))
  rw [e1, e2]
  unfold branch
  pointwise [outR, projR]
  rfl

theorem sumsR_at (x : FVec Ideal S2x8192x1024 .f32) (w : FVec Ideal S1024x7168 .f32) (b : Fin 2) (k : Fin 8208) (j : Fin 512) : sumsR (inR (projR x w)) (ix3 b k j) = pre (hist x w b) j k.val := by
  unfold pre
  have hk := k.isLt
  pointwise [sumsR]
  by_cases h : k.val < 1
  · rw [dif_pos h, show k.val = 0 by omega, Finset.range_zero, Finset.sum_empty]
  · rw [dif_neg h]
    refine (cumAdd (A := 2) (R := 8207) (M := 8206) (C := 512) (by decide) (padR (inR (projR x w))) (fun i => hist x w b (i + 17) j) b j (fun i => ?_) _ h_S_ Ideal.ofBits_zero_f32 _ ⟨k.val - 1, by omega⟩).trans ?_
    · have hi := i.isLt
      unfold hist
      by_cases h2 : i.val < 15
      · rw [if_pos (by omega)]
        pointwise [padR]
        rw [dif_pos h2]
      · rw [if_neg (by omega)]
        pointwise [padR]
        rw [dif_neg h2]
        refine (inR_at x w b ⟨i.val - 15, by omega⟩ j).trans (congrArg (fun z => prj x w 0 b z j.val) (Fin.ext ?_))
        show i.val - 15 = (i.val + 17 - 32) % 8192
        omega
    · show ∑ i ∈ Finset.range (k.val - 1 + 1), _ = _
      rw [show k.val - 1 + 1 = k.val by omega]

theorem diff0_at (x : FVec Ideal S2x8192x1024 .f32) (w : FVec Ideal S1024x7168 .f32) (b : Fin 2) (hH : ∀ p j, hist x w b p j = ((hist x w b p j).toReal : EReal)) (n : Fin 8192) (l : Fin 128) :
    mean0R (sumsR (inR (projR x w))) (ix3 b n l) = Ideal.div (a2 (hist x w b) (n.val + 32) ⟨0 + l.val, by omega⟩) (cnt (BitVec.ofNat 32 n.val) 2#32) := by
  rw [mean0R_at, sumsR_at, sumsR_at]
  refine congrArg (fun z : EReal => Ideal.div z (cnt (BitVec.ofNat 32 n.val) 2#32)) ?_
  refine (diff (hist x w b) hH _ _ _).trans ?_
  refine Eq.trans ?_ ((congrArg (fun z => a2 (hist x w b) z ⟨0 + l.val, by omega⟩) (show n.val + 32 = 14 + n.val + 18 by omega)).trans (two (hist x w b) hH ⟨0 + l.val, by omega⟩ (14 + n.val))).symm
  show ((preR _ _ (16 + n.val) - preR _ _ (14 + n.val) : ℝ) : EReal) = _
  rw [show 14 + n.val + 2 = 16 + n.val by omega]

theorem diff1_at (x : FVec Ideal S2x8192x1024 .f32) (w : FVec Ideal S1024x7168 .f32) (b : Fin 2) (hH : ∀ p j, hist x w b p j = ((hist x w b p j).toReal : EReal)) (n : Fin 8192) (l : Fin 128) :
    mean1R (sumsR (inR (projR x w))) (ix3 b n l) = Ideal.div (a4 (hist x w b) (n.val + 32) ⟨128 + l.val, by omega⟩) (cnt (BitVec.ofNat 32 n.val) 4#32) := by
  rw [mean1R_at, sumsR_at, sumsR_at]
  refine congrArg (fun z : EReal => Ideal.div z (cnt (BitVec.ofNat 32 n.val) 4#32)) ?_
  refine (diff (hist x w b) hH _ _ _).trans ?_
  refine Eq.trans ?_ ((congrArg (fun z => a4 (hist x w b) z ⟨128 + l.val, by omega⟩) (show n.val + 32 = 12 + n.val + 20 by omega)).trans (four (hist x w b) hH ⟨128 + l.val, by omega⟩ (12 + n.val))).symm
  show ((preR _ _ (16 + n.val) - preR _ _ (12 + n.val) : ℝ) : EReal) = _
  rw [show 12 + n.val + 4 = 16 + n.val by omega]

theorem diff2_at (x : FVec Ideal S2x8192x1024 .f32) (w : FVec Ideal S1024x7168 .f32) (b : Fin 2) (hH : ∀ p j, hist x w b p j = ((hist x w b p j).toReal : EReal)) (n : Fin 8192) (l : Fin 128) :
    mean2R (sumsR (inR (projR x w))) (ix3 b n l) = Ideal.div (a8 (hist x w b) (n.val + 32) ⟨256 + l.val, by omega⟩) (cnt (BitVec.ofNat 32 n.val) 8#32) := by
  rw [mean2R_at, sumsR_at, sumsR_at]
  refine congrArg (fun z : EReal => Ideal.div z (cnt (BitVec.ofNat 32 n.val) 8#32)) ?_
  refine (diff (hist x w b) hH _ _ _).trans ?_
  refine Eq.trans ?_ ((congrArg (fun z => a8 (hist x w b) z ⟨256 + l.val, by omega⟩) (show n.val + 32 = 8 + n.val + 24 by omega)).trans (eight (hist x w b) hH ⟨256 + l.val, by omega⟩ (8 + n.val))).symm
  show ((preR _ _ (16 + n.val) - preR _ _ (8 + n.val) : ℝ) : EReal) = _
  rw [show 8 + n.val + 8 = 16 + n.val by omega]

theorem diff3_at (x : FVec Ideal S2x8192x1024 .f32) (w : FVec Ideal S1024x7168 .f32) (b : Fin 2) (hH : ∀ p j, hist x w b p j = ((hist x w b p j).toReal : EReal)) (n : Fin 8192) (l : Fin 128) :
    mean3R (sumsR (inR (projR x w))) (ix3 b n l) = Ideal.div (a16 (hist x w b) (n.val + 32) ⟨384 + l.val, by omega⟩) (cnt (BitVec.ofNat 32 n.val) 16#32) := by
  rw [mean3R_at, sumsR_at, sumsR_at]
  refine congrArg (fun z : EReal => Ideal.div z (cnt (BitVec.ofNat 32 n.val) 16#32)) ?_
  refine (diff (hist x w b) hH _ _ _).trans ?_
  refine Eq.trans ?_ ((congrArg (fun z => a16 (hist x w b) z ⟨384 + l.val, by omega⟩) (show n.val + 32 = 0 + n.val + 32 by omega)).trans (sixteen (hist x w b) hH ⟨384 + l.val, by omega⟩ (0 + n.val))).symm
  show ((preR _ _ (16 + n.val) - preR _ _ (0 + n.val) : ℝ) : EReal) = _
  rw [show 0 + n.val + 16 = 16 + n.val by omega]

/-- The reference's pooled row. -/
theorem pool_at (x : FVec Ideal S2x8192x1024 .f32) (w : FVec Ideal S1024x7168 .f32) (wm : FVec Ideal S4x128x128 .f32) (P : FVec Ideal S512 .f32) (b : Fin 2) (hH : ∀ p j, hist x w b p j = ((hist x w b p j).toReal : EReal)) (n : Fin 8192) (f : Fin 512) :
    mixR wm (diffR (mean0R (sumsR (inR (projR x w)))) (mean1R (sumsR (inR (projR x w)))) (mean2R (sumsR (inR (projR x w)))) (mean3R (sumsR (inR (projR x w)))) (inR (projR x w))) (ix3 b n f) * P (ix1 f) = poolV (BitVec.ofNat 32 n.val) (hist x w b) (n.val + 32) (fun f => prj x w 0 b n f.val) wm (fun f => P (ix1 f)) f := by
  have hf := f.isLt
  rw [mixR_at]
  unfold poolV
  by_cases c0 : f.val < 128
  · rw [dif_pos c0]
    unfold mix
    refine congrArg (fun z : EReal => z * P (ix1 f)) (Finset.sum_congr rfl fun y _ => ?_)
    have hy := y.isLt
    rw [mul_comm, diffR_at, dif_pos (show 128 * (f.val / 128) + y.val < 128 by omega), inR_at, diff0_at x w b hH]
    have i1 : (⟨0 + (128 * (f.val / 128) + y.val), by omega⟩ : Fin 512) = ⟨y.val, by omega⟩ := Fin.ext (by show 0 + (128 * (f.val / 128) + y.val) = y.val; omega)
    have i2 : 128 * (f.val / 128) + y.val = y.val := by omega
    have i3 : (⟨f.val / 128, by omega⟩ : Fin 4) = 0 := Fin.ext (by show f.val / 128 = 0; omega)
    have i4 : (⟨f.val % 128, by omega⟩ : Fin 128) = ⟨f.val, c0⟩ := Fin.ext (by show f.val % 128 = f.val; omega)
    dsimp only
    rw [i1, i3, i4, i2]
  · rw [dif_neg c0]
    by_cases c1 : f.val - 128 < 128
    · rw [dif_pos c1]
      unfold mix
      refine congrArg (fun z : EReal => z * P (ix1 f)) (Finset.sum_congr rfl fun y _ => ?_)
      have hy := y.isLt
      rw [mul_comm, diffR_at, dif_neg (show ¬ 128 * (f.val / 128) + y.val < 128 by omega), dif_pos (show 128 * (f.val / 128) + y.val - 128 < 128 by omega), inR_at, diff1_at x w b hH]
      have i1 : (⟨128 + (128 * (f.val / 128) + y.val - 128), by omega⟩ : Fin 512) = ⟨128 + y.val, by omega⟩ := Fin.ext (by show 128 + (128 * (f.val / 128) + y.val - 128) = 128 + y.val; omega)
      have i2 : 128 * (f.val / 128) + y.val = 128 + y.val := by omega
      have i3 : (⟨f.val / 128, by omega⟩ : Fin 4) = 1 := Fin.ext (by show f.val / 128 = 1; omega)
      have i4 : (⟨f.val % 128, by omega⟩ : Fin 128) = ⟨f.val - 128, c1⟩ := Fin.ext (by show f.val % 128 = f.val - 128; omega)
      dsimp only
      rw [i1, i3, i4, i2]
    · rw [dif_neg c1]
      by_cases c2 : f.val - 128 - 128 < 128
      · rw [dif_pos c2]
        unfold mix
        refine congrArg (fun z : EReal => z * P (ix1 f)) (Finset.sum_congr rfl fun y _ => ?_)
        have hy := y.isLt
        rw [mul_comm, diffR_at, dif_neg (show ¬ 128 * (f.val / 128) + y.val < 128 by omega), dif_neg (show ¬ 128 * (f.val / 128) + y.val - 128 < 128 by omega), dif_pos (show 128 * (f.val / 128) + y.val - 128 - 128 < 128 by omega), inR_at, diff2_at x w b hH]
        have i1 : (⟨256 + (128 * (f.val / 128) + y.val - 128 - 128), by omega⟩ : Fin 512) = ⟨256 + y.val, by omega⟩ := Fin.ext (by show 256 + (128 * (f.val / 128) + y.val - 128 - 128) = 256 + y.val; omega)
        have i2 : 128 * (f.val / 128) + y.val = 256 + y.val := by omega
        have i3 : (⟨f.val / 128, by omega⟩ : Fin 4) = 2 := Fin.ext (by show f.val / 128 = 2; omega)
        have i4 : (⟨f.val % 128, by omega⟩ : Fin 128) = ⟨f.val - 128 - 128, c2⟩ := Fin.ext (by show f.val % 128 = f.val - 128 - 128; omega)
        dsimp only
        rw [i1, i3, i4, i2]
      · rw [dif_neg c2]
        unfold mix
        refine congrArg (fun z : EReal => z * P (ix1 f)) (Finset.sum_congr rfl fun y _ => ?_)
        have hy := y.isLt
        rw [mul_comm, diffR_at, dif_neg (show ¬ 128 * (f.val / 128) + y.val < 128 by omega), dif_neg (show ¬ 128 * (f.val / 128) + y.val - 128 < 128 by omega), dif_neg (show ¬ 128 * (f.val / 128) + y.val - 128 - 128 < 128 by omega), inR_at, diff3_at x w b hH]
        have i1 : (⟨384 + (128 * (f.val / 128) + y.val - 128 - 128 - 128), by omega⟩ : Fin 512) = ⟨384 + y.val, by omega⟩ := Fin.ext (by show 384 + (128 * (f.val / 128) + y.val - 128 - 128 - 128) = 384 + y.val; omega)
        have i2 : 128 * (f.val / 128) + y.val = 384 + y.val := by omega
        have i3 : (⟨f.val / 128, by omega⟩ : Fin 4) = 3 := Fin.ext (by show f.val / 128 = 3; omega)
        have i4 : (⟨f.val % 128, by omega⟩ : Fin 128) = ⟨f.val - 128 - 128 - 128, by omega⟩ := Fin.ext (by show f.val % 128 = f.val - 128 - 128 - 128; omega)
        dsimp only
        rw [i1, i3, i4, i2]

theorem real_sum {ι : Type} [Fintype ι] (g : ι → EReal) (h : ∀ i, ∃ r : ℝ, g i = (r : EReal)) : ∃ r : ℝ, ∑ i, g i = (r : EReal) := by
  choose r hr using h
  refine ⟨∑ i, r i, ?_⟩
  rw [Finset.sum_congr rfl fun i _ => hr i]
  exact (map_sum (⟨⟨Real.toEReal, EReal.coe_zero⟩, EReal.coe_add⟩ : ℝ →+ EReal) r Finset.univ).symm

/-- Real arguments make the pool's input real. -/
theorem hist_real (x : FVec Ideal S2x8192x1024 .f32) (w : FVec Ideal S1024x7168 .f32) (hx : ∀ y, x y = ((x y).toReal : EReal)) (hw : ∀ (f : Fin 1024) (j : Fin 512), w (ix2 f ⟨j.val, by omega⟩) = ((w (ix2 f ⟨j.val, by omega⟩)).toReal : EReal))
    (b : Fin 2) (p : ℕ) (j : Fin 512) : hist x w b p j = ((hist x w b p j).toReal : EReal) := by
  suffices h : ∃ r : ℝ, hist x w b p j = (r : EReal) by
    obtain ⟨r, hr⟩ := h
    rw [hr, EReal.toReal_coe]
  unfold hist
  split
  · exact ⟨0, EReal.coe_zero.symm⟩
  · unfold prj
    refine real_sum _ fun f => ?_
    have e : (⟨(0 + j.val) % 7168, Nat.mod_lt _ (by decide)⟩ : Fin 7168) = ⟨j.val, by omega⟩ := Fin.ext (by show (0 + j.val) % 7168 = j.val; omega)
    rw [e, hx, hw f j, ← EReal.coe_mul]
    exact ⟨_, rfl⟩

/-- The reference's result as an array. -/
theorem out_eq (x : FVec Ideal S2x8192x1024 .f32) (w : FVec Ideal S1024x7168 .f32) (wm : FVec Ideal S4x128x128 .f32) (P : FVec Ideal S512 .f32) (B : FVec Ideal S512x1024 .f32)
    (hx : ∀ y, x y = ((x y).toReal : EReal)) (hw : ∀ (f : Fin 1024) (j : Fin 512), w (ix2 f ⟨j.val, by omega⟩) = ((w (ix2 f ⟨j.val, by omega⟩)).toReal : EReal)) :
    outR (projR x w) (mixR wm (diffR (mean0R (sumsR (inR (projR x w)))) (mean1R (sumsR (inR (projR x w)))) (mean2R (sumsR (inR (projR x w)))) (mean3R (sumsR (inR (projR x w)))) (inR (projR x w)))) P B = arrP x w wm P B := by
  funext y
  obtain ⟨b, n, j, rfl⟩ : ∃ (b : Fin 2) (n : Fin 8192) (j : Fin 1024), y = ix3 b n j := ⟨y 0, y 1, y 2, by funext a; match a with | ⟨0, _⟩ => rfl | ⟨1, _⟩ => rfl | ⟨2, _⟩ => rfl⟩
  rw [outR_at]
  show _ = mpAt x w wm P B b n j
  unfold mpAt
  exact congrArg (fun z => Ideal.logistic (prj x w 5120 b n j.val) * branch z (fun f => prj x w 512 b n f.val) (fun f => B (ix2 f j)))
    (funext fun f => pool_at x w wm P b (hist_real x w hx hw b) n f)

end Cert.Reference4Ideal.Pool
-- ==== Proof.Finite4.lean ====
/-
  The pool's precondition, read: every element of x, and of the pool's columns of the projection's weight, is a real number.
-/
module

public import proofs.«01_k».proof.Pre_finite4
public import proofs.«01_k».proof.Proof.Finite

@[expose] public section

set_option maxRecDepth 16384

noncomputable section

namespace Cert.Pre_finite4

open Idealize.ShloMosaic Cert.KernelIdeal.Att

/-- The side conditions of the precondition's operations. -/
theorem facts : Facts where
  bcast_S_S2x8192x1024 := by decide
  reducesTo_S2x8192x1024_S_d0_1_2 := by decide
  h_S_ := by decide
  slices_S1024x7168_S1024x512_0_0 := by decide
  bcast_S_S1024x512 := by decide
  reducesTo_S1024x512_S_d0_1 := by decide

/-- What the precondition says. -/
theorem decode [Facts] (x0 : FVec Ideal S2x8192x1024 .f32) (x1 : FVec Ideal S1024x7168 .f32) (x2 : FVec Ideal S4x128x128 .f32)
    (x3 : FVec Ideal S512 .f32) (x4 : FVec Ideal S512x1024 .f32) (h : fn (F := Ideal) x0 x1 x2 x3 x4 = fun _ => 1#1) :
    AllReal x0 ∧ ∀ (f : Fin 1024) (j : Fin 512), x1 (ix2 f ⟨j.val, by omega⟩) = ((x1 (ix2 f ⟨j.val, by omega⟩)).toReal : EReal) := by
  have e := congrFun h ix0
  obtain ⟨e0, e1⟩ := Cert.Pre_finite.both _ _ e
  refine ⟨Cert.Pre_finite.all_real x0 _ _ _ e0, fun f j => ?_⟩
  have r := Cert.Pre_finite.all_real _ _ _ _ e1
  have hs : extractStridedSlice S1024x512 ![0, 0] x1 Facts.slices_S1024x7168_S1024x512_0_0 (ix2 f j) = x1 (ix2 f ⟨j.val, by omega⟩) := by
    pointwise
  have q := r (ix2 f j)
  dsimp only at q
  rw [hs] at q
  exact q

end Cert.Pre_finite4

end
-- ==== Proof.lean ====
/-
  The claims about the attention, the last call, the projection and its pooled branch: both prints of each kernel and the reference run
  and leave their arguments and counters as they were; the exact attention differs from the printed one by the named
  logarithm's constant only; and at the extended reals (the attention and the pooled branch from finite arguments) each kernel's results are
  its reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Blocks
public import proofs.«01_k».proof.Proof.Result
public import proofs.«01_k».proof.Proof.Plain
public import proofs.«01_k».proof.Proof.Finite
public import proofs.«01_k».proof.Proof.FinishPlain
public import proofs.«01_k».proof.Proof.ProjPlain
public import proofs.«01_k».proof.Proof.Tail
public import proofs.«01_k».proof.Proof.PoolArr
public import proofs.«01_k».proof.Proof.PoolPlain
public import proofs.«01_k».proof.Proof.Finite4
public import Idealize.ShloMosaic.Lib.Quiescent

@[expose] public section

noncomputable section

namespace Cert.Proof

open Idealize.ShloMosaic Idealize.SL.Sem

/-- The reference runs, its arguments end unchanged, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals the kernel's result is the reference's. -/
theorem same : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  refine ⟨fun c => (Cert.KernelIdeal.Att.dats m 0 c).arrAt 6 Cert.KernelIdeal.cfg0.N, Cert.KernelIdeal.Att.run_blocks m g,
    (θ_run Cert.ReferenceIdeal.defs _ _).mono (fun r h c => ⟨(h c).1.trans ?_, (h c).2⟩) (Cert.ReferenceIdeal.Value.run (F := Ideal) m' g')⟩
  obtain ⟨h0, h1, h2, h3⟩ := @Cert.Pre_finite.decode Cert.Pre_finite.facts _ _ _ _ _ _ (hpre c)
  obtain ⟨e0, e1, e2, e3, e4, e5⟩ := hag c
  rw [Cert.ReferenceIdeal.Plain.res_eq, e0, e1, e2, e3, e4, e5]
  exact (Cert.ReferenceIdeal.Plain.plain_result _ _ _ _ _ _ h0 h1 h2 h3).trans (Cert.KernelIdeal.Att.arr_result m c h0 h1 h2 h3).symm

/-- The last call's reference runs, its arguments end unchanged, and it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- At the extended reals the last call's result is its reference's. -/
theorem same2 : Cert.algebraic_Kernel2Ideal_Reference2Ideal (hKernel2Ideal := Cert.Kernel2Ideal.Gen.facts)
    (hReference2Ideal := Cert.Reference2Ideal.Gen.facts) := by
  intro m g m' g' _ hag
  refine ⟨fun c => (Cert.Kernel2Ideal.Gen.dats m 0 c).arrAt 8 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run (F := Ideal) m' g')⟩
  obtain ⟨e0, e1, e2, e3, e4, e5, e6, e7⟩ := hag c
  rw [Cert.Reference2Ideal.Plain.res_eq, e0, e1, e2, e3, e4, e5, e6, e7]
  exact (Cert.Reference2Ideal.Plain.plain_result _ _ _ _ _ _ _ _).trans (Cert.Kernel2Ideal.Fin2.arr_result m c).symm

/-- The projection's reference runs, its arguments end unchanged, and it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- At the extended reals the projection's eight results are its reference's. -/
theorem same3 : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Pro.arr3 (Cert.Pro.keysAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr3 (Cert.Pro.valuesAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr4 (Cert.Pro.queriesAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr4 (Cert.Pro.keysAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr5 (Cert.Pro.valuesAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr3 (Cert.Pro.szaAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arr3 (Cert.Pro.sgaAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => Cert.Pro.arrT (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ?_) (Cert.Kernel3Ideal.Value.run_blocks m g),
    (θ_run Cert.Reference3Ideal.defs _ _).mono (fun r h c => ?_) (Cert.Reference3Ideal.Value.run (F := Ideal) m' g')⟩
  · obtain ⟨h0, h1, h2, h3, h4, h5, h6, _, h8, hk⟩ := h c
    exact ⟨h0.trans (Cert.Kernel3Ideal.Pro.arr_8 m c), h1.trans (Cert.Kernel3Ideal.Pro.arr_9 m c), h2.trans (Cert.Kernel3Ideal.Pro.arr_10 m c), h3.trans (Cert.Kernel3Ideal.Pro.arr_11 m c), h4.trans (Cert.Kernel3Ideal.Pro.arr_12 m c), h5.trans (Cert.Kernel3Ideal.Pro.arr_13 m c), h6.trans (Cert.Kernel3Ideal.Pro.arr_14 m c), h8.trans (Cert.Kernel3Ideal.Pro.arr_16 m c), hk⟩
  obtain ⟨e0, e1, e2, e3, e4⟩ := hag c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · rw [Cert.Reference3Ideal.Plain.res0, e0, e1]
    exact Cert.Reference3Ideal.Plain.plain0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [e0, e1]
    exact Cert.Reference3Ideal.Plain.plain1 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [Cert.Reference3Ideal.Plain.res2, e0, e1]
    exact Cert.Reference3Ideal.Plain.plain2 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [Cert.Reference3Ideal.Plain.res3, e0, e1]
    exact Cert.Reference3Ideal.Plain.plain3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [e0, e1]
    exact Cert.Reference3Ideal.Plain.plain4 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [e0, e1]
    exact Cert.Reference3Ideal.Plain.plain5 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [e0, e1]
    exact Cert.Reference3Ideal.Plain.plain6 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
  · rw [e0, e1]
    exact Cert.Reference3Ideal.Plain.plain7 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))

/-- The pooled branch's reference runs, its arguments end unchanged, and it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- At the extended reals the pooled branch is its reference's. -/
theorem same4 : Cert.algebraic_Kernel4Ideal_Reference4Ideal_pre_finite4 (hKernel4Ideal := Cert.Kernel4Ideal.Gen.facts)
    (hReference4Ideal := Cert.Reference4Ideal.Gen.facts) (hPre_finite4 := Cert.Pre_finite4.facts) := by
  intro m g m' g' hpre hag
  refine ⟨fun c => Cert.Pool.arrP (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    (θ_run Cert.Kernel4Ideal.defs _ _).mono (fun r h c => ?_) (Cert.Kernel4Ideal.Value.run_blocks m g),
    (θ_run Cert.Reference4Ideal.defs _ _).mono (fun r h c => ⟨(h c).1.trans ?_, (h c).2⟩) (Cert.Reference4Ideal.Value.run (F := Ideal) m' g')⟩
  · obtain ⟨_, _, _, _, _, _, _, h7, _, hk⟩ := h c
    exact ⟨h7.trans (Cert.Kernel4Ideal.Pool.arr_15 m c), hk⟩
  obtain ⟨hx, hw⟩ := @Cert.Pre_finite4.decode Cert.Pre_finite4.facts _ _ _ _ _ (hpre c)
  obtain ⟨e0, e1, e2, e3, e4⟩ := hag c
  rw [Cert.Reference4Ideal.Pool.res_eq, e0, e1, e2, e3, e4]
  exact Cert.Reference4Ideal.Pool.out_eq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) hx hw

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.facts, Cert.Pre_finite4.facts,
    fun m ρ _ => Cert.Kernel.Gen.frame m ρ, fun m ρ _ => Cert.KernelIdeal.Att.frame m ρ, fun m ρ _ => Cert.KernelIdeal.Att.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, fun m ρ _ => Cert.Kernel4Ideal.Gen.frame m ρ,
    frame_reference4, fun m ρ _ => frame_reference4 m ρ trivial,
    IdealRules.named_const.statement Cert.KernelIdeal.κ "log2e" .f32 0x3FB8AA3B#32 (((Real.log 2)⁻¹ : ℝ) : EReal) rfl, same, trivial, same2, trivial, same3, trivial, same4⟩

end Cert.Proof

end
